-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_forget_gate_above_minus_infinity [hPre_forget_gate_above_minus_infinity : Cert.Pre_forget_gate_above_minus_infinity.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_forget_gate_above_minus_infinity.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_forget_gate_above_minus_infinity [hPre_forget_gate_above_minus_infinity : Cert.Pre_forget_gate_above_minus_infinity.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_forget_gate_above_minus_infinity.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_forget_gate_above_minus_infinity [hKernel3Ideal : Cert.Kernel3Ideal.Facts] [hPre_forget_gate_above_minus_infinity : Cert.Pre_forget_gate_above_minus_infinity.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_forget_gate_above_minus_infinity m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_forget_gate_above_minus_infinity [hReference3Ideal : Cert.Reference3Ideal.Facts] [hPre_forget_gate_above_minus_infinity : Cert.Pre_forget_gate_above_minus_infinity.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_forget_gate_above_minus_infinity m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "minus_log2_e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v106) = v0 c
          ∧ r.2.mem ((c.tc : Thread Cert.Reference2Ideal.nD Cert.Reference2Ideal.τ).loc Cert.Reference2Ideal.main_v107) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  IdealRules.named_const.Statement Cert.Kernel3Ideal.κ "minus_log2_e" .f32 0xBFB8AA3B#32 ((-((Real.log 2)⁻¹) : ℝ) : EReal)
  ∧ IdealRules.named_const.Statement Cert.Kernel3Ideal.κ "log2_e" .f32 0x3FB8AA3B#32 (((Real.log 2)⁻¹ : ℝ) : EReal)
  ∧ IdealRules.named_const.Statement Cert.Kernel3Ideal.κ "ln_2" .f32 0x3F317218#32 ((Real.log 2 : ℝ) : EReal)

def algebraic_Kernel3Ideal_Reference3Ideal_pre_forget_gate_above_minus_infinity [hKernel3Ideal : Cert.Kernel3Ideal.Facts] [hReference3Ideal : Cert.Reference3Ideal.Facts] [hPre_forget_gate_above_minus_infinity : Cert.Pre_forget_gate_above_minus_infinity.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_forget_gate_above_minus_infinity m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v16)) (v2 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_v20) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v102) = v1 c
          ∧ r.2.mem ((c.tc : Thread Cert.Reference3Ideal.nD Cert.Reference3Ideal.τ).loc Cert.Reference3Ideal.main_v103) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_forget_gate_above_minus_infinity : Cert.Pre_forget_gate_above_minus_infinity.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_forget_gate_above_minus_infinity (hKernel3Ideal := hKernel3Ideal) (hPre_forget_gate_above_minus_infinity := hPre_forget_gate_above_minus_infinity)
    ∧ quiescent_Reference3Ideal (hReference3Ideal := hReference3Ideal)
    ∧ quiescent_Reference3Ideal_pre_forget_gate_above_minus_infinity (hReference3Ideal := hReference3Ideal) (hPre_forget_gate_above_minus_infinity := hPre_forget_gate_above_minus_infinity)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_forget_gate_above_minus_infinity (hKernel3Ideal := hKernel3Ideal) (hReference3Ideal := hReference3Ideal) (hPre_forget_gate_above_minus_infinity := hPre_forget_gate_above_minus_infinity)
-- ==== Pre_forget_gate_above_minus_infinity.lean ====
abbrev S8192x12544 : Shape := ⟨2, ![8192, 12544]⟩
abbrev S128x12544 : Shape := ⟨2, ![128, 12544]⟩
abbrev S1x128x3x2048 : Shape := ⟨4, ![1, 128, 3, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x4x2048 : Shape := ⟨3, ![1, 4, 2048]⟩
abbrev S1x2048 : Shape := ⟨2, ![1, 2048]⟩
abbrev S1x4 : Shape := ⟨2, ![1, 4]⟩
abbrev S1x1024 : Shape := ⟨2, ![1, 1024]⟩
abbrev S128x4 : Shape := ⟨2, ![128, 4]⟩
abbrev S_ : Shape := ⟨0, ![]⟩

class Facts : Prop where
  slices_S128x12544_S128x4_0_12292 : S128x12544.Slices ![0, 12292] S128x4
  bcast_S1x4_S128x4_0_1 : S1x4.BroadcastsInDim S128x4 (![0, 1] : Fin 2 → Fin S128x4.rank)
  bcast_S_S128x4 : S_.BroadcastsInDim S128x4 (![] : Fin 0 → Fin S128x4.rank)

variable [Facts]

def fn {F : FTy → Type} [FloatOps F] (main_arg0 : FVec F S8192x12544 .f32) (main_arg1 : FVec F S128x12544 .f32) (main_arg2 : FVec F S1x128x3x2048 .f32) (main_arg3 : FVec F S1x128x4x256x256 .f32) (main_arg4 : FVec F S1x128x4x256 .f32) (main_arg5 : FVec F S1x128x4 .f32) (main_arg6 : FVec F S1x4x2048 .f32) (main_arg7 : FVec F S1x2048 .f32) (main_arg8 : FVec F S1x4 .f32) (main_arg9 : FVec F S1x4 .f32) (main_arg10 : FVec F S1x1024 .f32) : IVec S128x4 1 :=
  let main_v0 : FVec F S128x4 .f32 := (extractStridedSlice S128x4 ![0, 12292] · slices_S128x12544_S128x4_0_12292) main_arg1
  let main_v1 : FVec F S128x4 .f32 := broadcastInDim S128x4 ![0, 1] bcast_S1x4_S128x4_0_1 main_arg9
  let main_v2 : FVec F S128x4 .f32 := addf main_v0 main_v1
  let main_cst : FVec F S_ .f32 := constant S_ .f32 0xFF800000#32
  let main_v3 : FVec F S128x4 .f32 := broadcastInDim S128x4 ![] bcast_S_S128x4 main_cst
  let main_v4 : IVec S128x4 1 := cmpf .ogt main_v2 main_v3
  main_v4
-- ==== Kernel.lean ====
abbrev S4x2048x2048 : Shape := ⟨3, ![4, 2048, 2048]⟩
abbrev S128x1x2048 : Shape := ⟨3, ![128, 1, 2048]⟩
abbrev S1x128x3x2048 : Shape := ⟨4, ![1, 128, 3, 2048]⟩
abbrev S1x2048x12312 : Shape := ⟨3, ![1, 2048, 12312]⟩
abbrev S128x2048 : Shape := ⟨2, ![128, 2048]⟩
abbrev S2048x12312 : Shape := ⟨2, ![2048, 12312]⟩
abbrev S12312x2048 : Shape := ⟨2, ![12312, 2048]⟩
abbrev S12544x2048 : Shape := ⟨2, ![12544, 2048]⟩
abbrev S128x12544 : Shape := ⟨2, ![128, 12544]⟩
abbrev S1024x2048 : Shape := ⟨2, ![1024, 2048]⟩
abbrev S8x2048 : Shape := ⟨2, ![8, 2048]⟩
abbrev S128x1024 : Shape := ⟨2, ![128, 1024]⟩
abbrev S1000x2048 : Shape := ⟨2, ![1000, 2048]⟩
abbrev S8192x2048 : Shape := ⟨2, ![8192, 2048]⟩
abbrev S8192x12544 : Shape := ⟨2, ![8192, 12544]⟩
abbrev S1792x2048 : Shape := ⟨2, ![1792, 2048]⟩
abbrev S1024x1792 : Shape := ⟨2, ![1024, 1792]⟩
abbrev S4x2048x12544 : Shape := ⟨3, ![4, 2048, 12544]⟩
abbrev S4x3x2048 : Shape := ⟨3, ![4, 3, 2048]⟩
abbrev S128x3x2048 : Shape := ⟨3, ![128, 3, 2048]⟩
abbrev S128x2x2048 : Shape := ⟨3, ![128, 2, 2048]⟩
abbrev S1x4x3x2048 : Shape := ⟨4, ![1, 4, 3, 2048]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S1x128x3x2048, .f32⟩
  | .hbm, ⟨3, _⟩ => ⟨S1x2048x12312, .f32⟩
  | .hbm, ⟨4, _⟩ => ⟨S128x2048, .f32⟩
  | .hbm, ⟨5, _⟩ => ⟨S2048x12312, .f32⟩
  | .hbm, ⟨6, _⟩ => ⟨S12312x2048, .f32⟩
  | .hbm, ⟨7, _⟩ => ⟨S12544x2048, .bf16⟩
  | .hbm, ⟨8, _⟩ => ⟨S128x12544, .f32⟩
  | .hbm, ⟨9, _⟩ => ⟨S8192x2048, .f32⟩
  | .hbm, ⟨10, _⟩ => ⟨S8192x12544, .f32⟩
  | .hbm, ⟨11, _⟩ => ⟨S4x2048x12544, .f32⟩
  | .hbm, ⟨12, _⟩ => ⟨S4x3x2048, .f32⟩
  | .hbm, ⟨13, _⟩ => ⟨S128x3x2048, .f32⟩
  | .hbm, ⟨14, _⟩ => ⟨S128x2x2048, .f32⟩
  | .hbm, ⟨15, _⟩ => ⟨S128x2048, .f32⟩
  | .hbm, ⟨16, _⟩ => ⟨S128x1x2048, .f32⟩
  | .hbm, ⟨17, _⟩ => ⟨S128x3x2048, .f32⟩
  | .hbm, ⟨18, _⟩ => ⟨S1x4x3x2048, .f32⟩
  | .hbm, ⟨19, _⟩ => ⟨S1x128x3x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S128x2048, .f32⟩
  | .local _ .vmem, ⟨6, _⟩ => ⟨S1024x2048, .bf16⟩
  | .local _ .vmem, ⟨7, _⟩ => ⟨S1024x2048, .bf16⟩
  | .local _ .vmem, ⟨8, _⟩ => ⟨S128x1024, .f32⟩
  | .local _ .vmem, ⟨9, _⟩ => ⟨S128x1024, .f32⟩
  | .local _ .vmem, ⟨10, _⟩ => ⟨S1024x2048, .f32⟩
  | .local _ .vmem, ⟨11, _⟩ => ⟨S1024x2048, .f32⟩
  | .local _ .vmem, ⟨12, _⟩ => ⟨S1792x2048, .bf16⟩
  | .local _ .vmem, ⟨13, _⟩ => ⟨S1792x2048, .bf16⟩
  | .local _ .vmem, ⟨14, _⟩ => ⟨S1024x1792, .f32⟩
  | .local _ .vmem, ⟨15, _⟩ => ⟨S1024x1792, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c12_i32_0 : BitVec 32 := 12#32
  let v3 : BitVec 1 := Scalar.cmpi .eq arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let c0_i32_0 : BitVec 32 := 0#32
  let c0_i32_1 : BitVec 32 := 0#32
  let v3 : BitVec 32 := Scalar.select v2 c0_i32_0 c0_i32_1
  let c2_i32_2 : BitVec 32 := 2#32
  let v4 : BitVec 1 := Scalar.cmpi .sge arg0 c2_i32_2
  let c3_i32 : BitVec 32 := 3#32
  let v5 : BitVec 1 := Scalar.cmpi .slt arg0 c3_i32
  let v6 : BitVec 1 := Scalar.andi v4 v5
  let c385_i32 : BitVec 32 := 385#32
  let v7 : BitVec 32 := Scalar.select v6 c385_i32 v3
  let c3_i32_3 : BitVec 32 := 3#32
  let v8 : BitVec 1 := Scalar.cmpi .sge arg0 c3_i32_3
  let c4_i32 : BitVec 32 := 4#32
  let v9 : BitVec 1 := Scalar.cmpi .slt arg0 c4_i32
  let v10 : BitVec 1 := Scalar.andi v8 v9
  let c_m128_i32 : BitVec 32 := 4294967168#32
  let v11 : BitVec 32 := Scalar.select v10 c_m128_i32 v7
  let c4_i32_4 : BitVec 32 := 4#32
  let v12 : BitVec 1 := Scalar.cmpi .sge arg0 c4_i32_4
  let c6_i32 : BitVec 32 := 6#32
  let v13 : BitVec 1 := Scalar.cmpi .slt arg0 c6_i32
  let v14 : BitVec 1 := Scalar.andi v12 v13
  let c_m127_i32 : BitVec 32 := 4294967169#32
  let v15 : BitVec 32 := Scalar.select v14 c_m127_i32 v11
  let c6_i32_5 : BitVec 32 := 6#32
  let v16 : BitVec 1 := Scalar.cmpi .sge arg0 c6_i32_5
  let c7_i32 : BitVec 32 := 7#32
  let v17 : BitVec 1 := Scalar.cmpi .slt arg0 c7_i32
  let v18 : BitVec 1 := Scalar.andi v16 v17
  let c1_i32 : BitVec 32 := 1#32
  let v19 : BitVec 32 := Scalar.select v18 c1_i32 v15
  let c7_i32_6 : BitVec 32 := 7#32
  let v20 : BitVec 1 := Scalar.cmpi .sge arg0 c7_i32_6
  let c12_i32 : BitVec 32 := 12#32
  let v21 : BitVec 1 := Scalar.cmpi .slt arg0 c12_i32
  let v22 : BitVec 1 := Scalar.andi v20 v21
  let c3_i32_7 : BitVec 32 := 3#32
  let v23 : BitVec 32 := Scalar.select v22 c3_i32_7 v19
  let c128_i32 : BitVec 32 := 128#32
  let v24 : BitVec 32 := Scalar.muli arg0 c128_i32
  let v25 : BitVec 32 := Scalar.addi v24 v23
  let c1411_i32 : BitVec 32 := 1411#32
  let v26 : BitVec 32 := Scalar.minsi v25 c1411_i32
  let c8_i32 : BitVec 32 := 8#32
  let v27 : BitVec 32 := Scalar.muli v26 c8_i32
  let c0_i32_8 : BitVec 32 := 0#32
  let c0_i32_9 : BitVec 32 := 0#32
  ![v27.toNat, c0_i32_8.toNat]

def cc0_transform_1 (i : grid0.Coords) : Fin 2 → Nat :=
  let arg0 : BitVec 32 := BitVec.ofNat 32 (i 0).val
  let c384_i32 : BitVec 32 := 384#32
  let c0_i32 : BitVec 32 := 0#32
  let c0_i32_0 : BitVec 32 := 0#32
  ![c384_i32.toNat, c0_i32.toNat]

def cc0_transform_2 (i : grid0.Coords) : Fin 2 → Nat :=
  let arg0 : BitVec 32 := BitVec.ofNat 32 (i 0).val
  let c897_i32 : BitVec 32 := 897#32
  let c0_i32 : BitVec 32 := 0#32
  let c0_i32_0 : BitVec 32 := 0#32
  ![c897_i32.toNat, c0_i32.toNat]

def cc0_transform_3 (i : grid0.Coords) : Fin 2 → Nat :=
  let arg0 : BitVec 32 := BitVec.ofNat 32 (i 0).val
  let c898_i32 : BitVec 32 := 898#32
  let c0_i32 : BitVec 32 := 0#32
  let c0_i32_0 : BitVec 32 := 0#32
  ![c898_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 7], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1792x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1792 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4x2048x2048 : Shape := ⟨3, ![4, 2048, 2048]⟩
abbrev S128x1x2048 : Shape := ⟨3, ![128, 1, 2048]⟩
abbrev S1x128x3x2048 : Shape := ⟨4, ![1, 128, 3, 2048]⟩
abbrev S1x2048x12312 : Shape := ⟨3, ![1, 2048, 12312]⟩
abbrev S_ : Shape := ⟨0, ![]⟩
abbrev S4x3x2048 : Shape := ⟨3, ![4, 3, 2048]⟩
abbrev S2048x12312 : Shape := ⟨2, ![2048, 12312]⟩
abbrev S4x2048x12312 : Shape := ⟨3, ![4, 2048, 12312]⟩
abbrev S4x2048x1024 : Shape := ⟨3, ![4, 2048, 1024]⟩
abbrev S4x2048x4 : Shape := ⟨3, ![4, 2048, 4]⟩
abbrev S4x2048x512 : Shape := ⟨3, ![4, 2048, 512]⟩
abbrev S4x2048x16 : Shape := ⟨3, ![4, 2048, 16]⟩
abbrev S8192x232 : Shape := ⟨2, ![8192, 232]⟩
abbrev S8192x2048 : Shape := ⟨2, ![8192, 2048]⟩
abbrev S8192x512 : Shape := ⟨2, ![8192, 512]⟩
abbrev S8192x1024 : Shape := ⟨2, ![8192, 1024]⟩
abbrev S8192x4 : Shape := ⟨2, ![8192, 4]⟩
abbrev S8192x16 : Shape := ⟨2, ![8192, 16]⟩
abbrev S8192x12544 : Shape := ⟨2, ![8192, 12544]⟩
abbrev S4x2051x2048 : Shape := ⟨3, ![4, 2051, 2048]⟩
abbrev S1x4x3x2048 : Shape := ⟨4, ![1, 4, 3, 2048]⟩
abbrev S128x3x2048 : Shape := ⟨3, ![128, 3, 2048]⟩
abbrev S128x1x12312 : Shape := ⟨3, ![128, 1, 12312]⟩
abbrev S128x1x1024 : Shape := ⟨3, ![128, 1, 1024]⟩
abbrev S128x1x4 : Shape := ⟨3, ![128, 1, 4]⟩
abbrev S128x1x512 : Shape := ⟨3, ![128, 1, 512]⟩
abbrev S128x1x16 : Shape := ⟨3, ![128, 1, 16]⟩
abbrev S128x232 : Shape := ⟨2, ![128, 232]⟩
abbrev S128x2048 : Shape := ⟨2, ![128, 2048]⟩
abbrev S128x512 : Shape := ⟨2, ![128, 512]⟩
abbrev S128x1024 : Shape := ⟨2, ![128, 1024]⟩
abbrev S128x4 : Shape := ⟨2, ![128, 4]⟩
abbrev S128x16 : Shape := ⟨2, ![128, 16]⟩
abbrev S128x12544 : Shape := ⟨2, ![128, 12544]⟩
abbrev S128x4x2048 : Shape := ⟨3, ![128, 4, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x1x2048, .f32⟩
  | .hbm, ⟨2, _⟩ => ⟨S1x128x3x2048, .f32⟩
  | .hbm, ⟨3, _⟩ => ⟨S1x2048x12312, .f32⟩
  | .hbm, ⟨4, _⟩ => ⟨S_, .f32⟩
  | .hbm, ⟨5, _⟩ => ⟨S4x3x2048, .f32⟩
  | .hbm, ⟨6, _⟩ => ⟨S2048x12312, .f32⟩
  | .hbm, ⟨7, _⟩ => ⟨S4x2048x12312, .f32⟩
  | .hbm, ⟨8, _⟩ => ⟨S4x2048x2048, .f32⟩
  | .hbm, ⟨9, _⟩ => ⟨S4x2048x1024, .f32⟩
  | .hbm, ⟨10, _⟩ => ⟨S4x2048x4, .f32⟩
  | .hbm, ⟨11, _⟩ => ⟨S4x2048x4, .f32⟩
  | .hbm, ⟨12, _⟩ => ⟨S4x2048x1024, .f32⟩
  | .hbm, ⟨13, _⟩ => ⟨S4x2048x1024, .f32⟩
  | .hbm, ⟨14, _⟩ => ⟨S4x2048x512, .f32⟩
  | .hbm, ⟨15, _⟩ => ⟨S4x2048x512, .f32⟩
  | .hbm, ⟨16, _⟩ => ⟨S4x2048x1024, .f32⟩
  | .hbm, ⟨17, _⟩ => ⟨S4x2048x16, .f32⟩
  | .hbm, ⟨18, _⟩ => ⟨S4x2048x1024, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S8192x232, .f32⟩
  | .hbm, ⟨23, _⟩ => ⟨S8192x2048, .f32⟩
  | .hbm, ⟨24, _⟩ => ⟨S8192x512, .f32⟩
  | .hbm, ⟨25, _⟩ => ⟨S8192x512, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2048, .f32⟩
  | .hbm, ⟨32, _⟩ => ⟨S8192x2048, .f32⟩
  | .hbm, ⟨33, _⟩ => ⟨S8192x4, .f32⟩
  | .hbm, ⟨34, _⟩ => ⟨S8192x4, .f32⟩
  | .hbm, ⟨35, _⟩ => ⟨S8192x16, .f32⟩
  | .hbm, ⟨36, _⟩ => ⟨S8192x12544, .f32⟩
  | .hbm, ⟨37, _⟩ => ⟨S4x2051x2048, .f32⟩
  | .hbm, ⟨38, _⟩ => ⟨S4x3x2048, .f32⟩
  | .hbm, ⟨39, _⟩ => ⟨S1x4x3x2048, .f32⟩
  | .hbm, ⟨40, _⟩ => ⟨S128x3x2048, .f32⟩
  | .hbm, ⟨41, _⟩ => ⟨S2048x12312, .f32⟩
  | .hbm, ⟨42, _⟩ => ⟨S128x1x12312, .f32⟩
  | .hbm, ⟨43, _⟩ => ⟨S128x1x2048, .f32⟩
  | .hbm, ⟨44, _⟩ => ⟨S128x1x1024, .f32⟩
  | .hbm, ⟨45, _⟩ => ⟨S128x1x4, .f32⟩
  | .hbm, ⟨46, _⟩ => ⟨S128x1x4, .f32⟩
  | .hbm, ⟨47, _⟩ => ⟨S128x1x1024, .f32⟩
  | .hbm, ⟨48, _⟩ => ⟨S128x1x1024, .f32⟩
  | .hbm, ⟨49, _⟩ => ⟨S128x1x512, .f32⟩
  | .hbm, ⟨50, _⟩ => ⟨S128x1x512, .f32⟩
  | .hbm, ⟨51, _⟩ => ⟨S128x1x1024, .f32⟩
  | .hbm, ⟨52, _⟩ => ⟨S128x1x16, .f32⟩
  | .hbm, ⟨53, _⟩ => ⟨S128x1x1024, .f32⟩
  | .hbm, ⟨54, _⟩ => ⟨S128x1x2048, .f32⟩
  | .hbm, ⟨55, _⟩ => ⟨S128x1x2048, .f32⟩
  | .hbm, ⟨56, _⟩ => ⟨S_, .f32⟩
  | .hbm, ⟨57, _⟩ => ⟨S128x232, .f32⟩
  | .hbm, ⟨58, _⟩ => ⟨S128x2048, .f32⟩
  | .hbm, ⟨59, _⟩ => ⟨S128x512, .f32⟩
  | .hbm, ⟨60, _⟩ => ⟨S128x512, .f32⟩
  | .hbm, ⟨61, _⟩ => ⟨S128x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S128x2048, .f32⟩
  | .hbm, ⟨67, _⟩ => ⟨S128x2048, .f32⟩
  | .hbm, ⟨68, _⟩ => ⟨S128x4, .f32⟩
  | .hbm, ⟨69, _⟩ => ⟨S128x4, .f32⟩
  | .hbm, ⟨70, _⟩ => ⟨S128x16, .f32⟩
  | .hbm, ⟨71, _⟩ => ⟨S128x12544, .f32⟩
  | .hbm, ⟨72, _⟩ => ⟨S128x4x2048, .f32⟩
  | .hbm, ⟨73, _⟩ => ⟨S128x3x2048, .f32⟩
  | .hbm, ⟨74, _⟩ => ⟨S1x128x3x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_1 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩

abbrev nD : Nat := 1
abbrev τ : Topo := Topo.v7x

variable {F : FTy → Type} [FloatOps F]
-- ==== Kernel2.lean ====
abbrev S4x2048x1024 : Shape := ⟨3, ![4, 2048, 1024]⟩
abbrev S8192x12544 : Shape := ⟨2, ![8192, 12544]⟩
abbrev S4x2048x2048 : Shape := ⟨3, ![4, 2048, 2048]⟩
abbrev S128x1x1024 : Shape := ⟨3, ![128, 1, 1024]⟩
abbrev S128x12544 : Shape := ⟨2, ![128, 12544]⟩
abbrev S128x1x2048 : Shape := ⟨3, ![128, 1, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S128x2048 : Shape := ⟨2, ![128, 2048]⟩
abbrev S2048 : Shape := ⟨1, ![2048]⟩
abbrev S1024x2048 : Shape := ⟨2, ![1024, 2048]⟩
abbrev S2048x2048 : Shape := ⟨2, ![2048, 2048]⟩
abbrev S8192x1024 : Shape := ⟨2, ![8192, 1024]⟩
abbrev S128x1024 : Shape := ⟨2, ![128, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128 : Shape := ⟨1, ![128]⟩
abbrev S128x1 : Shape := ⟨2, ![128, 1]⟩

abbrev nBuf : Space → Nat
  | .hbm => 35
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x12544, .f32⟩
  | .hbm, ⟨3, _⟩ => ⟨S4x2048x2048, .f32⟩
  | .hbm, ⟨4, _⟩ => ⟨S128x1x1024, .f32⟩
  | .hbm, ⟨5, _⟩ => ⟨S128x1x1024, .f32⟩
  | .hbm, ⟨6, _⟩ => ⟨S128x12544, .f32⟩
  | .hbm, ⟨7, _⟩ => ⟨S128x1x2048, .f32⟩
  | .hbm, ⟨8, _⟩ => ⟨S1x1024x2048, .f32⟩
  | .hbm, ⟨9, _⟩ => ⟨S1x1024x2048, .f32⟩
  | .hbm, ⟨10, _⟩ => ⟨S1x2048x2048, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S128x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S2048x2048, .f32⟩
  | .hbm, ⟨24, _⟩ => ⟨S2048x2048, .bf16⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S8192x1024, .bf16⟩
  | .hbm, ⟨29, _⟩ => ⟨S128x1024, .f32⟩
  | .hbm, ⟨30, _⟩ => ⟨S128x1024, .bf16⟩
  | .hbm, ⟨31, _⟩ => ⟨S128x1024, .f32⟩
  | .hbm, ⟨32, _⟩ => ⟨S128x1024, .bf16⟩
  | .hbm, ⟨33, _⟩ => ⟨S8192x2048, .f32⟩
  | .hbm, ⟨34, _⟩ => ⟨S128x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S128x1024, .bf16⟩
  | .local _ .vmem, ⟨11, _⟩ => ⟨S128x1024, .bf16⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S128x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_8 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S128x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2Ideal.lean ====
variable {F : FTy → Type} [FloatOps F] [Named F]
def κ : String → Option EReal := fun
  | "minus_log2_e" => some ((-((Real.log 2)⁻¹) : ℝ) : EReal)
  | _ => none
-- ==== Reference2Ideal.lean ====
abbrev S4x2048x1024 : Shape := ⟨3, ![4, 2048, 1024]⟩
abbrev S8192x12544 : Shape := ⟨2, ![8192, 12544]⟩
abbrev S4x2048x2048 : Shape := ⟨3, ![4, 2048, 2048]⟩
abbrev S128x1x1024 : Shape := ⟨3, ![128, 1, 1024]⟩
abbrev S128x12544 : Shape := ⟨2, ![128, 12544]⟩
abbrev S128x1x2048 : Shape := ⟨3, ![128, 1, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S4x2048x12544 : Shape := ⟨3, ![4, 2048, 12544]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S128x1x12544 : Shape := ⟨3, ![128, 1, 12544]⟩
abbrev S128x1 : Shape := ⟨2, ![128, 1]⟩
abbrev S128x1x1 : Shape := ⟨3, ![128, 1, 1]⟩
abbrev S8192x2048 : Shape := ⟨2, ![8192, 2048]⟩
abbrev S128x2048 : Shape := ⟨2, ![128, 2048]⟩

abbrev nBuf : Space → Nat
  | .hbm => 141
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S8192x12544, .f32⟩
  | 3 => ⟨S4x2048x2048, .f32⟩
  | 4 => ⟨S128x1x1024, .f32⟩
  | 5 => ⟨S128x1x1024, .f32⟩
  | 6 => ⟨S128x12544, .f32⟩
  | 7 => ⟨S128x1x2048, .f32⟩
  | 8 => ⟨S1x1024x2048, .f32⟩
  | 9 => ⟨S1x1024x2048, .f32⟩
  | 10 => ⟨S1x2048x2048, .f32⟩
  | 11 => ⟨S1x2048, .f32⟩
  | 12 => ⟨S1x2048, .f32⟩
  | 13 => ⟨S4x2048x12544, .f32⟩
  | 14 => ⟨S4x2048x2048, .f32⟩
  | 15 => ⟨S4x2048x2048, .f32⟩
  | 16 => ⟨S4x2048x2048, .f32⟩
  | 17 => ⟨S4x2048x2048, .f32⟩
  | 18 => ⟨S_, .f32⟩
  | 19 => ⟨S4x2048x2048, .f32⟩
  | 20 => ⟨S4x2048x2048, .f32⟩
  | 21 => ⟨S_, .f32⟩
  | 22 => ⟨S4x2048x2048, .f32⟩
  | 23 => ⟨S4x2048x2048, .f32⟩
  | 24 => ⟨S1024x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S_, .f32⟩
  | 30 => ⟨S4x2048x2048, .f32⟩
  | 31 => ⟨S4x2048x2048, .f32⟩
  | 32 => ⟨S_, .f32⟩
  | 33 => ⟨S4x2048x2048, .f32⟩
  | 34 => ⟨S4x2048x2048, .f32⟩
  | 35 => ⟨S1024x2048, .f32⟩
  | 36 => ⟨S4x2048x2048, .f32⟩
  | 37 => ⟨S4x2048x2048, .f32⟩
  | 38 => ⟨S4x2048x2048, .f32⟩
  | 39 => ⟨S_, .f32⟩
  | 40 => ⟨S4x2048x2048, .f32⟩
  | 41 => ⟨S4x2048x2048, .f32⟩
  | 42 => ⟨S2048x2048, .f32⟩
  | 43 => ⟨S4x2048x2048, .f32⟩
  | 44 => ⟨S4x2048x2048, .f32⟩
  | 45 => ⟨S2048, .f32⟩
  | 46 => ⟨S2048, .f32⟩
  | 47 => ⟨S_, .f32⟩
  | 48 => ⟨S4x2048, .f32⟩
  | 49 => ⟨S4x2048x1, .f32⟩
  | 50 => ⟨S_, .f32⟩
  | 51 => ⟨S4x2048x1, .f32⟩
  | 52 => ⟨S4x2048x1, .f32⟩
  | 53 => ⟨S4x2048x2048, .f32⟩
  | 54 => ⟨S4x2048x2048, .f32⟩
  | 55 => ⟨S4x2048x2048, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S4x2048x2048, .f32⟩
  | 63 => ⟨S4x2048x2048, .f32⟩
  | 64 => ⟨S_, .f32⟩
  | 65 => ⟨S4x2048x1, .f32⟩
  | 66 => ⟨S4x2048x1, .f32⟩
  | 67 => ⟨S4x2048x1, .f32⟩
  | 68 => ⟨S4x2048x2048, .f32⟩
  | 69 => ⟨S4x2048x2048, .f32⟩
  | 70 => ⟨S1x1x2048, .f32⟩
  | 71 => ⟨S4x2048x2048, .f32⟩
  | 72 => ⟨S4x2048x2048, .f32⟩
  | 73 => ⟨S1x1x2048, .f32⟩
  | 74 => ⟨S4x2048x2048, .f32⟩
  | 75 => ⟨S4x2048x2048, .f32⟩
  | 76 => ⟨S128x1x12544, .f32⟩
  | 77 => ⟨S128x1x2048, .f32⟩
  | 78 => ⟨S128x1x2048, .f32⟩
  | 79 => ⟨S128x1x2048, .f32⟩
  | 80 => ⟨S128x1x2048, .f32⟩
  | 81 => ⟨S_, .f32⟩
  | 82 => ⟨S128x1x2048, .f32⟩
  | 83 => ⟨S128x1x2048, .f32⟩
  | 84 => ⟨S_, .f32⟩
  | 85 => ⟨S128x1x2048, .f32⟩
  | 86 => ⟨S128x1x2048, .f32⟩
  | 87 => ⟨S1024x2048, .f32⟩
  | 88 => ⟨S128x1x2048, .f32⟩
  | 89 => ⟨S128x1x2048, .f32⟩
  | 90 => ⟨S128x1x2048, .f32⟩
  | 91 => ⟨S128x1x2048, .f32⟩
  | 92 => ⟨S_, .f32⟩
  | 93 => ⟨S128x1x2048, .f32⟩
  | 94 => ⟨S128x1x2048, .f32⟩
  | 95 => ⟨S_, .f32⟩
  | 96 => ⟨S128x1x2048, .f32⟩
  | 97 => ⟨S128x1x2048, .f32⟩
  | 98 => ⟨S1024x2048, .f32⟩
  | 99 => ⟨S128x1x2048, .f32⟩
  | 100 => ⟨S128x1x2048, .f32⟩
  | 101 => ⟨S128x1x2048, .f32⟩
  | 102 => ⟨S_, .f32⟩
  | 103 => ⟨S128x1x2048, .f32⟩
  | 104 => ⟨S128x1x2048, .f32⟩
  | 105 => ⟨S2048x2048, .f32⟩
  | 106 => ⟨S128x1x2048, .f32⟩
  | 107 => ⟨S128x1x2048, .f32⟩
  | 108 => ⟨S2048, .f32⟩
  | 109 => ⟨S2048, .f32⟩
  | 110 => ⟨S_, .f32⟩
  | 111 => ⟨S128x1, .f32⟩
  | 112 => ⟨S128x1x1, .f32⟩
  | 113 => ⟨S_, .f32⟩
  | 114 => ⟨S128x1x1, .f32⟩
  | 115 => ⟨S128x1x1, .f32⟩
  | 116 => ⟨S128x1x2048, .f32⟩
  | 117 => ⟨S128x1x2048, .f32⟩
  | 118 => ⟨S128x1x2048, .f32⟩
  | 119 => ⟨S_, .f32⟩
  | 120 => ⟨S128x1, .f32⟩
  | 121 => ⟨S128x1x1, .f32⟩
  | 122 => ⟨S_, .f32⟩
  | 123 => ⟨S128x1x1, .f32⟩
  | 124 => ⟨S128x1x1, .f32⟩
  | 125 => ⟨S128x1x2048, .f32⟩
  | 126 => ⟨S128x1x2048, .f32⟩
  | 127 => ⟨S_, .f32⟩
  | _ => ⟨S4x2048x1024, .f32⟩

abbrev hbmTy0_1 (i : Nat) : BufTy := match i % 128 with
  | 0 => ⟨S128x1x1, .f32⟩
  | 1 => ⟨S128x1x1, .f32⟩
  | 2 => ⟨S128x1x1, .f32⟩
  | 3 => ⟨S128x1x2048, .f32⟩
  | 4 => ⟨S128x1x2048, .f32⟩
  | 5 => ⟨S1x1x2048, .f32⟩
  | 6 => ⟨S128x1x2048, .f32⟩
  | 7 => ⟨S128x1x2048, .f32⟩
  | 8 => ⟨S1x1x2048, .f32⟩
  | 9 => ⟨S128x1x2048, .f32⟩
  | 10 => ⟨S128x1x2048, .f32⟩
  | 11 => ⟨S8192x2048, .f32⟩
  | 12 => ⟨S128x2048, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_16 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]
-- ==== Kernel3.lean ====
abbrev S8192x12544 : Shape := ⟨2, ![8192, 12544]⟩
abbrev S128x12544 : Shape := ⟨2, ![128, 12544]⟩
abbrev S1x128x3x2048 : Shape := ⟨4, ![1, 128, 3, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x4x2048 : Shape := ⟨3, ![1, 4, 2048]⟩
abbrev S1x2048 : Shape := ⟨2, ![1, 2048]⟩
abbrev S1x4 : Shape := ⟨2, ![1, 4]⟩
abbrev S1x1024 : Shape := ⟨2, ![1, 1024]⟩
abbrev S4x2048 : Shape := ⟨2, ![4, 2048]⟩
abbrev S2048 : Shape := ⟨1, ![2048]⟩
abbrev S4 : Shape := ⟨1, ![4]⟩
abbrev S_ : Shape := ⟨0, ![]⟩
abbrev S120 : Shape := ⟨1, ![120]⟩
abbrev S128 : Shape := ⟨1, ![128]⟩
abbrev S1x128 : Shape := ⟨2, ![1, 128]⟩
abbrev S1024 : Shape := ⟨1, ![1024]⟩
abbrev S128x6144 : Shape := ⟨2, ![128, 6144]⟩
abbrev S128x4x256x256 : Shape := ⟨4, ![128, 4, 256, 256]⟩
abbrev S128x4x1x256 : Shape := ⟨4, ![128, 4, 1, 256]⟩
abbrev S128x4 : Shape := ⟨2, ![128, 4]⟩
abbrev S8192x1024 : Shape := ⟨2, ![8192, 1024]⟩
abbrev S4x4x256x256 : Shape := ⟨4, ![4, 4, 256, 256]⟩
abbrev S4x4x1x256 : Shape := ⟨4, ![4, 4, 1, 256]⟩
abbrev S4x4x1x128 : Shape := ⟨4, ![4, 4, 1, 128]⟩
abbrev S128x1024 : Shape := ⟨2, ![128, 1024]⟩
abbrev S128x512 : Shape := ⟨2, ![128, 512]⟩
abbrev S256x2048 : Shape := ⟨2, ![256, 2048]⟩
abbrev S256x3072 : Shape := ⟨2, ![256, 3072]⟩
abbrev S256x128 : Shape := ⟨2, ![256, 128]⟩
abbrev S16x256 : Shape := ⟨2, ![16, 256]⟩
abbrev S16x128 : Shape := ⟨2, ![16, 128]⟩
abbrev S4x256 : Shape := ⟨2, ![4, 256]⟩
abbrev S1x256 : Shape := ⟨2, ![1, 256]⟩
abbrev S16x1x256x256 : Shape := ⟨4, ![16, 1, 256, 256]⟩
abbrev S16x1x1x256 : Shape := ⟨4, ![16, 1, 1, 256]⟩
abbrev S16x4 : Shape := ⟨2, ![16, 4]⟩
abbrev S256x1024 : Shape := ⟨2, ![256, 1024]⟩
abbrev S1x4x256x256 : Shape := ⟨4, ![1, 4, 256, 256]⟩
abbrev S1x4x1x256 : Shape := ⟨4, ![1, 4, 1, 256]⟩
abbrev S1x4x1x128 : Shape := ⟨4, ![1, 4, 1, 128]⟩
abbrev S8x1024 : Shape := ⟨2, ![8, 1024]⟩
abbrev S16 : Shape := ⟨1, ![16]⟩
abbrev S16x1 : Shape := ⟨2, ![16, 1]⟩
abbrev S1x1x256x256 : Shape := ⟨4, ![1, 1, 256, 256]⟩
abbrev S256x256 : Shape := ⟨2, ![256, 256]⟩
abbrev S1x1 : Shape := ⟨2, ![1, 1]⟩
abbrev S1x8x1 : Shape := ⟨3, ![1, 8, 1]⟩
abbrev S264x1024 : Shape := ⟨2, ![264, 1024]⟩
abbrev S33x8x1024 : Shape := ⟨3, ![33, 8, 1024]⟩
abbrev S4x1024 : Shape := ⟨2, ![4, 1024]⟩
abbrev S32x8x1024 : Shape := ⟨3, ![32, 8, 1024]⟩
abbrev S128x256 : Shape := ⟨2, ![128, 256]⟩
abbrev S256x1 : Shape := ⟨2, ![256, 1]⟩
abbrev S1x1x1x1 : Shape := ⟨4, ![1, 1, 1, 1]⟩
abbrev S256 : Shape := ⟨1, ![256]⟩
abbrev S1x1x1x256 : Shape := ⟨4, ![1, 1, 1, 256]⟩
abbrev S1x1x1x128 : Shape := ⟨4, ![1, 1, 1, 128]⟩
abbrev S128x4x128 : Shape := ⟨3, ![128, 4, 128]⟩
abbrev S128x4x1 : Shape := ⟨3, ![128, 4, 1]⟩

abbrev nBuf : Space → Nat
  | .hbm => 40
  | .vmem => 69
  | .smem => 0
  | _ => 0

abbrev bufTy : (tb : Table) → Fin (tcTables nBuf tb) → BufTy
  | .hbm, ⟨0, _⟩ => ⟨S8192x12544, .f32⟩
  | .hbm, ⟨1, _⟩ => ⟨S128x12544, .f32⟩
  | .hbm, ⟨2, _⟩ => ⟨S1x128x3x2048, .f32⟩
  | .hbm, ⟨3, _⟩ => ⟨S1x128x4x256x256, .f32⟩
  | .hbm, ⟨4, _⟩ => ⟨S1x128x4x256, .f32⟩
  | .hbm, ⟨5, _⟩ => ⟨S1x128x4, .f32⟩
  | .hbm, ⟨6, _⟩ => ⟨S1x4x2048, .f32⟩
  | .hbm, ⟨7, _⟩ => ⟨S1x2048, .f32⟩
  | .hbm, ⟨8, _⟩ => ⟨S1x4, .f32⟩
  | .hbm, ⟨9, _⟩ => ⟨S1x4, .f32⟩
  | .hbm, ⟨10, _⟩ => ⟨S1x1024, .f32⟩
  | .hbm, ⟨11, _⟩ => ⟨S4x2048, .f32⟩
  | .hbm, ⟨12, _⟩ => ⟨S2048, .f32⟩
  | .hbm, ⟨13, _⟩ => ⟨S1x2048, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S120, .f32⟩
  | .hbm, ⟨18, _⟩ => ⟨S128, .f32⟩
  | .hbm, ⟨19, _⟩ => ⟨S1x128, .f32⟩
  | .hbm, ⟨20, _⟩ => ⟨S1024, .f32⟩
  | .hbm, ⟨21, _⟩ => ⟨S1x1024, .f32⟩
  | .hbm, ⟨22, _⟩ => ⟨S128x6144, .f32⟩
  | .hbm, ⟨23, _⟩ => ⟨S128x4x256x256, .f32⟩
  | .hbm, ⟨24, _⟩ => ⟨S128x4x1x256, .f32⟩
  | .hbm, ⟨25, _⟩ => ⟨S128x4, .f32⟩
  | .hbm, ⟨26, _⟩ => ⟨S8192x1024, .bf16⟩
  | .hbm, ⟨27, _⟩ => ⟨S4x4x256x256, .f32⟩
  | .hbm, ⟨28, _⟩ => ⟨S4x4x1x256, .f32⟩
  | .hbm, ⟨29, _⟩ => ⟨S4x4x1x128, .f32⟩
  | .hbm, ⟨30, _⟩ => ⟨S128x1024, .bf16⟩
  | .hbm, ⟨31, _⟩ => ⟨S128x4x256x256, .f32⟩
  | .hbm, ⟨32, _⟩ => ⟨S128x4x1x256, .f32⟩
  | .hbm, ⟨33, _⟩ => ⟨S128x512, .f32⟩
  | .hbm, ⟨34, _⟩ => ⟨S1x128x4x256x256, .f32⟩
  | .hbm, ⟨35, _⟩ => ⟨S1x128x4x256, .f32⟩
  | .hbm, ⟨36, _⟩ => ⟨S128x4x128, .f32⟩
  | .hbm, ⟨37, _⟩ => ⟨S128x4x1, .f32⟩
  | .hbm, ⟨38, _⟩ => ⟨S128x4, .f32⟩
  | .hbm, ⟨39, _⟩ => ⟨S1x128x4, .f32⟩
  | .local _ .vmem, ⟨0, _⟩ => ⟨S256x2048, .f32⟩
  | .local _ .vmem, ⟨1, _⟩ => ⟨S256x2048, .f32⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x1024, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S16x128, .f32⟩
  | .local _ .vmem, ⟨21, _⟩ => ⟨S16x128, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x256, .f32⟩
  | .local _ .vmem, ⟨26, _⟩ => ⟨S16x256, .f32⟩
  | .local _ .vmem, ⟨27, _⟩ => ⟨S16x256, .f32⟩
  | .local _ .vmem, ⟨28, _⟩ => ⟨S16x256, .f32⟩
  | .local _ .vmem, ⟨29, _⟩ => ⟨S16x256, .f32⟩
  | .local _ .vmem, ⟨30, _⟩ => ⟨S16x256, .f32⟩
  | .local _ .vmem, ⟨31, _⟩ => ⟨S16x256, .f32⟩
  | .local _ .vmem, ⟨32, _⟩ => ⟨S16x256, .f32⟩
  | .local _ .vmem, ⟨33, _⟩ => ⟨S16x256, .f32⟩
  | .local _ .vmem, ⟨34, _⟩ => ⟨S4x256, .f32⟩
  | .local _ .vmem, ⟨35, _⟩ => ⟨S4x256, .f32⟩
  | .local _ .vmem, ⟨36, _⟩ => ⟨S4x256, .f32⟩
  | .local _ .vmem, ⟨37, _⟩ => ⟨S4x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x128, .f32⟩
  | .local _ .vmem, ⟨43, _⟩ => ⟨S1x256, .f32⟩
  | .local _ .vmem, ⟨44, _⟩ => ⟨S1x256, .f32⟩
  | .local _ .vmem, ⟨45, _⟩ => ⟨S16x1x256x256, .f32⟩
  | .local _ .vmem, ⟨46, _⟩ => ⟨S16x1x256x256, .f32⟩
  | .local _ .vmem, ⟨47, _⟩ => ⟨S16x1x1x256, .f32⟩
  | .local _ .vmem, ⟨48, _⟩ => ⟨S16x1x1x256, .f32⟩
  | .local _ .vmem, ⟨49, _⟩ => ⟨S16x4, .f32⟩
  | .local _ .vmem, ⟨50, _⟩ => ⟨S16x4, .f32⟩
  | .local _ .vmem, ⟨51, _⟩ => ⟨S256x1024, .bf16⟩
  | .local _ .vmem, ⟨52, _⟩ => ⟨S256x1024, .bf16⟩
  | .local _ .vmem, ⟨53, _⟩ => ⟨S1x4x256x256, .f32⟩
  | .local _ .vmem, ⟨54, _⟩ => ⟨S1x4x256x256, .f32⟩
  | .local _ .vmem, ⟨55, _⟩ => ⟨S1x4x1x256, .f32⟩
  | .local _ .vmem, ⟨56, _⟩ => ⟨S1x4x1x256, .f32⟩
  | .local _ .vmem, ⟨57, _⟩ => ⟨S1x4x1x128, .f32⟩
  | .local _ .vmem, ⟨58, _⟩ => ⟨S1x4x1x128, .f32⟩
  | .local _ .vmem, ⟨59, _⟩ => ⟨S16x256, .bf16⟩
  | .local _ .vmem, ⟨60, _⟩ => ⟨S16x256, .bf16⟩
  | .local _ .vmem, ⟨61, _⟩ => ⟨S16x1x256x256, .f32⟩
  | .local _ .vmem, ⟨62, _⟩ => ⟨S16x1x256x256, .f32⟩
  | .local _ .vmem, ⟨63, _⟩ => ⟨S16x1x1x256, .f32⟩
  | .local _ .vmem, ⟨64, _⟩ => ⟨S16x1x1x256, .f32⟩
  | .local _ .vmem, ⟨65, _⟩ => ⟨S16x128, .f32⟩
  | .local _ .vmem, ⟨66, _⟩ => ⟨S16x128, .f32⟩
  | .local _ .vmem, ⟨67, _⟩ => ⟨S8x1024, .f32⟩
  | .local _ .vmem, ⟨68, _⟩ => ⟨S8x1024, .f32⟩
  | _, _ => ⟨S8192x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_stg28_0 : Ref sig .tc := ⟨.vmem, 51, rfl⟩
abbrev cc0_stg28_1 : Ref sig .tc := ⟨.vmem, 52, rfl⟩
abbrev cc0_stg29_0 : Ref sig .tc := ⟨.vmem, 53, rfl⟩
abbrev cc0_stg29_1 : Ref sig .tc := ⟨.vmem, 54, rfl⟩
abbrev cc0_stg30_0 : Ref sig .tc := ⟨.vmem, 55, rfl⟩
abbrev cc0_stg30_1 : Ref sig .tc := ⟨.vmem, 56, rfl⟩
abbrev cc0_stg31_0 : Ref sig .tc := ⟨.vmem, 57, rfl⟩
abbrev cc0_stg31_1 : Ref sig .tc := ⟨.vmem, 58, rfl⟩
abbrev cc0_stg32_0 : Ref sig .tc := ⟨.vmem, 59, rfl⟩
abbrev cc0_stg32_1 : Ref sig .tc := ⟨.vmem, 60, rfl⟩
abbrev cc0_stg33_0 : Ref sig .tc := ⟨.vmem, 61, rfl⟩
abbrev cc0_stg33_1 : Ref sig .tc := ⟨.vmem, 62, rfl⟩
abbrev cc0_stg34_0 : Ref sig .tc := ⟨.vmem, 63, rfl⟩
abbrev cc0_stg34_1 : Ref sig .tc := ⟨.vmem, 64, rfl⟩
abbrev cc0_stg35_0 : Ref sig .tc := ⟨.vmem, 65, rfl⟩
abbrev cc0_stg35_1 : Ref sig .tc := ⟨.vmem, 66, rfl⟩
abbrev cc0_scratch0 : Ref sig .tc := ⟨.vmem, 67, rfl⟩
abbrev cc0_scratch1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49
abbrev cc0_sem27_1 : DmaSem sig := 50
abbrev cc0_sem28_0 : DmaSem sig := 51
abbrev cc0_sem28_1 : DmaSem sig := 52
abbrev cc0_sem29_0 : DmaSem sig := 53
abbrev cc0_sem29_1 : DmaSem sig := 54
abbrev cc0_sem30_0 : DmaSem sig := 55
abbrev cc0_sem30_1 : DmaSem sig := 56
abbrev cc0_sem31_0 : DmaSem sig := 57
abbrev cc0_sem31_1 : DmaSem sig := 58
abbrev cc0_sem32_0 : DmaSem sig := 59
abbrev cc0_sem32_1 : DmaSem sig := 60
abbrev cc0_sem33_0 : DmaSem sig := 61
abbrev cc0_sem33_1 : DmaSem sig := 62
abbrev cc0_sem34_0 : DmaSem sig := 63
abbrev cc0_sem34_1 : DmaSem sig := 64
abbrev cc0_sem35_0 : DmaSem sig := 65
abbrev cc0_sem35_1 : DmaSem sig := 66

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c96_i32 : BitVec 32 := 96#32
  let c0_i32 : BitVec 32 := 0#32
  ![v1.toNat, c96_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c0_i32_24 : BitVec 32 := 0#32
  let v58 : BitVec 32 := Scalar.addi c0_i32_24 v57
  let c0_i32_25 : BitVec 32 := 0#32
  ![v18.toNat, v58.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c4_i32_24 : BitVec 32 := 4#32
  let v58 : BitVec 32 := Scalar.addi c4_i32_24 v57
  let c0_i32_25 : BitVec 32 := 0#32
  ![v18.toNat, v58.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c12_i32 : BitVec 32 := 12#32
  let v58 : BitVec 32 := Scalar.addi c12_i32 v57
  let c0_i32_24 : BitVec 32 := 0#32
  ![v18.toNat, v58.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c16_i32 : BitVec 32 := 16#32
  let v58 : BitVec 32 := Scalar.addi c16_i32 v57
  let c0_i32_24 : BitVec 32 := 0#32
  ![v18.toNat, v58.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c20_i32 : BitVec 32 := 20#32
  let v58 : BitVec 32 := Scalar.addi c20_i32 v57
  let c0_i32_24 : BitVec 32 := 0#32
  ![v18.toNat, v58.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c96_i32 : BitVec 32 := 96#32
  let c0_i32_10 : BitVec 32 := 0#32
  ![v18.toNat, c96_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c0_i32_24 : BitVec 32 := 0#32
  let v58 : BitVec 32 := Scalar.addi c0_i32_24 v57
  let c0_i32_25 : BitVec 32 := 0#32
  ![v18.toNat, v58.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c8_i32_24 : BitVec 32 := 8#32
  let v58 : BitVec 32 := Scalar.addi c8_i32_24 v57
  let c0_i32_25 : BitVec 32 := 0#32
  ![v18.toNat, v58.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c16_i32 : BitVec 32 := 16#32
  let v58 : BitVec 32 := Scalar.addi c16_i32 v57
  let c0_i32_24 : BitVec 32 := 0#32
  ![v18.toNat, v58.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c4_i32_24 : BitVec 32 := 4#32
  let v58 : BitVec 32 := Scalar.addi c4_i32_24 v57
  let c0_i32_25 : BitVec 32 := 0#32
  ![v18.toNat, v58.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c12_i32 : BitVec 32 := 12#32
  let v58 : BitVec 32 := Scalar.addi c12_i32 v57
  let c0_i32_24 : BitVec 32 := 0#32
  ![v18.toNat, v58.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32_10 : BitVec 32 := 8#32
  let v29 : BitVec 32 := Scalar.muli arg0 c8_i32_10
  let v30 : BitVec 32 := Scalar.addi v29 arg2
  let c4_i32_11 : BitVec 32 := 4#32
  let v31 : BitVec 32 := Scalar.divsi v30 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32_11 c0_i32_14
  let v38 : BitVec 32 := Scalar.extui v37
  let c0_i32_15 : BitVec 32 := 0#32
  let v39 : BitVec 1 := Scalar.cmpi .slt c4_i32_11 c0_i32_15
  let v40 : BitVec 32 := Scalar.extui v39
  let v41 : BitVec 32 := Scalar.subi v38 v40
  let v42 : BitVec 1 := Scalar.cmpi .ne v36 v41
  let v43 : BitVec 32 := Scalar.remsi v30 c4_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c4_i32_18 : BitVec 32 := 4#32
  let c0_i32_19 : BitVec 32 := 0#32
  let v48 : BitVec 1 := Scalar.cmpi .eq c4_i32_18 c0_i32_19
  let c1_i32_20 : BitVec 32 := 1#32
  let v49 : BitVec 32 := Scalar.select v48 c1_i32_20 c4_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c20_i32 : BitVec 32 := 20#32
  let v58 : BitVec 32 := Scalar.addi c20_i32 v57
  let c0_i32_24 : BitVec 32 := 0#32
  ![v18.toNat, v58.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi c0_i32_10 v28
  let c0_i32_11 : BitVec 32 := 0#32
  let c0_i32_12 : BitVec 32 := 0#32
  ![c0_i32_11.toNat, v29.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.addi c4_i32_10 v28
  let c0_i32_11 : BitVec 32 := 0#32
  let c0_i32_12 : BitVec 32 := 0#32
  ![c0_i32_11.toNat, v29.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi c0_i32_10 v28
  let c0_i32_11 : BitVec 32 := 0#32
  let c0_i32_12 : BitVec 32 := 0#32
  ![c0_i32_11.toNat, v29.toNat]

def cc0_transform_22 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.addi c4_i32_10 v28
  let c0_i32_11 : BitVec 32 := 0#32
  let c0_i32_12 : BitVec 32 := 0#32
  ![c0_i32_11.toNat, v29.toNat]

def cc0_transform_23 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi c0_i32_10 v28
  let c0_i32_11 : BitVec 32 := 0#32
  let c0_i32_12 : BitVec 32 := 0#32
  ![c0_i32_11.toNat, v29.toNat]

def cc0_transform_25 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_26 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_27 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat]

def cc0_transform_28 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_29 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_30 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_31 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_32 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_33 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_34 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_35 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, true]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, true]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, true]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false, true]

abbrev stage0_17 : Fin 2 → Memref sig .tc .vmem S16x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false, true]

abbrev stage0_18 : Fin 2 → Memref sig .tc .vmem S16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false, true]

abbrev stage0_19 : Fin 2 → Memref sig .tc .vmem S4x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false, true]

abbrev stage0_20 : Fin 2 → Memref sig .tc .vmem S4x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false, true]

abbrev stage0_21 : Fin 2 → Memref sig .tc .vmem S1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false, true]

abbrev stage0_22 : Fin 2 → Memref sig .tc .vmem S1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false, true]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false, false]

abbrev stage0_24 : Fin 2 → Memref sig .tc .vmem S1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false, true]

abbrev stage0_25 : Fin 2 → Memref sig .tc .vmem S16x1x256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false, true]

abbrev stage0_26 : Fin 2 → Memref sig .tc .vmem S16x1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false, true]

abbrev stage0_27 : Fin 2 → Memref sig .tc .vmem S16x4 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false, true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true, true]

abbrev stage0_29 : Fin 2 → Memref sig .tc .vmem S1x4x256x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true, false]

abbrev stage0_30 : Fin 2 → Memref sig .tc .vmem S1x4x1x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true, false]

abbrev stage0_31 : Fin 2 → Memref sig .tc .vmem S1x4x1x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true, false]

abbrev stage0_32 : Fin 2 → Memref sig .tc .vmem S16x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, false, true]

abbrev stage0_33 : Fin 2 → Memref sig .tc .vmem S16x1x256x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, false, true]

abbrev stage0_34 : Fin 2 → Memref sig .tc .vmem S16x1x1x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, false, true]

abbrev stage0_35 : Fin 2 → Memref sig .tc .vmem S16x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, false, true]
-- ==== Kernel3Ideal.lean ====
variable {F : FTy → Type} [FloatOps F] [Named F]
def κ : String → Option EReal := fun
  | "ln_2" => some ((Real.log 2 : ℝ) : EReal)
  | "log2_e" => some (((Real.log 2)⁻¹ : ℝ) : EReal)
  | "minus_log2_e" => some ((-((Real.log 2)⁻¹) : ℝ) : EReal)
  | _ => none
-- ==== Reference3Ideal.lean ====
abbrev S8192x12544 : Shape := ⟨2, ![8192, 12544]⟩
abbrev S128x12544 : Shape := ⟨2, ![128, 12544]⟩
abbrev S1x128x3x2048 : Shape := ⟨4, ![1, 128, 3, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x4x2048 : Shape := ⟨3, ![1, 4, 2048]⟩
abbrev S1x2048 : Shape := ⟨2, ![1, 2048]⟩
abbrev S1x4 : Shape := ⟨2, ![1, 4]⟩
abbrev S1x1024 : Shape := ⟨2, ![1, 1024]⟩
abbrev S128x1x12544 : Shape := ⟨3, ![128, 1, 12544]⟩
abbrev S128x1x2048 : Shape := ⟨3, ![128, 1, 2048]⟩
abbrev S128x1x1024 : Shape := ⟨3, ![128, 1, 1024]⟩
abbrev S128x1x4 : Shape := ⟨3, ![128, 1, 4]⟩
abbrev S128x3x2048 : Shape := ⟨3, ![128, 3, 2048]⟩
abbrev S128x4x2048 : Shape := ⟨3, ![128, 4, 2048]⟩
abbrev S2048 : Shape := ⟨1, ![2048]⟩
abbrev S4x2048 : Shape := ⟨2, ![4, 2048]⟩
abbrev S1x1x2048 : Shape := ⟨3, ![1, 1, 2048]⟩
abbrev S_ : Shape := ⟨0, ![]⟩
abbrev S128x1x4x256 : Shape := ⟨4, ![128, 1, 4, 256]⟩
abbrev S128x4x1x256 : Shape := ⟨4, ![128, 4, 1, 256]⟩
abbrev S4 : Shape := ⟨1, ![4]⟩
abbrev S1x1x4 : Shape := ⟨3, ![1, 1, 4]⟩
abbrev S128x4x1 : Shape := ⟨3, ![128, 4, 1]⟩
abbrev S128x4x256x256 : Shape := ⟨4, ![128, 4, 256, 256]⟩
abbrev S128x4x256 : Shape := ⟨3, ![128, 4, 256]⟩
abbrev S128x4 : Shape := ⟨2, ![128, 4]⟩
abbrev S1x1 : Shape := ⟨2, ![1, 1]⟩
abbrev S128x4x1x1 : Shape := ⟨4, ![128, 4, 1, 1]⟩

abbrev nBuf : Space → Nat
  | .hbm => 155
  | .vmem => 0
  | .smem => 0
  | _ => 0

abbrev hbmTy0_0 (i : Nat) : BufTy := match i % 128 with
  | 0 => ⟨S8192x12544, .f32⟩
  | 1 => ⟨S128x12544, .f32⟩
  | 2 => ⟨S1x128x3x2048, .f32⟩
  | 3 => ⟨S1x128x4x256x256, .f32⟩
  | 4 => ⟨S1x128x4x256, .f32⟩
  | 5 => ⟨S1x128x4, .f32⟩
  | 6 => ⟨S1x4x2048, .f32⟩
  | 7 => ⟨S1x2048, .f32⟩
  | 8 => ⟨S1x4, .f32⟩
  | 9 => ⟨S1x4, .f32⟩
  | 10 => ⟨S1x1024, .f32⟩
  | 11 => ⟨S128x1x12544, .f32⟩
  | 12 => ⟨S128x1x2048, .f32⟩
  | 13 => ⟨S128x1x1024, .f32⟩
  | 14 => ⟨S128x1x4, .f32⟩
  | 15 => ⟨S128x1x4, .f32⟩
  | 16 => ⟨S128x3x2048, .f32⟩
  | 17 => ⟨S128x4x2048, .f32⟩
  | 18 => ⟨S2048, .f32⟩
  | 19 => ⟨S128x1x2048, .f32⟩
  | 20 => ⟨S4x2048, .f32⟩
  | 21 => ⟨S1x2048, .f32⟩
  | 22 => ⟨S2048, .f32⟩
  | 23 => ⟨S1x1x2048, .f32⟩
  | 24 => ⟨S128x1x2048, .f32⟩
  | 25 => ⟨S128x1x2048, .f32⟩
  | 26 => ⟨S1x1x2048, .f32⟩
  | 27 => ⟨S128x1x2048, .f32⟩
  | 28 => ⟨S128x1x2048, .f32⟩
  | 29 => ⟨S128x1x2048, .f32⟩
  | 30 => ⟨S4x2048, .f32⟩
  | 31 => ⟨S1x2048, .f32⟩
  | 32 => ⟨S2048, .f32⟩
  | 33 => ⟨S1x1x2048, .f32⟩
  | 34 => ⟨S128x1x2048, .f32⟩
  | 35 => ⟨S128x1x2048, .f32⟩
  | 36 => ⟨S128x1x2048, .f32⟩
  | 37 => ⟨S128x1x2048, .f32⟩
  | 38 => ⟨S4x2048, .f32⟩
  | 39 => ⟨S1x2048, .f32⟩
  | 40 => ⟨S2048, .f32⟩
  | 41 => ⟨S1x1x2048, .f32⟩
  | 42 => ⟨S128x1x2048, .f32⟩
  | 43 => ⟨S128x1x2048, .f32⟩
  | 44 => ⟨S128x1x2048, .f32⟩
  | 45 => ⟨S128x1x2048, .f32⟩
  | 46 => ⟨S4x2048, .f32⟩
  | 47 => ⟨S1x2048, .f32⟩
  | 48 => ⟨S2048, .f32⟩
  | 49 => ⟨S1x1x2048, .f32⟩
  | 50 => ⟨S128x1x2048, .f32⟩
  | 51 => ⟨S128x1x2048, .f32⟩
  | 52 => ⟨S128x1x2048, .f32⟩
  | 53 => ⟨S128x1x2048, .f32⟩
  | 54 => ⟨S128x1x2048, .f32⟩
  | 55 => ⟨S_, .f32⟩
  | 56 => ⟨S128x1x2048, .f32⟩
  | 57 => ⟨S128x1x2048, .f32⟩
  | 58 => ⟨S_, .f32⟩
  | 59 => ⟨S128x1x2048, .f32⟩
  | 60 => ⟨S128x1x2048, .f32⟩
  | 61 => ⟨S128x1x2048, .f32⟩
  | 62 => ⟨S128x1x1024, .f32⟩
  | 63 => ⟨S128x1x1024, .f32⟩
  | 64 => ⟨S128x1x4x256, .f32⟩
  | 65 => ⟨S128x4x1x256, .f32⟩
  | 66 => ⟨S_, .f32⟩
  | 67 => ⟨S128x4x1x256, .f32⟩
  | 68 => ⟨S128x4x1x256, .f32⟩
  | 69 => ⟨S128x1x4x256, .f32⟩
  | 70 => ⟨S128x4x1x256, .f32⟩
  | 71 => ⟨S4, .f32⟩
  | 72 => ⟨S1x1x4, .f32⟩
  | 73 => ⟨S128x1x4, .f32⟩
  | 74 => ⟨S128x1x4, .f32⟩
  | 75 => ⟨S128x4x1, .f32⟩
  | 76 => ⟨S4, .f32⟩
  | 77 => ⟨S1x1x4, .f32⟩
  | 78 => ⟨S128x1x4, .f32⟩
  | 79 => ⟨S128x1x4, .f32⟩
  | 80 => ⟨S128x1x4, .f32⟩
  | 81 => ⟨S_, .f32⟩
  | 82 => ⟨S128x1x4, .f32⟩
  | 83 => ⟨S128x1x4, .f32⟩
  | 84 => ⟨S128x1x4, .f32⟩
  | 85 => ⟨S128x1x4, .f32⟩
  | 86 => ⟨S128x1x4, .i1⟩
  | 87 => ⟨S128x1x4, .f32⟩
  | 88 => ⟨S128x1x4, .f32⟩
  | 89 => ⟨S128x1x4, .f32⟩
  | 90 => ⟨S128x1x4, .f32⟩
  | 91 => ⟨S128x1x4, .f32⟩
  | 92 => ⟨S128x1x4, .f32⟩
  | 93 => ⟨S128x1x4, .f32⟩
  | 94 => ⟨S128x1x4, .f32⟩
  | 95 => ⟨S128x1x4, .f32⟩
  | 96 => ⟨S128x4x1, .f32⟩
  | 97 => ⟨S128x4x256x256, .f32⟩
  | 98 => ⟨S128x4x256, .f32⟩
  | 99 => ⟨S128x4, .f32⟩
  | 100 => ⟨S_, .i1⟩
  | 101 => ⟨S1x1, .i1⟩
  | 102 => ⟨S1x1, .i32⟩
  | 103 => ⟨S_, .i32⟩
  | 104 => ⟨S1x1, .i32⟩
  | 105 => ⟨S1x1, .i32⟩
  | 106 => ⟨S1x1, .i32⟩
  | 107 => ⟨S1x1, .i1⟩
  | 108 => ⟨S_, .i1⟩
  | 109 => ⟨S1x1, .i1⟩
  | 110 => ⟨S1x1, .i1⟩
  | 111 => ⟨S_, .f32⟩
  | 112 => ⟨S_, .f32⟩
  | 113 => ⟨S128x4x1, .f32⟩
  | 114 => ⟨S128x4x1x1, .f32⟩
  | 115 => ⟨S128x4x1x1, .f32⟩
  | 116 => ⟨S128x4x1x1, .f32⟩
  | 117 => ⟨S128x4x1x1, .f32⟩
  | 118 => ⟨S128x4x1x1, .f32⟩
  | 119 => ⟨S_, .f32⟩
  | 120 => ⟨S_, .f32⟩
  | 121 => ⟨S128x4x1x1, .i1⟩
  | 122 => ⟨S128x4x1x1, .f32⟩
  | 123 => ⟨S128x4x1x1, .f32⟩
  | 124 => ⟨S128x4x1, .f32⟩
  | 125 => ⟨S128x4x1, .f32⟩
  | 126 => ⟨S_, .f32⟩
  | 127 => ⟨S128x4x1, .f32⟩
  | _ => ⟨S8192x12544, .f32⟩

abbrev hbmTy0_1 (i : Nat) : BufTy := match i % 128 with
  | 0 => ⟨S128x4x1, .f32⟩
  | 1 => ⟨S128x4, .f32⟩
  | 2 => ⟨S128x4x1, .f32⟩
  | 3 => ⟨S128x4x1, .f32⟩
  | 4 => ⟨S128x4x1, .f32⟩
  | 5 => ⟨S128x4x1, .f32⟩
  | 6 => ⟨S128x4x1, .f32⟩
  | 7 => ⟨S128x4, .f32⟩
  | 8 => ⟨S128x4, .f32⟩
  | 9 => ⟨S128x4, .f32⟩
  | 10 => ⟨S128x4, .f32⟩
  | 11 => ⟨S128x4x1x1, .f32⟩
  | 12 => ⟨S128x4x256x256, .f32⟩
  | 13 => ⟨S128x4x256x256, .f32⟩
  | 14 => ⟨S128x4x1x1, .f32⟩
  | 15 => ⟨S128x4x1x256, .f32⟩
  | 16 => ⟨S128x4x1x256, .f32⟩
  | 17 => ⟨S128x4x256x256, .f32⟩
  | 18 => ⟨S128x4x256x256, .f32⟩
  | 19 => ⟨S128x4x1, .f32⟩
  | 20 => ⟨S128x4x256, .f32⟩
  | 21 => ⟨S128x4x256, .f32⟩
  | 22 => ⟨S128x4x256, .f32⟩
  | 23 => ⟨S128x4x256, .f32⟩
  | 24 => ⟨S1x128x4x256x256, .f32⟩
  | 25 => ⟨S1x128x4x256, .f32⟩
  | 26 => ⟨S1x128x4, .f32⟩
  | _ => ⟨S8192x12544, .f32⟩

abbrev hbmTy (i : Nat) : BufTy := match i / 128 with
  | 0 => hbmTy0_0 i
  | 1 => hbmTy0_1 i
  | _ => ⟨S8192x12544, .f32⟩

abbrev bufTy : (tb : Table) → Fin (tcTables nBuf tb) → BufTy
  | .hbm, ⟨i, _⟩ => hbmTy i
  | _, _ => ⟨S8192x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_v0 : Ref sig .tc := ⟨.hbm, 80, rfl⟩
abbrev main_call1_call0_cst : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_call0_v2 : Ref sig .tc := ⟨.hbm, 84, rfl⟩
abbrev main_call1_call0_v3 : Ref sig .tc := ⟨.hbm, 85, rfl⟩
abbrev main_call1_call0_v4 : Ref sig .tc := ⟨.hbm, 86, rfl⟩
abbrev main_call1_call0_v5 : Ref sig .tc := ⟨.hbm, 87, rfl⟩
abbrev main_call1_call0_v6 : Ref sig .tc := ⟨.hbm, 88, rfl⟩
abbrev main_call1_call0_v7 : Ref sig .tc := ⟨.hbm, 89, rfl⟩
abbrev main_call1_call0_v8 : Ref sig .tc := ⟨.hbm, 90, rfl⟩
abbrev main_call1_call0_v9 : Ref sig .tc := ⟨.hbm, 91, rfl⟩
abbrev main_call1_call0_v10 : Ref sig .tc := ⟨.hbm, 92, rfl⟩
abbrev main_call1_call0_v11 : Ref sig .tc := ⟨.hbm, 93, rfl⟩
abbrev main_call1_v1 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c : Ref sig .tc := ⟨.hbm, 100, rfl⟩
abbrev main_v65 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_0 : Ref sig .tc := ⟨.hbm, 108, rfl⟩
abbrev main_call2_v5 : Ref sig .tc := ⟨.hbm, 109, rfl⟩
abbrev main_v66 : Ref sig .tc := ⟨.hbm, 110, rfl⟩
abbrev main_call3_call0_cst : Ref sig .tc := ⟨.hbm, 111, rfl⟩
abbrev main_call3_call0_v0 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_0 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_1 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩

abbrev nD : Nat := 1
abbrev τ : Topo := Topo.v7x

variable {F : FTy → Type} [FloatOps F]
-- ==== Proof.Run.lean ====
module

public import proofs.«01_k».proof.Proof.Gen.KernelIdeal.Frame

/-! # The run of the projection program, with every buffer named

The generated frame says only that the arguments survive. The same launch proves more: at the end every unscoped buffer
holds what the fold over @main's segments (`Gen.W5`) leaves in it. -/

@[expose] public section

set_option maxRecDepth 16384

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with every unscoped buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.KernelIdeal.Whole

end
-- ==== Proof.Pack.lean ====
module

public import proofs.«01_k».proof.Proof.Gen.KernelIdeal.Frame
public import Idealize.ShloMosaic.Lib.Pipeline.ValueKit
public import Idealize.ShloMosaic.Lib.Pipeline.Covers
public import Idealize.ShloMosaic.Lib.Pointwise

/-! # The weight call over the reals

The call that rearranges the projection weight reads blocks of 1024 rows at element offsets. It leaves the rows of the
weight in the packed order, the three gates last and zero rows after them, and multiplies the samples by the packed rows
as it goes. -/

@[expose] public section

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

/-- The weight row that the packed row `r` holds: eight runs of consecutive rows. -/
def srcRow (r : ℕ) : ℕ :=
  if r < 2048 then r else if r < 3072 then r + 3080 else if r < 4096 then r - 1024 else if r < 6144 then r - 1016
  else if r < 7168 then r + 8 else if r < 12288 then r + 24 else if r < 12296 then r - 9216 else r - 5120

theorem srcRow_lt (r : ℕ) (h : r < 12312) : srcRow r < 12312 := by unfold srcRow; split_ifs <;> omega

theorem srcRow_block (t y : ℕ) (ht : t < 12) (hy : y < 1024) : srcRow (1024 * t + y) = srcRow (1024 * t) + y := by
  interval_cases t <;> norm_num [srcRow] <;> split_ifs <;> omega

/-- The packed weight: row `r` is row `srcRow r` of the weight, and the rows from 12312 on are zero. -/
def packW (X : FVec Ideal S12312x2048 .f32) : FVec Ideal S12544x2048 .bf16 :=
  fun i => if h : (i 0 : ℕ) < 12312 then X (ix2 ⟨srcRow (i 0), srcRow_lt _ h⟩ (i 1)) else 0

theorem packW_of_lt (X : FVec Ideal S12312x2048 .f32) (i : S12544x2048.Idx) (k : S12312x2048.Idx) (h : (i 0 : ℕ) < 12312)
    (h0 : (k 0 : ℕ) = srcRow (i 0)) (h1 : (k 1 : ℕ) = i 1) : packW X i = X k := by
  unfold packW
  rw [dif_pos h]
  refine congrArg X (funext fun a => ?_)
  match a with
  | 0 => exact Fin.ext h0.symm
  | 1 => exact Fin.ext h1.symm

theorem packW_of_ge (X : FVec Ideal S12312x2048 .f32) (i : S12544x2048.Idx) (h : 12312 ≤ (i 0 : ℕ)) : packW X i = 0 := by
  unfold packW; rw [dif_neg (by omega)]

theorem idx0 : ∀ t : Fin cfg0.N, (t.val < 12 → win0_0.index t = ![srcRow (1024 * t.val), 0]) ∧ win0_1.index t = ![384, 0]
    ∧ win0_2.index t = ![897, 0] ∧ win0_3.index t = ![898, 0] ∧ win0_4.index t = ![0, 0] ∧ win0_5.index t = ![t.val, 0]
    ∧ win0_6.index t = ![0, t.val] :=
  (by decide +kernel : ∀ t : Fin grid0.N, (t.val < 12 → win0_0.index t = ![srcRow (1024 * t.val), 0]) ∧ win0_1.index t = ![384, 0]
    ∧ win0_2.index t = ![897, 0] ∧ win0_3.index t = ![898, 0] ∧ win0_4.index t = ![0, 0] ∧ win0_5.index t = ![t.val, 0]
    ∧ win0_6.index t = ![0, t.val])

variable (V : (c : Dev nD) → (b : Ref sig .tc) → Buf (Elt Ideal) ((c : Thread nD τ).loc b))

theorem k0_pay1_apply (x : Vec Ideal S1024x2048 .f32) (i : S1024x2048.Idx) : k0_pay1 (F := Ideal) x i = x i := by
  pointwise [k0_pay1]

theorem k0_pay2_apply (a b d : Vec Ideal S8x2048 .f32) (i : S1024x2048.Idx) : k0_pay2 (F := Ideal) a b d i =
    if h : (i 0 : ℕ) < 8 then a (ix2 ⟨i 0, h⟩ (i 1)) else if h : (i 0 : ℕ) - 8 < 8 then b (ix2 ⟨i 0 - 8, h⟩ (i 1))
    else if h : (i 0 : ℕ) - 8 - 8 < 8 then d (ix2 ⟨i 0 - 8 - 8, h⟩ (i 1)) else 0 := by
  pointwise [k0_pay2]

theorem k0_pay3_apply (x : Vec Ideal S128x2048 .f32) (w : Vec Ideal S1024x2048 .bf16) (i : S128x1024.Idx) :
    k0_pay3 (F := Ideal) x w i = ∑ k : Fin 2048, x (ix2 (i 0) k) * w (ix2 (i 1) k) := by
  pointwise [k0_pay3]

/-- The block of packed rows at a point below 12. -/
theorem body_value (c : Dev nD) (t : Fin cfg0.N) (h : t.val < 12) (y : S1024x2048.Idx) (j : S12544x2048.Idx)
    (h0 : (j 0 : ℕ) = t.val * 1024 + y 0) (h1 : (j 1 : ℕ) = y 1) :
    k0_pay1 (iblk0 V c 0 t) y = packW (V c main_v2) j := by
  have hy : (y 0 : ℕ) < 1024 := (y 0).isLt
  rw [k0_pay1_apply]
  refine (packW_of_lt (V c main_v2) j ((win0_0.rect t).emb y) (by omega) ?_ ?_).symm
  · rw [Pipeline.Window.rect_emb_val_off, (idx0 t).1 h, h0, Nat.mul_comm t.val, srcRow_block _ _ h hy]
    rfl
  · rw [Pipeline.Window.rect_emb_val_off, (idx0 t).1 h, h1]
    exact Nat.zero_add _

/-- The last block of packed rows: the gates' rows, and zeros below them. -/
theorem tail_value (c : Dev nD) (t : Fin cfg0.N) (h : t.val = 12) (y : S1024x2048.Idx) (j : S12544x2048.Idx)
    (h0 : (j 0 : ℕ) = t.val * 1024 + y 0) (h1 : (j 1 : ℕ) = y 1) :
    k0_pay2 (iblk0 V c 1 t) (iblk0 V c 2 t) (iblk0 V c 3 t) y = packW (V c main_v2) j := by
  rw [k0_pay2_apply]
  split_ifs with g0 g1 g2
  · refine (packW_of_lt (V c main_v2) j ((win0_1.rect t).emb (ix2 ⟨y 0, g0⟩ (y 1))) (by omega) ?_ ?_).symm
    · rw [Pipeline.Window.rect_emb_val_off, (idx0 t).2.1]
      show 384 * 8 + (y 0 : ℕ) = srcRow (j 0)
      unfold srcRow; split_ifs <;> omega
    · rw [Pipeline.Window.rect_emb_val_off, (idx0 t).2.1, h1]
      exact (congrArg (· + (y 1 : ℕ)) (Nat.zero_mul _)).trans (Nat.zero_add _)
  · refine (packW_of_lt (V c main_v2) j ((win0_2.rect t).emb (ix2 ⟨y 0 - 8, g1⟩ (y 1))) (by omega) ?_ ?_).symm
    · rw [Pipeline.Window.rect_emb_val_off, (idx0 t).2.2.1]
      show 897 * 8 + ((y 0 : ℕ) - 8) = srcRow (j 0)
      unfold srcRow; split_ifs <;> omega
    · rw [Pipeline.Window.rect_emb_val_off, (idx0 t).2.2.1, h1]
      exact (congrArg (· + (y 1 : ℕ)) (Nat.zero_mul _)).trans (Nat.zero_add _)
  · refine (packW_of_lt (V c main_v2) j ((win0_3.rect t).emb (ix2 ⟨y 0 - 8 - 8, g2⟩ (y 1))) (by omega) ?_ ?_).symm
    · rw [Pipeline.Window.rect_emb_val_off, (idx0 t).2.2.2.1]
      show 898 * 8 + ((y 0 : ℕ) - 8 - 8) = srcRow (j 0)
      unfold srcRow; split_ifs <;> omega
    · rw [Pipeline.Window.rect_emb_val_off, (idx0 t).2.2.2.1, h1]
      exact (congrArg (· + (y 1 : ℕ)) (Nat.zero_mul _)).trans (Nat.zero_add _)
  · exact (packW_of_ge _ _ (by omega)).symm

theorem point_cases (t : Fin cfg0.N) : t.val < 12 ∧ ¬ t.val % 13 = 12 ∨ t.val = 12 ∧ ¬ t.val < 12 ∧ t.val % 13 = 12 := by
  have h := t.isLt
  have e : cfg0.N = 13 := N_0
  omega

/-- Where an element of the packed block at `t` lies in the array. -/
theorem emb5 (t : Fin cfg0.N) (y : (win0_5.xblock (grid0.coords t)).Idx) :
    (((win0_5.rect t).emb y 0 : Fin _) : ℕ) = t.val * 1024 + y 0 ∧ (((win0_5.rect t).emb y 1 : Fin _) : ℕ) = y 1 := by
  constructor
  · rw [Pipeline.Window.rect_emb_val_off, (idx0 t).2.2.2.2.2.1]; rfl
  · rw [Pipeline.Window.rect_emb_val_off, (idx0 t).2.2.2.2.2.1]
    exact (congrArg (· + (y 1 : ℕ)) (Nat.zero_mul _)).trans (Nat.zero_add _)

/-- Where an element of the samples' block at `t` lies in the array. -/
theorem emb6 (t : Fin cfg0.N) (y : (win0_6.xblock (grid0.coords t)).Idx) :
    (((win0_6.rect t).emb y 0 : Fin _) : ℕ) = y 0 ∧ (((win0_6.rect t).emb y 1 : Fin _) : ℕ) = t.val * 1024 + y 1 := by
  constructor
  · rw [Pipeline.Window.rect_emb_val_off, (idx0 t).2.2.2.2.2.2]
    exact (congrArg (· + (y 0 : ℕ)) (Nat.zero_mul _)).trans (Nat.zero_add _)
  · rw [Pipeline.Window.rect_emb_val_off, (idx0 t).2.2.2.2.2.2]; rfl

/-- The packed weight, as the call leaves it. -/
theorem pack_value (c : Dev nD) : (dat0 (F := Ideal) V c).arrAt 5 cfg0.N = packW (V c main_v2) := by
  refine (dat0 V c).arrAt_eq_of_covers 5 _ (by decide +kernel) fun t _ y => ?_
  blk_simp
  rw [after0_5]
  rcases point_cases t with ⟨h0, h1⟩ | ⟨ht, h0, h1⟩
  · rw [outsAt0_A V c t h0 h1]
    frame_out
    exact body_value V c t h0 _ _ (emb5 t y).1 (emb5 t y).2
  · rw [outsAt0_B V c t h0 h1]
    frame_out
    exact tail_value V c t ht _ _ (emb5 t y).1 (emb5 t y).2

/-- Rows of the samples against rows of `w`. -/
def prodS (x : FVec Ideal S128x2048 .f32) (w : FVec Ideal S12544x2048 .bf16) : FVec Ideal S128x12544 .f32 :=
  fun i => ∑ k : Fin 2048, x (ix2 (i 0) k) * w (ix2 (i 1) k)

/-- The samples' block at `t` is the whole array of samples. -/
theorem iblk0_4 (c : Dev nD) (t : Fin cfg0.N) (y y' : S128x2048.Idx) (h0 : (y 0 : ℕ) = y' 0) (h1 : (y 1 : ℕ) = y' 1) :
    (show FVec Ideal S128x2048 .f32 from iblk0 V c 4 t) y = (show FVec Ideal S128x2048 .f32 from V c main_v0) y' := by
  refine congrArg (show FVec Ideal S128x2048 .f32 from V c main_v0) (?_ : (win0_4.rect t).emb y = y')
  funext a
  refine Fin.ext ?_
  rw [Pipeline.Window.rect_emb_val_of_index_zero win0_4 t a (by rw [(idx0 t).2.2.2.2.1]; match a with | 0 => rfl | 1 => rfl) y]
  match a with
  | 0 => exact h0
  | 1 => exact h1

/-- The samples' product, as the call leaves it. -/
theorem sample_value (c : Dev nD) : (dat0 (F := Ideal) V c).arrAt 6 cfg0.N = prodS (V c main_v0) (packW (V c main_v2)) := by
  refine (dat0 V c).arrAt_eq_of_covers 6 _ (by decide +kernel) fun t _ y => ?_
  blk_simp
  rw [after0_6]
  rcases point_cases t with ⟨h0, h1⟩ | ⟨ht, h0, h1⟩
  · rw [outsAt0_A V c t h0 h1]
    frame_out
    rw [k0_pay3_apply]
    refine Fin.sum_fin_congr fun k => congrArg₂ (· * ·) (iblk0_4 V c t _ _ (emb6 t y).1.symm rfl) ?_
    exact body_value V c t h0 _ _ (emb6 t y).2 rfl
  · rw [outsAt0_B V c t h0 h1]
    frame_out
    rw [k0_pay3_apply]
    refine Fin.sum_fin_congr fun k => congrArg₂ (· * ·) (iblk0_4 V c t _ _ (emb6 t y).1.symm rfl) ?_
    exact tail_value V c t ht _ _ (emb6 t y).2 rfl

end Cert.KernelIdeal.Whole

end
-- ==== Proof.Ref.lean ====
module

public import proofs.«01_k».proof.Proof.Gen.ReferenceIdeal.Run
public import proofs.«01_k».proof.Proof.Gen.ReferenceIdeal.Read
public import proofs.«01_k».proof.Proof.Pack
public import Idealize.ShloMosaic.Lib.Pipeline.Value

/-! # The reference of the projection program, entry by entry

A column of the reference's packed projection lies in one of thirteen pieces, or in the zero columns after them. In
every piece the column is the inner product with the weight's column `srcRow` names, so one formula serves all. -/

@[expose] public section

set_option maxRecDepth 16384

noncomputable section

namespace Cert.ReferenceIdeal.Whole

open Idealize.ShloMosaic Idealize.ShloMosaic.TcCoe Idealize.SL.Sem
open Cert.ReferenceIdeal Cert.ReferenceIdeal.Value Cert.ReferenceIdeal.Read
open Cert.KernelIdeal.Whole (srcRow srcRow_lt)

/-- One entry of the prompt's projection: batch row `a`, position `s`, weight column `r`. -/
def entryP (x : FVec Ideal S4x2048x2048 .f32) (w : FVec Ideal S1x2048x12312 .f32) (a : Fin 4) (s : Fin 2048) (r : Fin 12312) : EReal :=
  ∑ k : Fin 2048, x (ix3 a s k) * w (ix3 0 k r)

/-- One entry of the samples' projection: sample `n`, weight column `r`. -/
def entryS (x : FVec Ideal S128x1x2048 .f32) (w : FVec Ideal S1x2048x12312 .f32) (n : Fin 128) (r : Fin 12312) : EReal :=
  ∑ k : Fin 2048, x (ix3 n 0 k) * w (ix3 0 k r)

/-- The prompt's projection in the packed column order. -/
def resP (x : FVec Ideal S4x2048x2048 .f32) (w : FVec Ideal S1x2048x12312 .f32) : FVec Ideal S8192x12544 .f32 :=
  fun i => if h : (i 1 : ℕ) < 12312 then
    entryP x w ⟨(i 0 : ℕ) / 2048, by have h0 : (i 0 : ℕ) < 8192 := (i 0).isLt; omega⟩ ⟨(i 0 : ℕ) % 2048, by omega⟩ ⟨srcRow (i 1), srcRow_lt _ h⟩
  else 0

/-- The samples' projection in the packed column order. -/
def resS (x : FVec Ideal S128x1x2048 .f32) (w : FVec Ideal S1x2048x12312 .f32) : FVec Ideal S128x12544 .f32 :=
  fun i => if h : (i 1 : ℕ) < 12312 then entryS x w (i 0) ⟨srcRow (i 1), srcRow_lt _ h⟩ else 0

theorem entryP_congr (x : FVec Ideal S4x2048x2048 .f32) (w : FVec Ideal S1x2048x12312 .f32) {a a' : Fin 4} {s s' : Fin 2048}
    {r r' : Fin 12312} (ha : (a : ℕ) = a') (hs : (s : ℕ) = s') (hr : (r : ℕ) = r') : entryP x w a s r = entryP x w a' s' r' := by
  obtain rfl := Fin.ext ha; obtain rfl := Fin.ext hs; obtain rfl := Fin.ext hr; rfl

theorem entryS_congr (x : FVec Ideal S128x1x2048 .f32) (w : FVec Ideal S1x2048x12312 .f32) {n n' : Fin 128} {r r' : Fin 12312}
    (hn : (n : ℕ) = n') (hr : (r : ℕ) = r') : entryS x w n r = entryS x w n' r' := by
  obtain rfl := Fin.ext hn; obtain rfl := Fin.ext hr; rfl

theorem resP_of_ge (x : FVec Ideal S4x2048x2048 .f32) (w : FVec Ideal S1x2048x12312 .f32) (i : S8192x12544.Idx)
    (h : 12312 ≤ (i 1 : ℕ)) : resP x w i = 0 := by unfold resP; rw [dif_neg (by omega)]

theorem resS_of_ge (x : FVec Ideal S128x1x2048 .f32) (w : FVec Ideal S1x2048x12312 .f32) (i : S128x12544.Idx)
    (h : 12312 ≤ (i 1 : ℕ)) : resS x w i = 0 := by unfold resS; rw [dif_neg (by omega)]

theorem resP_of_lt (x : FVec Ideal S4x2048x2048 .f32) (w : FVec Ideal S1x2048x12312 .f32) (i : S8192x12544.Idx) (h : (i 1 : ℕ) < 12312)
    (a : Fin 4) (s : Fin 2048) (r : Fin 12312) (ha : (a : ℕ) = (i 0 : ℕ) / 2048) (hs : (s : ℕ) = (i 0 : ℕ) % 2048)
    (hr : (r : ℕ) = srcRow (i 1)) : resP x w i = entryP x w a s r := by
  unfold resP; rw [dif_pos h]; exact entryP_congr x w ha.symm hs.symm hr.symm

theorem resS_of_lt (x : FVec Ideal S128x1x2048 .f32) (w : FVec Ideal S1x2048x12312 .f32) (i : S128x12544.Idx) (h : (i 1 : ℕ) < 12312)
    (n : Fin 128) (r : Fin 12312) (hn : (n : ℕ) = (i 0 : ℕ)) (hr : (r : ℕ) = srcRow (i 1)) : resS x w i = entryS x w n r := by
  unfold resS; rw [dif_pos h]; exact entryS_congr x w hn.symm hr.symm

variable (x : FVec Ideal S4x2048x2048 .f32) (xs : FVec Ideal S128x1x2048 .f32) (w : FVec Ideal S1x2048x12312 .f32)

theorem prod_P (j : S4x2048x12312.Idx) : val_main_v2 (F := Ideal) x w j = entryP x w (j 0) (j 1) (j 2) := by
  rw [val_main_v2_apply]
  unfold entryP
  refine Fin.sum_fin_congr fun k => ?_
  rw [val_main_v1_apply]
  refine congrArg₂ (· * ·) (congrArg x (funext fun a => ?_)) (congrArg w (funext fun a => ?_))
  · match a with
    | 0 => rfl
    | 1 => rfl
    | 2 => rfl
  · have hk := k.isLt
    have hj : (j 2 : ℕ) < 12312 := (j 2).isLt
    match a with
    | 0 => rfl
    | 1 => exact Fin.ext (by show ((k : ℕ) * 12312 + (j 2 : ℕ)) / 12312 % 2048 = k; omega)
    | 2 => exact Fin.ext (by show ((k : ℕ) * 12312 + (j 2 : ℕ)) % 12312 = (j 2 : ℕ); omega)

theorem prod_S (j : S128x1x12312.Idx) : val_main_v36 (F := Ideal) xs w j = entryS xs w (j 0) (j 2) := by
  rw [val_main_v36_apply]
  unfold entryS
  refine Fin.sum_fin_congr fun k => ?_
  rw [val_main_v35_apply]
  refine congrArg₂ (· * ·) (congrArg xs (funext fun a => ?_)) (congrArg w (funext fun a => ?_))
  · match a with
    | 0 => rfl
    | 1 => exact Fin.ext (by have h : (j 1 : ℕ) < 1 := (j 1).isLt; show (j 1 : ℕ) = 0; omega)
    | 2 => rfl
  · have hk := k.isLt
    have hj : (j 2 : ℕ) < 12312 := (j 2).isLt
    match a with
    | 0 => rfl
    | 1 => exact Fin.ext (by show ((k : ℕ) * 12312 + (j 2 : ℕ)) / 12312 % 2048 = k; omega)
    | 2 => exact Fin.ext (by show ((k : ℕ) * 12312 + (j 2 : ℕ)) % 12312 = (j 2 : ℕ); omega)

/-- Reading a concatenation along the columns in its piece `k`, which starts at column `pre`; `ss` are the pieces' shapes. -/
theorem piece {n p q : ℕ} (xs : List ((s : Shape) × (s.Idx → EReal))) (ss : List Shape) (hs : xs.map (·.1) = ss)
    (h : Shape.Concatenates (xs.map (·.1)) ⟨2, ![n, p]⟩ 1)
    (i : Shape.Idx ⟨2, ![n, p]⟩) (k : ℕ) (hk : k < ss.length) (f : Shape.Idx ⟨2, ![n, q]⟩ → EReal)
    (hxk : ∀ hk' : k < xs.length, xs[k] = ⟨⟨2, ![n, q]⟩, f⟩) (pre : ℕ)
    (hpre : ((ss.take k).map fun s => if h : s.rank = 2 then s.size (Fin.cast h.symm 1) else 0).sum = pre)
    (lo : pre ≤ (i 1 : ℕ)) (hi : (i 1 : ℕ) - pre < q) :
    concatenate ⟨2, ![n, p]⟩ 1 xs h i = f (ix2 (i 0) ⟨(i 1 : ℕ) - pre, hi⟩) := by
  have hk' : k < xs.length := by rw [← hs, List.length_map] at hk; exact hk
  refine concatenate_apply_piece 1 xs h i k hk' _ f (hxk hk') rfl pre ?_ _
    (fun b hb => by
      match b with
      | 0 => rfl
      | 1 => exact absurd rfl hb)
    (by show pre + ((i 1 : ℕ) - pre) = (i 1 : ℕ); omega)
  rw [← hpre, ← hs, List.map_take]

/-- The pieces of the prompt's packed projection. -/
def widths (n : ℕ) : List Shape := [2048, 512, 512, 1024, 1024, 1024, 1024, 1024, 2048, 2048, 4, 4, 16, 232].map fun q => ⟨2, ![n, q]⟩

theorem srcRow_0 (r : ℕ) (lo : 0 ≤ r) (hi : r < 2048) : srcRow r = 0 + (r - 0) := by
  unfold srcRow; split_ifs <;> omega

theorem srcRow_1 (r : ℕ) (lo : 2048 ≤ r) (hi : r < 2560) : srcRow r = 5128 + (r - 2048) := by
  unfold srcRow; split_ifs <;> omega

theorem srcRow_2 (r : ℕ) (lo : 2560 ≤ r) (hi : r < 3072) : srcRow r = 5640 + (r - 2560) := by
  unfold srcRow; split_ifs <;> omega

theorem srcRow_3 (r : ℕ) (lo : 3072 ≤ r) (hi : r < 4096) : srcRow r = 2048 + (r - 3072) := by
  unfold srcRow; split_ifs <;> omega

theorem srcRow_4 (r : ℕ) (lo : 4096 ≤ r) (hi : r < 5120) : srcRow r = 3080 + (r - 4096) := by
  unfold srcRow; split_ifs <;> omega

theorem srcRow_5 (r : ℕ) (lo : 5120 ≤ r) (hi : r < 6144) : srcRow r = 4104 + (r - 5120) := by
  unfold srcRow; split_ifs <;> omega

theorem srcRow_6 (r : ℕ) (lo : 6144 ≤ r) (hi : r < 7168) : srcRow r = 6152 + (r - 6144) := by
  unfold srcRow; split_ifs <;> omega

theorem srcRow_7 (r : ℕ) (lo : 7168 ≤ r) (hi : r < 8192) : srcRow r = 7192 + (r - 7168) := by
  unfold srcRow; split_ifs <;> omega

theorem srcRow_8 (r : ℕ) (lo : 8192 ≤ r) (hi : r < 10240) : srcRow r = 8216 + (r - 8192) := by
  unfold srcRow; split_ifs <;> omega

theorem srcRow_9 (r : ℕ) (lo : 10240 ≤ r) (hi : r < 12288) : srcRow r = 10264 + (r - 10240) := by
  unfold srcRow; split_ifs <;> omega

theorem srcRow_10 (r : ℕ) (lo : 12288 ≤ r) (hi : r < 12292) : srcRow r = 3072 + (r - 12288) := by
  unfold srcRow; split_ifs <;> omega

theorem srcRow_11 (r : ℕ) (lo : 12292 ≤ r) (hi : r < 12296) : srcRow r = 3076 + (r - 12292) := by
  unfold srcRow; split_ifs <;> omega

theorem srcRow_12 (r : ℕ) (lo : 12296 ≤ r) (hi : r < 12312) : srcRow r = 7176 + (r - 12296) := by
  unfold srcRow; split_ifs <;> omega

theorem packed_P_0 (i : S8192x12544.Idx) (lo : 0 ≤ (i 1 : ℕ)) (hi : (i 1 : ℕ) < 2048) :
    val_main_v30 (F := Ideal) x w i = resP x w i := by
  have h0 : (i 0 : ℕ) < 8192 := (i 0).isLt
  unfold val_main_v30
  rw [piece _ (widths 8192) rfl _ i 0 (by decide +kernel) (val_main_v17 (F := Ideal) x w) (fun _ => rfl) 0 (by decide +kernel) lo (by omega), val_main_v17_apply, val_main_v3_apply, prod_P]
  refine (resP_of_lt x w i (by omega) _ _ _ ?_ ?_ ?_).symm
  · show ((i 0 : ℕ) * 2048 + ((i 1 : ℕ) - 0)) / 4194304 = (i 0 : ℕ) / 2048; omega
  · show ((i 0 : ℕ) * 2048 + ((i 1 : ℕ) - 0)) / 2048 % 2048 = (i 0 : ℕ) % 2048; omega
  · show ((i 0 : ℕ) * 2048 + ((i 1 : ℕ) - 0)) % 2048 = srcRow (i 1); rw [srcRow_0 _ lo hi]; omega

theorem packed_P_1 (i : S8192x12544.Idx) (lo : 2048 ≤ (i 1 : ℕ)) (hi : (i 1 : ℕ) < 2560) :
    val_main_v30 (F := Ideal) x w i = resP x w i := by
  have h0 : (i 0 : ℕ) < 8192 := (i 0).isLt
  unfold val_main_v30
  rw [piece _ (widths 8192) rfl _ i 1 (by decide +kernel) (val_main_v18 (F := Ideal) x w) (fun _ => rfl) 2048 (by decide +kernel) lo (by omega), val_main_v18_apply, val_main_v9_apply, prod_P]
  refine (resP_of_lt x w i (by omega) _ _ _ ?_ ?_ ?_).symm
  · show ((i 0 : ℕ) * 512 + ((i 1 : ℕ) - 2048)) / 1048576 = (i 0 : ℕ) / 2048; omega
  · show ((i 0 : ℕ) * 512 + ((i 1 : ℕ) - 2048)) / 512 % 2048 = (i 0 : ℕ) % 2048; omega
  · show 5128 + ((i 0 : ℕ) * 512 + ((i 1 : ℕ) - 2048)) % 512 = srcRow (i 1); rw [srcRow_1 _ lo hi]; omega

theorem packed_P_2 (i : S8192x12544.Idx) (lo : 2560 ≤ (i 1 : ℕ)) (hi : (i 1 : ℕ) < 3072) :
    val_main_v30 (F := Ideal) x w i = resP x w i := by
  have h0 : (i 0 : ℕ) < 8192 := (i 0).isLt
  unfold val_main_v30
  rw [piece _ (widths 8192) rfl _ i 2 (by decide +kernel) (val_main_v19 (F := Ideal) x w) (fun _ => rfl) 2560 (by decide +kernel) lo (by omega), val_main_v19_apply, val_main_v10_apply, prod_P]
  refine (resP_of_lt x w i (by omega) _ _ _ ?_ ?_ ?_).symm
  · show ((i 0 : ℕ) * 512 + ((i 1 : ℕ) - 2560)) / 1048576 = (i 0 : ℕ) / 2048; omega
  · show ((i 0 : ℕ) * 512 + ((i 1 : ℕ) - 2560)) / 512 % 2048 = (i 0 : ℕ) % 2048; omega
  · show 5640 + ((i 0 : ℕ) * 512 + ((i 1 : ℕ) - 2560)) % 512 = srcRow (i 1); rw [srcRow_2 _ lo hi]; omega

theorem packed_P_3 (i : S8192x12544.Idx) (lo : 3072 ≤ (i 1 : ℕ)) (hi : (i 1 : ℕ) < 4096) :
    val_main_v30 (F := Ideal) x w i = resP x w i := by
  have h0 : (i 0 : ℕ) < 8192 := (i 0).isLt
  unfold val_main_v30
  rw [piece _ (widths 8192) rfl _ i 3 (by decide +kernel) (val_main_v20 (F := Ideal) x w) (fun _ => rfl) 3072 (by decide +kernel) lo (by omega), val_main_v20_apply, val_main_v4_apply, prod_P]
  refine (resP_of_lt x w i (by omega) _ _ _ ?_ ?_ ?_).symm
  · show ((i 0 : ℕ) * 1024 + ((i 1 : ℕ) - 3072)) / 2097152 = (i 0 : ℕ) / 2048; omega
  · show ((i 0 : ℕ) * 1024 + ((i 1 : ℕ) - 3072)) / 1024 % 2048 = (i 0 : ℕ) % 2048; omega
  · show 2048 + ((i 0 : ℕ) * 1024 + ((i 1 : ℕ) - 3072)) % 1024 = srcRow (i 1); rw [srcRow_3 _ lo hi]; omega

theorem packed_P_4 (i : S8192x12544.Idx) (lo : 4096 ≤ (i 1 : ℕ)) (hi : (i 1 : ℕ) < 5120) :
    val_main_v30 (F := Ideal) x w i = resP x w i := by
  have h0 : (i 0 : ℕ) < 8192 := (i 0).isLt
  unfold val_main_v30
  rw [piece _ (widths 8192) rfl _ i 4 (by decide +kernel) (val_main_v21 (F := Ideal) x w) (fun _ => rfl) 4096 (by decide +kernel) lo (by omega), val_main_v21_apply, val_main_v7_apply, prod_P]
  refine (resP_of_lt x w i (by omega) _ _ _ ?_ ?_ ?_).symm
  · show ((i 0 : ℕ) * 1024 + ((i 1 : ℕ) - 4096)) / 2097152 = (i 0 : ℕ) / 2048; omega
  · show ((i 0 : ℕ) * 1024 + ((i 1 : ℕ) - 4096)) / 1024 % 2048 = (i 0 : ℕ) % 2048; omega
  · show 3080 + ((i 0 : ℕ) * 1024 + ((i 1 : ℕ) - 4096)) % 1024 = srcRow (i 1); rw [srcRow_4 _ lo hi]; omega

theorem packed_P_5 (i : S8192x12544.Idx) (lo : 5120 ≤ (i 1 : ℕ)) (hi : (i 1 : ℕ) < 6144) :
    val_main_v30 (F := Ideal) x w i = resP x w i := by
  have h0 : (i 0 : ℕ) < 8192 := (i 0).isLt
  unfold val_main_v30
  rw [piece _ (widths 8192) rfl _ i 5 (by decide +kernel) (val_main_v22 (F := Ideal) x w) (fun _ => rfl) 5120 (by decide +kernel) lo (by omega), val_main_v22_apply, val_main_v8_apply, prod_P]
  refine (resP_of_lt x w i (by omega) _ _ _ ?_ ?_ ?_).symm
  · show ((i 0 : ℕ) * 1024 + ((i 1 : ℕ) - 5120)) / 2097152 = (i 0 : ℕ) / 2048; omega
  · show ((i 0 : ℕ) * 1024 + ((i 1 : ℕ) - 5120)) / 1024 % 2048 = (i 0 : ℕ) % 2048; omega
  · show 4104 + ((i 0 : ℕ) * 1024 + ((i 1 : ℕ) - 5120)) % 1024 = srcRow (i 1); rw [srcRow_5 _ lo hi]; omega

theorem packed_P_6 (i : S8192x12544.Idx) (lo : 6144 ≤ (i 1 : ℕ)) (hi : (i 1 : ℕ) < 7168) :
    val_main_v30 (F := Ideal) x w i = resP x w i := by
  have h0 : (i 0 : ℕ) < 8192 := (i 0).isLt
  unfold val_main_v30
  rw [piece _ (widths 8192) rfl _ i 6 (by decide +kernel) (val_main_v23 (F := Ideal) x w) (fun _ => rfl) 6144 (by decide +kernel) lo (by omega), val_main_v23_apply, val_main_v11_apply, prod_P]
  refine (resP_of_lt x w i (by omega) _ _ _ ?_ ?_ ?_).symm
  · show ((i 0 : ℕ) * 1024 + ((i 1 : ℕ) - 6144)) / 2097152 = (i 0 : ℕ) / 2048; omega
  · show ((i 0 : ℕ) * 1024 + ((i 1 : ℕ) - 6144)) / 1024 % 2048 = (i 0 : ℕ) % 2048; omega
  · show 6152 + ((i 0 : ℕ) * 1024 + ((i 1 : ℕ) - 6144)) % 1024 = srcRow (i 1); rw [srcRow_6 _ lo hi]; omega

theorem packed_P_7 (i : S8192x12544.Idx) (lo : 7168 ≤ (i 1 : ℕ)) (hi : (i 1 : ℕ) < 8192) :
    val_main_v30 (F := Ideal) x w i = resP x w i := by
  have h0 : (i 0 : ℕ) < 8192 := (i 0).isLt
  unfold val_main_v30
  rw [piece _ (widths 8192) rfl _ i 7 (by decide +kernel) (val_main_v24 (F := Ideal) x w) (fun _ => rfl) 7168 (by decide +kernel) lo (by omega), val_main_v24_apply, val_main_v13_apply, prod_P]
  refine (resP_of_lt x w i (by omega) _ _ _ ?_ ?_ ?_).symm
  · show ((i 0 : ℕ) * 1024 + ((i 1 : ℕ) - 7168)) / 2097152 = (i 0 : ℕ) / 2048; omega
  · show ((i 0 : ℕ) * 1024 + ((i 1 : ℕ) - 7168)) / 1024 % 2048 = (i 0 : ℕ) % 2048; omega
  · show 7192 + ((i 0 : ℕ) * 1024 + ((i 1 : ℕ) - 7168)) % 1024 = srcRow (i 1); rw [srcRow_7 _ lo hi]; omega

theorem packed_P_8 (i : S8192x12544.Idx) (lo : 8192 ≤ (i 1 : ℕ)) (hi : (i 1 : ℕ) < 10240) :
    val_main_v30 (F := Ideal) x w i = resP x w i := by
  have h0 : (i 0 : ℕ) < 8192 := (i 0).isLt
  unfold val_main_v30
  rw [piece _ (widths 8192) rfl _ i 8 (by decide +kernel) (val_main_v25 (F := Ideal) x w) (fun _ => rfl) 8192 (by decide +kernel) lo (by omega), val_main_v25_apply, val_main_v14_apply, prod_P]
  refine (resP_of_lt x w i (by omega) _ _ _ ?_ ?_ ?_).symm
  · show ((i 0 : ℕ) * 2048 + ((i 1 : ℕ) - 8192)) / 4194304 = (i 0 : ℕ) / 2048; omega
  · show ((i 0 : ℕ) * 2048 + ((i 1 : ℕ) - 8192)) / 2048 % 2048 = (i 0 : ℕ) % 2048; omega
  · show 8216 + ((i 0 : ℕ) * 2048 + ((i 1 : ℕ) - 8192)) % 2048 = srcRow (i 1); rw [srcRow_8 _ lo hi]; omega

theorem packed_P_9 (i : S8192x12544.Idx) (lo : 10240 ≤ (i 1 : ℕ)) (hi : (i 1 : ℕ) < 12288) :
    val_main_v30 (F := Ideal) x w i = resP x w i := by
  have h0 : (i 0 : ℕ) < 8192 := (i 0).isLt
  unfold val_main_v30
  rw [piece _ (widths 8192) rfl _ i 9 (by decide +kernel) (val_main_v26 (F := Ideal) x w) (fun _ => rfl) 10240 (by decide +kernel) lo (by omega), val_main_v26_apply, val_main_v15_apply, prod_P]
  refine (resP_of_lt x w i (by omega) _ _ _ ?_ ?_ ?_).symm
  · show ((i 0 : ℕ) * 2048 + ((i 1 : ℕ) - 10240)) / 4194304 = (i 0 : ℕ) / 2048; omega
  · show ((i 0 : ℕ) * 2048 + ((i 1 : ℕ) - 10240)) / 2048 % 2048 = (i 0 : ℕ) % 2048; omega
  · show 10264 + ((i 0 : ℕ) * 2048 + ((i 1 : ℕ) - 10240)) % 2048 = srcRow (i 1); rw [srcRow_9 _ lo hi]; omega

theorem packed_P_10 (i : S8192x12544.Idx) (lo : 12288 ≤ (i 1 : ℕ)) (hi : (i 1 : ℕ) < 12292) :
    val_main_v30 (F := Ideal) x w i = resP x w i := by
  have h0 : (i 0 : ℕ) < 8192 := (i 0).isLt
  unfold val_main_v30
  rw [piece _ (widths 8192) rfl _ i 10 (by decide +kernel) (val_main_v27 (F := Ideal) x w) (fun _ => rfl) 12288 (by decide +kernel) lo (by omega), val_main_v27_apply, val_main_v5_apply, prod_P]
  refine (resP_of_lt x w i (by omega) _ _ _ ?_ ?_ ?_).symm
  · show ((i 0 : ℕ) * 4 + ((i 1 : ℕ) - 12288)) / 8192 = (i 0 : ℕ) / 2048; omega
  · show ((i 0 : ℕ) * 4 + ((i 1 : ℕ) - 12288)) / 4 % 2048 = (i 0 : ℕ) % 2048; omega
  · show 3072 + ((i 0 : ℕ) * 4 + ((i 1 : ℕ) - 12288)) % 4 = srcRow (i 1); rw [srcRow_10 _ lo hi]; omega

theorem packed_P_11 (i : S8192x12544.Idx) (lo : 12292 ≤ (i 1 : ℕ)) (hi : (i 1 : ℕ) < 12296) :
    val_main_v30 (F := Ideal) x w i = resP x w i := by
  have h0 : (i 0 : ℕ) < 8192 := (i 0).isLt
  unfold val_main_v30
  rw [piece _ (widths 8192) rfl _ i 11 (by decide +kernel) (val_main_v28 (F := Ideal) x w) (fun _ => rfl) 12292 (by decide +kernel) lo (by omega), val_main_v28_apply, val_main_v6_apply, prod_P]
  refine (resP_of_lt x w i (by omega) _ _ _ ?_ ?_ ?_).symm
  · show ((i 0 : ℕ) * 4 + ((i 1 : ℕ) - 12292)) / 8192 = (i 0 : ℕ) / 2048; omega
  · show ((i 0 : ℕ) * 4 + ((i 1 : ℕ) - 12292)) / 4 % 2048 = (i 0 : ℕ) % 2048; omega
  · show 3076 + ((i 0 : ℕ) * 4 + ((i 1 : ℕ) - 12292)) % 4 = srcRow (i 1); rw [srcRow_11 _ lo hi]; omega

theorem packed_P_12 (i : S8192x12544.Idx) (lo : 12296 ≤ (i 1 : ℕ)) (hi : (i 1 : ℕ) < 12312) :
    val_main_v30 (F := Ideal) x w i = resP x w i := by
  have h0 : (i 0 : ℕ) < 8192 := (i 0).isLt
  unfold val_main_v30
  rw [piece _ (widths 8192) rfl _ i 12 (by decide +kernel) (val_main_v29 (F := Ideal) x w) (fun _ => rfl) 12296 (by decide +kernel) lo (by omega), val_main_v29_apply, val_main_v12_apply, prod_P]
  refine (resP_of_lt x w i (by omega) _ _ _ ?_ ?_ ?_).symm
  · show ((i 0 : ℕ) * 16 + ((i 1 : ℕ) - 12296)) / 32768 = (i 0 : ℕ) / 2048; omega
  · show ((i 0 : ℕ) * 16 + ((i 1 : ℕ) - 12296)) / 16 % 2048 = (i 0 : ℕ) % 2048; omega
  · show 7176 + ((i 0 : ℕ) * 16 + ((i 1 : ℕ) - 12296)) % 16 = srcRow (i 1); rw [srcRow_12 _ lo hi]; omega

theorem packed_P_13 (i : S8192x12544.Idx) (lo : 12312 ≤ (i 1 : ℕ)) (hi : (i 1 : ℕ) < 12544) :
    val_main_v30 (F := Ideal) x w i = resP x w i := by
  unfold val_main_v30
  rw [piece _ (widths 8192) rfl _ i 13 (by decide +kernel) (val_main_v16 (F := Ideal)) (fun _ => rfl) 12312 (by decide +kernel) lo (by omega), resP_of_ge x w i lo, val_main_v16_apply, val_main_cst_0_apply]
  exact Ideal.ofBits_zero_f32

/-- The packed projection of the prompt is the one formula. -/
theorem packed_P : val_main_v30 (F := Ideal) x w = resP x w := by
  funext i
  have h1 : (i 1 : ℕ) < 12544 := (i 1).isLt
  by_cases c0 : (i 1 : ℕ) < 2048
  · exact packed_P_0 x w i (by omega) c0
  by_cases c1 : (i 1 : ℕ) < 2560
  · exact packed_P_1 x w i (by omega) c1
  by_cases c2 : (i 1 : ℕ) < 3072
  · exact packed_P_2 x w i (by omega) c2
  by_cases c3 : (i 1 : ℕ) < 4096
  · exact packed_P_3 x w i (by omega) c3
  by_cases c4 : (i 1 : ℕ) < 5120
  · exact packed_P_4 x w i (by omega) c4
  by_cases c5 : (i 1 : ℕ) < 6144
  · exact packed_P_5 x w i (by omega) c5
  by_cases c6 : (i 1 : ℕ) < 7168
  · exact packed_P_6 x w i (by omega) c6
  by_cases c7 : (i 1 : ℕ) < 8192
  · exact packed_P_7 x w i (by omega) c7
  by_cases c8 : (i 1 : ℕ) < 10240
  · exact packed_P_8 x w i (by omega) c8
  by_cases c9 : (i 1 : ℕ) < 12288
  · exact packed_P_9 x w i (by omega) c9
  by_cases c10 : (i 1 : ℕ) < 12292
  · exact packed_P_10 x w i (by omega) c10
  by_cases c11 : (i 1 : ℕ) < 12296
  · exact packed_P_11 x w i (by omega) c11
  by_cases c12 : (i 1 : ℕ) < 12312
  · exact packed_P_12 x w i (by omega) c12
  exact packed_P_13 x w i (by omega) h1

theorem packed_S_0 (i : S128x12544.Idx) (lo : 0 ≤ (i 1 : ℕ)) (hi : (i 1 : ℕ) < 2048) :
    val_main_v64 (F := Ideal) xs w i = resS xs w i := by
  have h0 : (i 0 : ℕ) < 128 := (i 0).isLt
  unfold val_main_v64
  rw [piece _ (widths 128) rfl _ i 0 (by decide +kernel) (val_main_v51 (F := Ideal) xs w) (fun _ => rfl) 0 (by decide +kernel) lo (by omega), val_main_v51_apply, val_main_v37_apply, prod_S]
  refine (resS_of_lt xs w i (by omega) _ _ ?_ ?_).symm
  · show ((i 0 : ℕ) * 2048 + ((i 1 : ℕ) - 0)) / 2048 = (i 0 : ℕ); omega
  · show ((i 0 : ℕ) * 2048 + ((i 1 : ℕ) - 0)) % 2048 = srcRow (i 1); rw [srcRow_0 _ lo hi]; omega

theorem packed_S_1 (i : S128x12544.Idx) (lo : 2048 ≤ (i 1 : ℕ)) (hi : (i 1 : ℕ) < 2560) :
    val_main_v64 (F := Ideal) xs w i = resS xs w i := by
  have h0 : (i 0 : ℕ) < 128 := (i 0).isLt
  unfold val_main_v64
  rw [piece _ (widths 128) rfl _ i 1 (by decide +kernel) (val_main_v52 (F := Ideal) xs w) (fun _ => rfl) 2048 (by decide +kernel) lo (by omega), val_main_v52_apply, val_main_v43_apply, prod_S]
  refine (resS_of_lt xs w i (by omega) _ _ ?_ ?_).symm
  · show ((i 0 : ℕ) * 512 + ((i 1 : ℕ) - 2048)) / 512 = (i 0 : ℕ); omega
  · show 5128 + ((i 0 : ℕ) * 512 + ((i 1 : ℕ) - 2048)) % 512 = srcRow (i 1); rw [srcRow_1 _ lo hi]; omega

theorem packed_S_2 (i : S128x12544.Idx) (lo : 2560 ≤ (i 1 : ℕ)) (hi : (i 1 : ℕ) < 3072) :
    val_main_v64 (F := Ideal) xs w i = resS xs w i := by
  have h0 : (i 0 : ℕ) < 128 := (i 0).isLt
  unfold val_main_v64
  rw [piece _ (widths 128) rfl _ i 2 (by decide +kernel) (val_main_v53 (F := Ideal) xs w) (fun _ => rfl) 2560 (by decide +kernel) lo (by omega), val_main_v53_apply, val_main_v44_apply, prod_S]
  refine (resS_of_lt xs w i (by omega) _ _ ?_ ?_).symm
  · show ((i 0 : ℕ) * 512 + ((i 1 : ℕ) - 2560)) / 512 = (i 0 : ℕ); omega
  · show 5640 + ((i 0 : ℕ) * 512 + ((i 1 : ℕ) - 2560)) % 512 = srcRow (i 1); rw [srcRow_2 _ lo hi]; omega

theorem packed_S_3 (i : S128x12544.Idx) (lo : 3072 ≤ (i 1 : ℕ)) (hi : (i 1 : ℕ) < 4096) :
    val_main_v64 (F := Ideal) xs w i = resS xs w i := by
  have h0 : (i 0 : ℕ) < 128 := (i 0).isLt
  unfold val_main_v64
  rw [piece _ (widths 128) rfl _ i 3 (by decide +kernel) (val_main_v54 (F := Ideal) xs w) (fun _ => rfl) 3072 (by decide +kernel) lo (by omega), val_main_v54_apply, val_main_v38_apply, prod_S]
  refine (resS_of_lt xs w i (by omega) _ _ ?_ ?_).symm
  · show ((i 0 : ℕ) * 1024 + ((i 1 : ℕ) - 3072)) / 1024 = (i 0 : ℕ); omega
  · show 2048 + ((i 0 : ℕ) * 1024 + ((i 1 : ℕ) - 3072)) % 1024 = srcRow (i 1); rw [srcRow_3 _ lo hi]; omega

theorem packed_S_4 (i : S128x12544.Idx) (lo : 4096 ≤ (i 1 : ℕ)) (hi : (i 1 : ℕ) < 5120) :
    val_main_v64 (F := Ideal) xs w i = resS xs w i := by
  have h0 : (i 0 : ℕ) < 128 := (i 0).isLt
  unfold val_main_v64
  rw [piece _ (widths 128) rfl _ i 4 (by decide +kernel) (val_main_v55 (F := Ideal) xs w) (fun _ => rfl) 4096 (by decide +kernel) lo (by omega), val_main_v55_apply, val_main_v41_apply, prod_S]
  refine (resS_of_lt xs w i (by omega) _ _ ?_ ?_).symm
  · show ((i 0 : ℕ) * 1024 + ((i 1 : ℕ) - 4096)) / 1024 = (i 0 : ℕ); omega
  · show 3080 + ((i 0 : ℕ) * 1024 + ((i 1 : ℕ) - 4096)) % 1024 = srcRow (i 1); rw [srcRow_4 _ lo hi]; omega

theorem packed_S_5 (i : S128x12544.Idx) (lo : 5120 ≤ (i 1 : ℕ)) (hi : (i 1 : ℕ) < 6144) :
    val_main_v64 (F := Ideal) xs w i = resS xs w i := by
  have h0 : (i 0 : ℕ) < 128 := (i 0).isLt
  unfold val_main_v64
  rw [piece _ (widths 128) rfl _ i 5 (by decide +kernel) (val_main_v56 (F := Ideal) xs w) (fun _ => rfl) 5120 (by decide +kernel) lo (by omega), val_main_v56_apply, val_main_v42_apply, prod_S]
  refine (resS_of_lt xs w i (by omega) _ _ ?_ ?_).symm
  · show ((i 0 : ℕ) * 1024 + ((i 1 : ℕ) - 5120)) / 1024 = (i 0 : ℕ); omega
  · show 4104 + ((i 0 : ℕ) * 1024 + ((i 1 : ℕ) - 5120)) % 1024 = srcRow (i 1); rw [srcRow_5 _ lo hi]; omega

theorem packed_S_6 (i : S128x12544.Idx) (lo : 6144 ≤ (i 1 : ℕ)) (hi : (i 1 : ℕ) < 7168) :
    val_main_v64 (F := Ideal) xs w i = resS xs w i := by
  have h0 : (i 0 : ℕ) < 128 := (i 0).isLt
  unfold val_main_v64
  rw [piece _ (widths 128) rfl _ i 6 (by decide +kernel) (val_main_v57 (F := Ideal) xs w) (fun _ => rfl) 6144 (by decide +kernel) lo (by omega), val_main_v57_apply, val_main_v45_apply, prod_S]
  refine (resS_of_lt xs w i (by omega) _ _ ?_ ?_).symm
  · show ((i 0 : ℕ) * 1024 + ((i 1 : ℕ) - 6144)) / 1024 = (i 0 : ℕ); omega
  · show 6152 + ((i 0 : ℕ) * 1024 + ((i 1 : ℕ) - 6144)) % 1024 = srcRow (i 1); rw [srcRow_6 _ lo hi]; omega

theorem packed_S_7 (i : S128x12544.Idx) (lo : 7168 ≤ (i 1 : ℕ)) (hi : (i 1 : ℕ) < 8192) :
    val_main_v64 (F := Ideal) xs w i = resS xs w i := by
  have h0 : (i 0 : ℕ) < 128 := (i 0).isLt
  unfold val_main_v64
  rw [piece _ (widths 128) rfl _ i 7 (by decide +kernel) (val_main_v58 (F := Ideal) xs w) (fun _ => rfl) 7168 (by decide +kernel) lo (by omega), val_main_v58_apply, val_main_v47_apply, prod_S]
  refine (resS_of_lt xs w i (by omega) _ _ ?_ ?_).symm
  · show ((i 0 : ℕ) * 1024 + ((i 1 : ℕ) - 7168)) / 1024 = (i 0 : ℕ); omega
  · show 7192 + ((i 0 : ℕ) * 1024 + ((i 1 : ℕ) - 7168)) % 1024 = srcRow (i 1); rw [srcRow_7 _ lo hi]; omega

theorem packed_S_8 (i : S128x12544.Idx) (lo : 8192 ≤ (i 1 : ℕ)) (hi : (i 1 : ℕ) < 10240) :
    val_main_v64 (F := Ideal) xs w i = resS xs w i := by
  have h0 : (i 0 : ℕ) < 128 := (i 0).isLt
  unfold val_main_v64
  rw [piece _ (widths 128) rfl _ i 8 (by decide +kernel) (val_main_v59 (F := Ideal) xs w) (fun _ => rfl) 8192 (by decide +kernel) lo (by omega), val_main_v59_apply, val_main_v48_apply, prod_S]
  refine (resS_of_lt xs w i (by omega) _ _ ?_ ?_).symm
  · show ((i 0 : ℕ) * 2048 + ((i 1 : ℕ) - 8192)) / 2048 = (i 0 : ℕ); omega
  · show 8216 + ((i 0 : ℕ) * 2048 + ((i 1 : ℕ) - 8192)) % 2048 = srcRow (i 1); rw [srcRow_8 _ lo hi]; omega

theorem packed_S_9 (i : S128x12544.Idx) (lo : 10240 ≤ (i 1 : ℕ)) (hi : (i 1 : ℕ) < 12288) :
    val_main_v64 (F := Ideal) xs w i = resS xs w i := by
  have h0 : (i 0 : ℕ) < 128 := (i 0).isLt
  unfold val_main_v64
  rw [piece _ (widths 128) rfl _ i 9 (by decide +kernel) (val_main_v60 (F := Ideal) xs w) (fun _ => rfl) 10240 (by decide +kernel) lo (by omega), val_main_v60_apply, val_main_v49_apply, prod_S]
  refine (resS_of_lt xs w i (by omega) _ _ ?_ ?_).symm
  · show ((i 0 : ℕ) * 2048 + ((i 1 : ℕ) - 10240)) / 2048 = (i 0 : ℕ); omega
  · show 10264 + ((i 0 : ℕ) * 2048 + ((i 1 : ℕ) - 10240)) % 2048 = srcRow (i 1); rw [srcRow_9 _ lo hi]; omega

theorem packed_S_10 (i : S128x12544.Idx) (lo : 12288 ≤ (i 1 : ℕ)) (hi : (i 1 : ℕ) < 12292) :
    val_main_v64 (F := Ideal) xs w i = resS xs w i := by
  have h0 : (i 0 : ℕ) < 128 := (i 0).isLt
  unfold val_main_v64
  rw [piece _ (widths 128) rfl _ i 10 (by decide +kernel) (val_main_v61 (F := Ideal) xs w) (fun _ => rfl) 12288 (by decide +kernel) lo (by omega), val_main_v61_apply, val_main_v39_apply, prod_S]
  refine (resS_of_lt xs w i (by omega) _ _ ?_ ?_).symm
  · show ((i 0 : ℕ) * 4 + ((i 1 : ℕ) - 12288)) / 4 = (i 0 : ℕ); omega
  · show 3072 + ((i 0 : ℕ) * 4 + ((i 1 : ℕ) - 12288)) % 4 = srcRow (i 1); rw [srcRow_10 _ lo hi]; omega

theorem packed_S_11 (i : S128x12544.Idx) (lo : 12292 ≤ (i 1 : ℕ)) (hi : (i 1 : ℕ) < 12296) :
    val_main_v64 (F := Ideal) xs w i = resS xs w i := by
  have h0 : (i 0 : ℕ) < 128 := (i 0).isLt
  unfold val_main_v64
  rw [piece _ (widths 128) rfl _ i 11 (by decide +kernel) (val_main_v62 (F := Ideal) xs w) (fun _ => rfl) 12292 (by decide +kernel) lo (by omega), val_main_v62_apply, val_main_v40_apply, prod_S]
  refine (resS_of_lt xs w i (by omega) _ _ ?_ ?_).symm
  · show ((i 0 : ℕ) * 4 + ((i 1 : ℕ) - 12292)) / 4 = (i 0 : ℕ); omega
  · show 3076 + ((i 0 : ℕ) * 4 + ((i 1 : ℕ) - 12292)) % 4 = srcRow (i 1); rw [srcRow_11 _ lo hi]; omega

theorem packed_S_12 (i : S128x12544.Idx) (lo : 12296 ≤ (i 1 : ℕ)) (hi : (i 1 : ℕ) < 12312) :
    val_main_v64 (F := Ideal) xs w i = resS xs w i := by
  have h0 : (i 0 : ℕ) < 128 := (i 0).isLt
  unfold val_main_v64
  rw [piece _ (widths 128) rfl _ i 12 (by decide +kernel) (val_main_v63 (F := Ideal) xs w) (fun _ => rfl) 12296 (by decide +kernel) lo (by omega), val_main_v63_apply, val_main_v46_apply, prod_S]
  refine (resS_of_lt xs w i (by omega) _ _ ?_ ?_).symm
  · show ((i 0 : ℕ) * 16 + ((i 1 : ℕ) - 12296)) / 16 = (i 0 : ℕ); omega
  · show 7176 + ((i 0 : ℕ) * 16 + ((i 1 : ℕ) - 12296)) % 16 = srcRow (i 1); rw [srcRow_12 _ lo hi]; omega

theorem packed_S_13 (i : S128x12544.Idx) (lo : 12312 ≤ (i 1 : ℕ)) (hi : (i 1 : ℕ) < 12544) :
    val_main_v64 (F := Ideal) xs w i = resS xs w i := by
  unfold val_main_v64
  rw [piece _ (widths 128) rfl _ i 13 (by decide +kernel) (val_main_v50 (F := Ideal)) (fun _ => rfl) 12312 (by decide +kernel) lo (by omega), resS_of_ge xs w i lo, val_main_v50_apply, val_main_cst_1_apply]
  exact Ideal.ofBits_zero_f32

/-- The packed projection of the samples is the one formula. -/
theorem packed_S : val_main_v64 (F := Ideal) xs w = resS xs w := by
  funext i
  have h1 : (i 1 : ℕ) < 12544 := (i 1).isLt
  by_cases c0 : (i 1 : ℕ) < 2048
  · exact packed_S_0 xs w i (by omega) c0
  by_cases c1 : (i 1 : ℕ) < 2560
  · exact packed_S_1 xs w i (by omega) c1
  by_cases c2 : (i 1 : ℕ) < 3072
  · exact packed_S_2 xs w i (by omega) c2
  by_cases c3 : (i 1 : ℕ) < 4096
  · exact packed_S_3 xs w i (by omega) c3
  by_cases c4 : (i 1 : ℕ) < 5120
  · exact packed_S_4 xs w i (by omega) c4
  by_cases c5 : (i 1 : ℕ) < 6144
  · exact packed_S_5 xs w i (by omega) c5
  by_cases c6 : (i 1 : ℕ) < 7168
  · exact packed_S_6 xs w i (by omega) c6
  by_cases c7 : (i 1 : ℕ) < 8192
  · exact packed_S_7 xs w i (by omega) c7
  by_cases c8 : (i 1 : ℕ) < 10240
  · exact packed_S_8 xs w i (by omega) c8
  by_cases c9 : (i 1 : ℕ) < 12288
  · exact packed_S_9 xs w i (by omega) c9
  by_cases c10 : (i 1 : ℕ) < 12292
  · exact packed_S_10 xs w i (by omega) c10
  by_cases c11 : (i 1 : ℕ) < 12296
  · exact packed_S_11 xs w i (by omega) c11
  by_cases c12 : (i 1 : ℕ) < 12312
  · exact packed_S_12 xs w i (by omega) c12
  exact packed_S_13 xs w i (by omega) h1

/-- The prompt's last three positions of the first 2048 columns. -/
def resPc (x : FVec Ideal S4x2048x2048 .f32) (w : FVec Ideal S1x2048x12312 .f32) : FVec Ideal S1x4x3x2048 .f32 :=
  fun i => entryP x w (i 1) ⟨2045 + (i 2 : ℕ), by have h : (i 2 : ℕ) < 3 := (i 2).isLt; omega⟩
    ⟨i 3, by have h : (i 3 : ℕ) < 2048 := (i 3).isLt; omega⟩

/-- The samples' window moved on by one: two kept rows, then the new one. -/
def resSc (xs : FVec Ideal S128x1x2048 .f32) (st : FVec Ideal S1x128x3x2048 .f32) (w : FVec Ideal S1x2048x12312 .f32) :
    FVec Ideal S1x128x3x2048 .f32 :=
  fun i => if h : (i 2 : ℕ) < 2 then st (ix4 0 (i 1) ⟨1 + (i 2 : ℕ), by omega⟩ (i 3))
    else entryS xs w (i 1) ⟨i 3, by have h : (i 3 : ℕ) < 2048 := (i 3).isLt; omega⟩

theorem conv_P : val_main_v33 (F := Ideal) x w = resPc x w := by
  funext i
  have h2 : (i 2 : ℕ) < 3 := (i 2).isLt
  rw [val_main_v33_apply, val_main_v32_apply]
  unfold val_main_v31
  refine (concatenate_pair_apply_right (t := S4x2051x2048) (s₁ := S4x3x2048) (s₂ := S4x2048x2048) 1 _ _ _ (idx_main_v32 (idx_main_v33 i)) rfl rfl (ix3 (i 1) ⟨2045 + (i 2 : ℕ), by omega⟩ (i 3))
    (fun b hb => by
      match b with
      | 0 => rfl
      | 1 => exact absurd rfl hb
      | 2 => rfl)
    (by show 2045 + (i 2 : ℕ) + 3 = 2048 + (i 2 : ℕ); omega)).trans ?_
  rw [val_main_v3_apply, prod_P]
  rfl

theorem conv_S (st : FVec Ideal S1x128x3x2048 .f32) : val_main_v67 (F := Ideal) xs st w = resSc xs st w := by
  funext i
  have h2 : (i 2 : ℕ) < 3 := (i 2).isLt
  rw [val_main_v67_apply, val_main_v66_apply]
  unfold val_main_v65 resSc
  by_cases h : (i 2 : ℕ) < 2
  · rw [dif_pos h]
    refine (concatenate_pair_apply_left (t := S128x4x2048) (s₁ := S128x3x2048) (s₂ := S128x1x2048) 1 _ _ _ (idx_main_v66 (idx_main_v67 i)) rfl (ix3 (i 1) ⟨1 + (i 2 : ℕ), by omega⟩ (i 3))
      (fun b => by
        match b with
        | 0 => rfl
        | 1 => rfl
        | 2 => rfl)).trans ?_
    rw [val_main_v34_apply]
    have h1 : (i 1 : ℕ) < 128 := (i 1).isLt
    have h3 : (i 3 : ℕ) < 2048 := (i 3).isLt
    refine congrArg st (funext fun a => ?_)
    match a with
    | 0 => rfl
    | 1 => exact Fin.ext (by show (((i 1 : ℕ) * 3 + (1 + (i 2 : ℕ))) * 2048 + (i 3 : ℕ)) / 6144 % 128 = (i 1 : ℕ); omega)
    | 2 => exact Fin.ext (by show (((i 1 : ℕ) * 3 + (1 + (i 2 : ℕ))) * 2048 + (i 3 : ℕ)) / 2048 % 3 = 1 + (i 2 : ℕ); omega)
    | 3 => exact Fin.ext (by show (((i 1 : ℕ) * 3 + (1 + (i 2 : ℕ))) * 2048 + (i 3 : ℕ)) % 2048 = (i 3 : ℕ); omega)
  · rw [dif_neg h]
    refine (concatenate_pair_apply_right (t := S128x4x2048) (s₁ := S128x3x2048) (s₂ := S128x1x2048) 1 _ _ _ (idx_main_v66 (idx_main_v67 i)) rfl rfl (ix3 (i 1) ⟨0, by omega⟩ (i 3))
      (fun b hb => by
        match b with
        | 0 => rfl
        | 1 => exact absurd rfl hb
        | 2 => rfl)
      (by show 0 + 3 = 1 + (i 2 : ℕ); omega)).trans ?_
    rw [val_main_v37_apply, prod_S]
    rfl

end Cert.ReferenceIdeal.Whole

end
-- ==== Proof.Product.lean ====
module

public import proofs.«01_k».proof.Proof.Gen.KernelIdeal.Frame
public import Idealize.ShloMosaic.Lib.Pipeline.ValueKit
public import Idealize.ShloMosaic.Lib.Pipeline.Covers
public import Idealize.ShloMosaic.Lib.Pointwise

/-! # The projection call over the reals

The call that multiplies the prompt by the packed weight leaves, in every entry of its result, the inner product of a
row of the prompt with a row of the packed weight. -/

@[expose] public section

set_option maxRecDepth 16384

noncomputable section

namespace Cert.KernelIdeal.Whole

open Idealize.ShloMosaic Idealize.ShloMosaic.TcCoe Idealize.SL.Sem
open Idealize.ShloMosaic.Pipeline (Dat)
open Cert.KernelIdeal Cert.KernelIdeal.Gen

/-- Rows of `x` against rows of `w`. -/
def prodP (x : FVec Ideal S8192x2048 .f32) (w : FVec Ideal S12544x2048 .bf16) : FVec Ideal S8192x12544 .f32 :=
  fun i => ∑ k : Fin 2048, x (ix2 (i 0) k) * w (ix2 (i 1) k)

theorem prodP_apply (x : FVec Ideal S8192x2048 .f32) (w : FVec Ideal S12544x2048 .bf16) (i : S8192x12544.Idx) :
    prodP x w i = ∑ k : Fin 2048, x (ix2 (i 0) k) * w (ix2 (i 1) k) := rfl

theorem k1_pay1_apply (x : Vec Ideal S1024x2048 .f32) (w : Vec Ideal S1792x2048 .bf16) (i : S1024x1792.Idx) :
    k1_pay1 (F := Ideal) x w i = ∑ k : Fin 2048, x (ix2 (i 0) k) * w (ix2 (i 1) k) := by
  pointwise [k1_pay1]

theorem idx1 : ∀ t : Fin cfg1.N, win1_0.index t = ![t.val / 7, 0] ∧ win1_1.index t = ![t.val % 7, 0]
    ∧ win1_2.index t = ![t.val / 7, t.val % 7] :=
  (by decide +kernel : ∀ t : Fin grid1.N, win1_0.index t = ![t.val / 7, 0] ∧ win1_1.index t = ![t.val % 7, 0]
    ∧ win1_2.index t = ![t.val / 7, t.val % 7])

/-- The projection call's result, as a function of what it finds in its two arrays. -/
theorem proj_value (V : (c : Dev nD) → (b : Ref sig .tc) → Buf (Elt Ideal) ((c : Thread nD τ).loc b)) (c : Dev nD) :
    (dat1 (F := Ideal) V c).arrAt 2 cfg1.N = prodP (V c main_v4) (V c main_v3_0) := by
  refine (dat1 V c).arrAt_eq_of_covers 2 _ (by decide +kernel) fun t _ y => ?_
  blk_simp
  rw [after1_2]
  frame_out
  rw [k1_pay1_apply, prodP_apply]
  blk_point [iblk1, idx1 t]

end Cert.KernelIdeal.Whole

end
-- ==== Proof.Host.lean ====
module

public import proofs.«01_k».proof.Proof.Run
public import proofs.«01_k».proof.Proof.Ref
public import proofs.«01_k».proof.Proof.Product
public import proofs.«01_k».proof.Proof.Pack
public import Idealize.ShloMosaic.Lib.Claim

/-! # The results of the projection program as functions of its arguments

The contents at the end of the run, read back through the two calls and the host's moves, are the same four formulas the
reference leaves. -/

@[expose] public section

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.Whole (entryP entryS entryP_congr entryS_congr resP resS resP_of_ge resP_of_lt resS_of_ge resS_of_lt resPc resSc)

/-! ## The host's moves, one entry at a time -/

theorem weight_move (w : FVec Ideal S1x2048x12312 .f32) (r : Fin 12312) (k : Fin 2048) :
    transpose S12312x2048 [1, 0] (shapeCast S2048x12312 w shapeCasts_S1x2048x12312_S2048x12312) transposes_S2048x12312_S12312x2048_1_0 (ix2 r k)
      = w (ix3 0 k r) := by
  rw [transpose_apply _ _ _ _ (ix2 k r) (fun b => by
    match b with
    | 0 => rfl
    | 1 => rfl)]
  exact shapeCast_apply _ _ _ (ix3 0 k r) (by
    rw [Shape.rowMajor_val_three, Shape.rowMajor_val_two]
    show (0 * 2048 + (k : ℕ)) * 12312 + (r : ℕ) = (k : ℕ) * 12312 + (r : ℕ); omega)

theorem prompt_move (x : FVec Ideal S4x2048x2048 .f32) (i : Fin 8192) (k : Fin 2048) (a : Fin 4) (s : Fin 2048)
    (ha : (a : ℕ) = (i : ℕ) / 2048) (hs : (s : ℕ) = (i : ℕ) % 2048) :
    shapeCast S8192x2048 x shapeCasts_S4x2048x2048_S8192x2048 (ix2 i k) = x (ix3 a s k) :=
  shapeCast_apply _ _ _ (ix3 a s k) (by
    rw [Shape.rowMajor_val_three, Shape.rowMajor_val_two]
    show ((a : ℕ) * 2048 + (s : ℕ)) * 2048 + (k : ℕ) = (i : ℕ) * 2048 + (k : ℕ); omega)

theorem sample_move (x : FVec Ideal S128x1x2048 .f32) (n : Fin 128) (k : Fin 2048) :
    shapeCast S128x2048 x shapeCasts_S128x1x2048_S128x2048 (ix2 n k) = x (ix3 n 0 k) :=
  shapeCast_apply _ _ _ (ix3 n 0 k) (by
    rw [Shape.rowMajor_val_three, Shape.rowMajor_val_two]
    show ((n : ℕ) * 1 + 0) * 2048 + (k : ℕ) = (n : ℕ) * 2048 + (k : ℕ); omega)

/-- Rows of the flattened prompt against the packed weight: the packed projection. -/
theorem prodP_eq (x : FVec Ideal S4x2048x2048 .f32) (w : FVec Ideal S1x2048x12312 .f32) :
    prodP (shapeCast S8192x2048 x shapeCasts_S4x2048x2048_S8192x2048)
      (packW (transpose S12312x2048 [1, 0] (shapeCast S2048x12312 w shapeCasts_S1x2048x12312_S2048x12312) transposes_S2048x12312_S12312x2048_1_0))
      = resP x w := by
  funext i
  rw [prodP_apply]
  have h0 : (i 0 : ℕ) < 8192 := (i 0).isLt
  by_cases h : (i 1 : ℕ) < 12312
  · rw [resP_of_lt x w i h ⟨(i 0 : ℕ) / 2048, by omega⟩ ⟨(i 0 : ℕ) % 2048, by omega⟩ ⟨srcRow (i 1), srcRow_lt _ h⟩ rfl rfl rfl]
    unfold entryP
    refine Fin.sum_fin_congr fun k => ?_
    rw [packW_of_lt _ _ (ix2 ⟨srcRow (i 1), srcRow_lt _ h⟩ k) h rfl rfl, weight_move,
      prompt_move x (i 0) k ⟨(i 0 : ℕ) / 2048, by omega⟩ ⟨(i 0 : ℕ) % 2048, by omega⟩ rfl rfl]
  · rw [resP_of_ge x w i (by omega)]
    refine Finset.sum_eq_zero fun k _ => ?_
    rw [packW_of_ge _ _ (show 12312 ≤ (i 1 : ℕ) by omega), mul_zero]

/-- Rows of the samples against the packed weight: the samples' packed projection. -/
theorem prodS_eq (x : FVec Ideal S128x1x2048 .f32) (w : FVec Ideal S1x2048x12312 .f32) :
    prodS (shapeCast S128x2048 x shapeCasts_S128x1x2048_S128x2048)
      (packW (transpose S12312x2048 [1, 0] (shapeCast S2048x12312 w shapeCasts_S1x2048x12312_S2048x12312) transposes_S2048x12312_S12312x2048_1_0))
      = resS x w := by
  funext i
  unfold prodS
  by_cases h : (i 1 : ℕ) < 12312
  · rw [resS_of_lt x w i h (i 0) ⟨srcRow (i 1), srcRow_lt _ h⟩ rfl rfl]
    unfold entryS
    refine Fin.sum_fin_congr fun k => ?_
    rw [packW_of_lt _ _ (ix2 ⟨srcRow (i 1), srcRow_lt _ h⟩ k) h rfl rfl, weight_move]
    exact congrArg (· * _) (sample_move x (i 0) k)
  · rw [resS_of_ge x w i (by omega)]
    refine Finset.sum_eq_zero fun k _ => ?_
    rw [packW_of_ge _ _ (show 12312 ≤ (i 1 : ℕ) by omega), mul_zero]

/-- The window kept of the prompt, cut from the packed projection. -/
theorem tailP_eq (x : FVec Ideal S4x2048x2048 .f32) (w : FVec Ideal S1x2048x12312 .f32) :
    shapeCast S1x4x3x2048 (extractStridedSlice S4x3x2048 ![0, 2045, 0] (shapeCast S4x2048x12544 (resP x w) shapeCasts_S8192x12544_S4x2048x12544)
      slices_S4x2048x12544_S4x3x2048_0_2045_0) shapeCasts_S4x3x2048_S1x4x3x2048 = resPc x w := by
  funext i
  have h0 : (i 0 : ℕ) < 1 := (i 0).isLt
  have h1 : (i 1 : ℕ) < 4 := (i 1).isLt
  have h2 : (i 2 : ℕ) < 3 := (i 2).isLt
  have h3 : (i 3 : ℕ) < 2048 := (i 3).isLt
  rw [shapeCast_apply _ _ _ (ix3 (i 1) (i 2) (i 3) : S4x3x2048.Idx) (by
    rw [Shape.rowMajor_val_three, Shape.rowMajor_val_four]
    show ((i 1 : ℕ) * 3 + (i 2 : ℕ)) * 2048 + (i 3 : ℕ) = (((i 0 : ℕ) * 4 + (i 1 : ℕ)) * 3 + (i 2 : ℕ)) * 2048 + (i 3 : ℕ); omega)]
  rw [extractStridedSlice_apply _ _ _ _ (ix3 (i 1) ⟨2045 + (i 2 : ℕ), by omega⟩ ⟨i 3, by omega⟩ : S4x2048x12544.Idx) (fun a => by
    match a with
    | 0 => show (i 1 : ℕ) = 0 + (i 1 : ℕ); omega
    | 1 => rfl
    | 2 => show (i 3 : ℕ) = 0 + (i 3 : ℕ); omega)]
  rw [shapeCast_apply _ _ _ (ix2 ⟨(i 1 : ℕ) * 2048 + (2045 + (i 2 : ℕ)), by omega⟩ ⟨i 3, by omega⟩ : S8192x12544.Idx) (by
    rw [Shape.rowMajor_val_three, Shape.rowMajor_val_two]
    rfl)]
  refine resP_of_lt x w _ (show (i 3 : ℕ) < 12312 by omega) _ _ _ ?_ ?_ ?_
  · show (i 1 : ℕ) = ((i 1 : ℕ) * 2048 + (2045 + (i 2 : ℕ))) / 2048; omega
  · show 2045 + (i 2 : ℕ) = ((i 1 : ℕ) * 2048 + (2045 + (i 2 : ℕ))) % 2048; omega
  · show (i 3 : ℕ) = srcRow (i 3); unfold srcRow; rw [if_pos h3]

/-- The samples' window: two kept rows and the new one. -/
theorem tailS_eq (x : FVec Ideal S128x1x2048 .f32) (st : FVec Ideal S1x128x3x2048 .f32) (w : FVec Ideal S1x2048x12312 .f32) :
    shapeCast S1x128x3x2048 (concatenate S128x3x2048 1 [⟨S128x2x2048, extractStridedSlice S128x2x2048 ![0, 1, 0]
        (shapeCast S128x3x2048 st shapeCasts_S1x128x3x2048_S128x3x2048) slices_S128x3x2048_S128x2x2048_0_1_0⟩,
      ⟨S128x1x2048, broadcastInDim S128x1x2048 ![0, 2] bcast_S128x2048_S128x1x2048_0_2
        (extractStridedSlice S128x2048 ![0, 0] (resS x w) slices_S128x12544_S128x2048_0_0)⟩]
      concatenates_S128x2x2048_S128x1x2048_S128x3x2048_d1) shapeCasts_S128x3x2048_S1x128x3x2048 = resSc x st w := by
  funext i
  have h0 : (i 0 : ℕ) < 1 := (i 0).isLt
  have h1 : (i 1 : ℕ) < 128 := (i 1).isLt
  have h2 : (i 2 : ℕ) < 3 := (i 2).isLt
  have h3 : (i 3 : ℕ) < 2048 := (i 3).isLt
  rw [shapeCast_apply _ _ _ (ix3 (i 1) (i 2) (i 3) : S128x3x2048.Idx) (by
    rw [Shape.rowMajor_val_three, Shape.rowMajor_val_four]
    show ((i 1 : ℕ) * 3 + (i 2 : ℕ)) * 2048 + (i 3 : ℕ) = (((i 0 : ℕ) * 128 + (i 1 : ℕ)) * 3 + (i 2 : ℕ)) * 2048 + (i 3 : ℕ); omega)]
  unfold resSc
  by_cases h : (i 2 : ℕ) < 2
  · rw [dif_pos h]
    rw [concatenate_pair_apply_left (t := S128x3x2048) (s₁ := S128x2x2048) (s₂ := S128x1x2048) 1 _ _ _ (ix3 (i 1) (i 2) (i 3)) rfl
      (ix3 (i 1) ⟨i 2, h⟩ (i 3)) (fun b => by
        match b with
        | 0 => rfl
        | 1 => rfl
        | 2 => rfl)]
    rw [extractStridedSlice_apply _ _ _ _ (ix3 (i 1) ⟨1 + (i 2 : ℕ), by omega⟩ (i 3) : S128x3x2048.Idx) (fun a => by
      match a with
      | 0 => show (i 1 : ℕ) = 0 + (i 1 : ℕ); omega
      | 1 => rfl
      | 2 => show (i 3 : ℕ) = 0 + (i 3 : ℕ); omega)]
    exact shapeCast_apply _ _ _ (ix4 0 (i 1) ⟨1 + (i 2 : ℕ), by omega⟩ (i 3) : S1x128x3x2048.Idx) (by
      rw [Shape.rowMajor_val_three, Shape.rowMajor_val_four]
      show ((0 * 128 + (i 1 : ℕ)) * 3 + (1 + (i 2 : ℕ))) * 2048 + (i 3 : ℕ) = ((i 1 : ℕ) * 3 + (1 + (i 2 : ℕ))) * 2048 + (i 3 : ℕ); omega)
  · rw [dif_neg h]
    rw [concatenate_pair_apply_right (t := S128x3x2048) (s₁ := S128x2x2048) (s₂ := S128x1x2048) 1 _ _ _ (ix3 (i 1) (i 2) (i 3)) rfl rfl
      (ix3 (i 1) ⟨0, by omega⟩ (i 3)) (fun b hb => by
        match b with
        | 0 => rfl
        | 1 => exact absurd rfl hb
        | 2 => rfl) (by show 0 + 2 = (i 2 : ℕ); omega)]
    rw [broadcastInDim_apply _ _ _ _ (ix2 (i 1) (i 3) : S128x2048.Idx) (fun a => by
      match a with
      | 0 => rfl
      | 1 => rfl)]
    rw [extractStridedSlice_apply _ _ _ _ (ix2 (i 1) ⟨i 3, by omega⟩ : S128x12544.Idx) (fun a => by
      match a with
      | 0 => show (i 1 : ℕ) = 0 + (i 1 : ℕ); omega
      | 1 => show (i 3 : ℕ) = 0 + (i 3 : ℕ); omega)]
    refine resS_of_lt x w _ (show (i 3 : ℕ) < 12312 by omega) _ _ rfl ?_
    show (i 3 : ℕ) = srcRow (i 3); unfold srcRow; rw [if_pos h3]

/-! ## The contents at the end of the run -/

variable (m : (ℓ : Loc nD τ sig) → Buf (Elt Ideal) ℓ) (ρ : Dev nD → PrngReg) (c : Dev nD)

theorem W1_v2 : W1 m ρ c (Proc.devRef .tc main_v2) = transpose S12312x2048 [1, 0]
    (shapeCast S2048x12312 (show FVec Ideal S1x2048x12312 .f32 from m ((c : Thread nD τ).loc main_arg3)) shapeCasts_S1x2048x12312_S2048x12312)
    transposes_S2048x12312_S12312x2048_1_0 := by
  after_results_simp
  rfl

theorem W1_v0 : W1 m ρ c (Proc.devRef .tc main_v0)
    = shapeCast S128x2048 (show FVec Ideal S128x1x2048 .f32 from m ((c : Thread nD τ).loc main_arg1)) shapeCasts_S128x1x2048_S128x2048 := by
  after_results_simp
  rfl

theorem W3_v4 : W3 m ρ c (Proc.devRef .tc main_v4)
    = shapeCast S8192x2048 (show FVec Ideal S4x2048x2048 .f32 from W2 m ρ c (Proc.devRef .tc main_arg0)) shapeCasts_S4x2048x2048_S8192x2048 := by
  after_results_simp
  rfl

/-- The packed weight where the projection call reads it. -/
theorem W3_wp : (show FVec Ideal S12544x2048 .bf16 from W3 m ρ c (Proc.devRef .tc main_v3_0)) = packW (transpose S12312x2048 [1, 0]
    (shapeCast S2048x12312 (show FVec Ideal S1x2048x12312 .f32 from m ((c : Thread nD τ).loc main_arg3)) shapeCasts_S1x2048x12312_S2048x12312)
    transposes_S2048x12312_S12312x2048_1_0) :=
  ((W3_of m ρ c main_v3_0 (by decide)).trans (W2_arr m ρ c 5)).trans ((pack_value (V1 m ρ) c).trans (congrArg packW (W1_v2 m ρ c)))

/-- The prompt's packed projection, where the second call leaves it. -/
theorem W4_v5 : (show FVec Ideal S8192x12544 .f32 from W4 m ρ c (Proc.devRef .tc main_v5))
    = resP (m ((c : Thread nD τ).loc main_arg0)) (m ((c : Thread nD τ).loc main_arg3)) := by
  refine (W4_arr m ρ c 2).trans ((proj_value (V3 m ρ) c).trans ?_)
  refine Eq.trans ?_ (prodP_eq _ _)
  refine congrArg₂ prodP ?_ (W3_wp m ρ c)
  refine (W3_v4 m ρ c).trans ?_
  rw [W2_args m ρ c main_arg0 (by decide)]

/-- The samples' packed projection, carried to the end of the second call. -/
theorem W4_v3_1 : (show FVec Ideal S128x12544 .f32 from W4 m ρ c (Proc.devRef .tc main_v3_1))
    = resS (m ((c : Thread nD τ).loc main_arg1)) (m ((c : Thread nD τ).loc main_arg3)) := by
  refine (W4_of m ρ c main_v3_1 (by decide)).trans ((W3_of m ρ c main_v3_1 (by decide)).trans ((W2_arr m ρ c 6).trans
    ((sample_value (V1 m ρ) c).trans ?_)))
  exact (congrArg₂ (fun a b => prodS a (packW b)) (W1_v0 m ρ c) (W1_v2 m ρ c)).trans (prodS_eq _ _)

theorem W5_v5 : W5 m ρ c (Proc.devRef .tc main_v5) = resP (m ((c : Thread nD τ).loc main_arg0)) (m ((c : Thread nD τ).loc main_arg3)) :=
  (W5_of m ρ c main_v5 (by decide)).trans (W4_v5 m ρ c)

theorem W5_v3_1 : W5 m ρ c (Proc.devRef .tc main_v3_1) = resS (m ((c : Thread nD τ).loc main_arg1)) (m ((c : Thread nD τ).loc main_arg3)) :=
  (W5_of m ρ c main_v3_1 (by decide)).trans (W4_v3_1 m ρ c)

theorem W5_v13 : W5 m ρ c (Proc.devRef .tc main_v13) = resPc (m ((c : Thread nD τ).loc main_arg0)) (m ((c : Thread nD τ).loc main_arg3)) := by
  rw [← tailP_eq, ← W4_v5 m ρ c]
  after_results_simp
  rfl

theorem W5_v14 : W5 m ρ c (Proc.devRef .tc main_v14)
    = resSc (m ((c : Thread nD τ).loc main_arg1)) (m ((c : Thread nD τ).loc main_arg2)) (m ((c : Thread nD τ).loc main_arg3)) := by
  rw [← tailS_eq, ← W4_v3_1 m ρ c, ← W4_args m ρ c main_arg2 (by decide)]
  after_results_simp
  rfl

end Cert.KernelIdeal.Whole

end
-- ==== Proof.OutRunIdeal.lean ====
module

public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.Pipeline.FrameBody
public import Idealize.ShloMosaic.Lib.Claim

/-! # The run of the output call

The body writes one block of the prompt's result at each of the points 0 to 31, and the samples' result at point 32. At
point 32 it leaves the prompt's last block as point 31 made it, and the pipeline writes that block back there. This module
states what the two result buffers hold after each point, proves the body against it, and launches the program: it ends
with the two arrays at what the write-backs leave, every other unscoped buffer as the region found it and every counter
at zero. -/

@[expose] public section

set_option maxRecDepth 16384

noncomputable section

namespace Cert.Kernel2Ideal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first branch runs at the points below 32. -/
theorem prompt_at : ∀ t : Fin cfg0.N, k0_cond1 (grid0.coords t) = 1#1 ↔ t.val < 32 :=
  (by decide +kernel : ∀ t : Fin grid0.N, k0_cond1 (grid0.coords t) = 1#1 ↔ t.val < 32)

/-- The second branch runs at point 32. -/
theorem sample_at : ∀ t : Fin cfg0.N, k0_cond2 (grid0.coords t) = 1#1 ↔ t.val = 32 :=
  (by decide +kernel : ∀ t : Fin grid0.N, k0_cond2 (grid0.coords t) = 1#1 ↔ t.val = 32)

theorem point_lt (t : Fin cfg0.N) : t.val < 33 := lt_of_lt_of_eq t.isLt (show cfg0.N = 33 from N_0)

/-! ## What the body leaves -/

/-- The whole of a `S1024x2048`. -/
abbrev rS1024x2048 : Rect S1024x2048 := Rect.unit (s := S1024x2048) ![0, 0] S1024x2048.size inb_S1024x2048_S1024x2048_0_0

/-- The whole of a `S128x1024`. -/
abbrev rS128x1024 : Rect S128x1024 := Rect.unit (s := S128x1024) ![0, 0] S128x1024.size inb_S128x1024_S128x1024_0_0

/-- The whole of a `S128x2048`. -/
abbrev rS128x2048 : Rect S128x2048 := Rect.unit (s := S128x2048) ![0, 0] S128x2048.size inb_S128x2048_S128x2048_0_0

/-- The whole of a `S1x2048`. -/
abbrev rS1x2048 : Rect S1x2048 := Rect.unit (s := S1x2048) ![0, 0] S1x2048.size inb_S1x2048_S1x2048_0_0

/-- The whole of a `S2048x2048`. -/
abbrev rS2048x2048 : Rect S2048x2048 := Rect.unit (s := S2048x2048) ![0, 0] S2048x2048.size inb_S2048x2048_S2048x2048_0_0

/-- The whole of a `S256x1024`. -/
abbrev rS256x1024 : Rect S256x1024 := Rect.unit (s := S256x1024) ![0, 0] S256x1024.size inb_S256x1024_S256x1024_0_0

/-- The whole of a `S256x2048`. -/
abbrev rS256x2048 : Rect S256x2048 := Rect.unit (s := S256x2048) ![0, 0] S256x2048.size inb_S256x2048_S256x2048_0_0

/-- A block of the prompt's result, from the blocks it is computed from. -/
def outP (x1 : Vec F S256x1024 .bf16) (x2 : Vec F S256x1024 .bf16) (x3 : Vec F S256x2048 .f32) (x4 : Vec F S256x2048 .f32) (x5 : Vec F S256x2048 .f32) (x11 : Vec F S1024x2048 .bf16) (x12 : Vec F S1024x2048 .bf16) (x13 : Vec F S2048x2048 .bf16) (x14 : Vec F S1x2048 .f32) (x15 : Vec F S1x2048 .f32) : Vec F S256x2048 .f32 :=
  View.canon [⟨rS256x2048, k0_pay1 (k0_pay3 (View.ld x5 rS256x2048)) (k0_pay4 (View.ld x1 rS256x1024) (View.ld x11 rS1024x2048) (View.ld x2 rS256x1024) (View.ld x12 rS1024x2048) (View.ld x3 rS256x2048) (View.ld x4 rS256x2048)) (View.ld x13 rS2048x2048) (View.ld x14 rS1x2048) (View.ld x15 rS1x2048)⟩]

/-- The samples' result, from the blocks it is computed from. -/
def outS (x6 : Vec F S128x1024 .bf16) (x7 : Vec F S128x1024 .bf16) (x8 : Vec F S128x2048 .f32) (x9 : Vec F S128x2048 .f32) (x10 : Vec F S128x2048 .f32) (x11 : Vec F S1024x2048 .bf16) (x12 : Vec F S1024x2048 .bf16) (x13 : Vec F S2048x2048 .bf16) (x14 : Vec F S1x2048 .f32) (x15 : Vec F S1x2048 .f32) : Vec F S128x2048 .f32 :=
  View.canon [⟨rS128x2048, k0_pay2 (k0_pay5 (View.ld x10 rS128x2048)) (k0_pay6 (View.ld x6 rS128x1024) (View.ld x11 rS1024x2048) (View.ld x7 rS128x1024) (View.ld x12 rS1024x2048) (View.ld x8 rS128x2048) (View.ld x9 rS128x2048)) (View.ld x13 rS2048x2048) (View.ld x14 rS1x2048) (View.ld x15 rS1x2048)⟩]

/-- One store of the whole buffer covers it. -/
theorem cover_S256x2048 (p0 : Vec F S256x2048 .f32) (y : S256x2048.Idx) : ∃ pc ∈ ([⟨rS256x2048, p0⟩] : List (View.Piece (Elt F) S256x2048 .f32)), y ∈ pc.1.set :=
  View.cover_of_tiled [⟨rS256x2048, p0⟩] S256x2048.size (by rfl) y

/-- One store of the whole buffer covers it. -/
theorem cover_S128x2048 (p0 : Vec F S128x2048 .f32) (y : S128x2048.Idx) : ∃ pc ∈ ([⟨rS128x2048, p0⟩] : List (View.Piece (Elt F) S128x2048 .f32)), y ∈ pc.1.set :=
  View.cover_of_tiled [⟨rS128x2048, p0⟩] S128x2048.size (by rfl) y

set_option maxHeartbeats 2000000 in
/-- At a point below 32 the body fills the prompt's block and touches nothing else. -/
theorem body_prompt (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .f32) (harg16 : arg16.IsWhole) (arg17 : Memref sig .tc .vmem S128x2048 .f32) (harg17 : arg17.IsWhole) (hc0 : k0_cond1 i = 1#1) (hc1 : ¬k0_cond2 i = 1#1)
    (x1 : Vec F S256x1024 .bf16) (x2 : Vec F S256x1024 .bf16) (x3 : Vec F S256x2048 .f32) (x4 : Vec F S256x2048 .f32) (x5 : Vec F S256x2048 .f32) (x11 : Vec F S1024x2048 .bf16) (x12 : Vec F S1024x2048 .bf16) (x13 : Vec F S2048x2048 .bf16) (x14 : Vec F S1x2048 .f32) (x15 : Vec F S1x2048 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (outP x1 x2 x3 x4 x5 x11 x12 x13 x14 x15)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_outproj_eq_skeleton]; unfold cc0_outproj_skel
  unfold owns
  iintro ⟨⟨%f1, %hf1, H1⟩, ⟨%f2, %hf2, H2⟩, ⟨%f3, %hf3, H3⟩, ⟨%f4, %hf4, H4⟩, ⟨%f5, %hf5, H5⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf1 hf2 hf3 hf4 hf5 hf11 hf12 hf13 hf14 hf15
  sl_exec (disch := first | sl_exact hc0 | sl_exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover_S256x2048 _)

set_option maxHeartbeats 2000000 in
/-- At point 32 the body fills the samples' result and touches nothing else. -/
theorem body_sample (c : Dev nD) (E : Set ℕ) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S1x2048 .f32) (harg15 : arg15.IsWhole) (arg16 : Memref sig .tc .vmem S256x2048 .f32) (harg16 : arg16.IsWhole) (arg17 : Memref sig .tc .vmem S128x2048 .f32) (harg17 : arg17.IsWhole) (hc0 : ¬k0_cond1 i = 1#1) (hc1 : k0_cond2 i = 1#1)
    (x6 : Vec F S128x1024 .bf16) (x7 : Vec F S128x1024 .bf16) (x8 : Vec F S128x2048 .f32) (x9 : Vec F S128x2048 .f32) (x10 : Vec F S128x2048 .f32) (x11 : Vec F S1024x2048 .bf16) (x12 : Vec F S1024x2048 .bf16) (x13 : Vec F S2048x2048 .bf16) (x14 : Vec F S1x2048 .f32) (x15 : Vec F S1x2048 .f32) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg17 fullShare d)
        ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg17 fullShare (outS x6 x7 x8 x9 x10 x11 x12 x13 x14 x15)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_outproj_eq_skeleton]; unfold cc0_outproj_skel
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d17, %f17, -, H17⟩, Hk⟩
  subst hf6 hf7 hf8 hf9 hf10 hf11 hf12 hf13 hf14 hf15
  sl_exec (disch := first | sl_exact hc0 | sl_exact hc1)
  sl_step
  iapply Hk
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H17
  ipureintro
  exact View.read_writes_eq_canon _ _ _ (cover_S128x2048 _)

/-! ## The proof data -/

/-- The prompt's block made at point `t`. -/
def promptAt (c : Dev nD) (t : Fin cfg0.N) : Vec F S256x2048 .f32 :=
  outP (iblk m c 0 t) (iblk m c 1 t) (X0_2 m c t) (X0_3 m c t) (iblk m c 4 t) (iblk m c 10 t) (iblk m c 11 t) (iblk m c 12 t) (iblk m c 13 t) (iblk m c 14 t)

/-- The samples' result as point `t` would make it. -/
def sampleAt (c : Dev nD) (t : Fin cfg0.N) : Vec F S128x2048 .f32 :=
  outS (iblk m c 5 t) (iblk m c 6 t) (X0_7 m c t) (X0_8 m c t) (iblk m c 9 t) (iblk m c 10 t) (iblk m c 11 t) (iblk m c 12 t) (iblk m c 13 t) (iblk m c 14 t)

/-- The point that made the block the prompt's buffer holds after point `t`: `t` itself, or 31 after point 32. -/
def madeAt (t : Fin cfg0.N) : Fin cfg0.N := ⟨min t.val 31, lt_of_le_of_lt (Nat.min_le_left _ _) t.isLt⟩

/-- The pipeline's proof data: the arrays as the region finds them; after the body the inputs' buffers at their blocks,
    the prompt's at the block last made, the samples' at its result (stated of point 32 only); nothing owed. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => X0_7 m c t
    | ⟨8, _⟩ => X0_8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => promptAt m c (madeAt t)
    | ⟨16, _⟩ => sampleAt m c t
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = X0_2 m c t := by dsimp only [dat]
theorem after_3 (c : Dev nD) (t : Fin cfg0.N) : (dat m c).after 3 t = X0_3 m c t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = X0_7 m c t := by dsimp only [dat]
theorem after_8 (c : Dev nD) (t : Fin cfg0.N) : (dat m c).after 8 t = X0_8 m c t := by dsimp only [dat]
theorem after_9 (c : Dev nD) (t : Fin cfg0.N) : (dat m c).after 9 t = iblk m c 9 t := by dsimp only [dat]
theorem after_10 (c : Dev nD) (t : Fin cfg0.N) : (dat m c).after 10 t = iblk m c 10 t := by dsimp only [dat]
theorem after_11 (c : Dev nD) (t : Fin cfg0.N) : (dat m c).after 11 t = iblk m c 11 t := by dsimp only [dat]
theorem after_12 (c : Dev nD) (t : Fin cfg0.N) : (dat m c).after 12 t = iblk m c 12 t := by dsimp only [dat]
theorem after_13 (c : Dev nD) (t : Fin cfg0.N) : (dat m c).after 13 t = iblk m c 13 t := by dsimp only [dat]
theorem after_14 (c : Dev nD) (t : Fin cfg0.N) : (dat m c).after 14 t = iblk m c 14 t := by dsimp only [dat]
theorem after_15 (c : Dev nD) (t : Fin cfg0.N) : (dat m c).after 15 t = promptAt m c (madeAt t) := by dsimp only [dat]
theorem after_16 (c : Dev nD) (t : Fin cfg0.N) : (dat m c).after 16 t = sampleAt m c t := by dsimp only [dat]

theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = X0_2 m c t :=
  before0_2_of m (dat m c) (A_eq m c 2) (after_2 m c) t d
theorem before_3 (c : Dev nD) (t : Fin cfg0.N) (d) : (dat m c).before 3 t d = X0_3 m c t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d
theorem before_7 (c : Dev nD) (t : Fin cfg0.N) (d) : (dat m c).before 7 t d = X0_7 m c t :=
  before0_7_of m (dat m c) (A_eq m c 7) (after_7 m c) t d
theorem before_8 (c : Dev nD) (t : Fin cfg0.N) (d) : (dat m c).before 8 t d = X0_8 m c t :=
  before0_8_of m (dat m c) (A_eq m c 8) (after_8 m c) t d
theorem before_9 (c : Dev nD) (t : Fin cfg0.N) (d) : (dat m c).before 9 t d = iblk m c 9 t :=
  before0_9_of m (dat m c) (A_eq m c 9) (after_9 m c) t d
theorem before_10 (c : Dev nD) (t : Fin cfg0.N) (d) : (dat m c).before 10 t d = iblk m c 10 t :=
  before0_10_of m (dat m c) (A_eq m c 10) (after_10 m c) t d
theorem before_11 (c : Dev nD) (t : Fin cfg0.N) (d) : (dat m c).before 11 t d = iblk m c 11 t :=
  before0_11_of m (dat m c) (A_eq m c 11) (after_11 m c) t d
theorem before_12 (c : Dev nD) (t : Fin cfg0.N) (d) : (dat m c).before 12 t d = iblk m c 12 t :=
  before0_12_of m (dat m c) (A_eq m c 12) (after_12 m c) t d
theorem before_13 (c : Dev nD) (t : Fin cfg0.N) (d) : (dat m c).before 13 t d = iblk m c 13 t :=
  before0_13_of m (dat m c) (A_eq m c 13) (after_13 m c) t d
theorem before_14 (c : Dev nD) (t : Fin cfg0.N) (d) : (dat m c).before 14 t d = iblk m c 14 t :=
  before0_14_of m (dat m c) (A_eq m c 14) (after_14 m c) t d

/-- The prompt's window changes block at each point up to 31, and not after: its write-backs are at the points 0 to 30 and
    at point 32. -/
theorem flush_15 : ∀ t : Fin cfg0.N, (cfg0.win 15).flush t = true ↔ t.val ≠ 31 :=
  (by decide +kernel : ∀ t : Fin grid0.N, win0_15.flush t = true ↔ t.val ≠ 31)

theorem idle_15 : ∀ t : Fin cfg0.N, cfg0.idle 15 (grid0.coords t) = false ↔ t.val < 32 :=
  (by decide +kernel : ∀ t : Fin grid0.N, idle0 15 (grid0.coords t) = false ↔ t.val < 32)

theorem idle_16 : ∀ t : Fin cfg0.N, cfg0.idle 16 (grid0.coords t) = false ↔ t.val = 32 :=
  (by decide +kernel : ∀ t : Fin grid0.N, idle0 16 (grid0.coords t) = false ↔ t.val = 32)

/-- Point 32 finds in the prompt's buffer the block point 31 made. -/
theorem before_15 (c : Dev nD) (t : Fin cfg0.N) (h : t.val = 32) (d) : (dat m c).before 15 t d = promptAt m c (madeAt t) := by
  have hN : 31 < cfg0.N := by rw [show cfg0.N = 33 from N_0]; decide
  obtain rfl : t = ⟨32, by rw [show cfg0.N = 33 from N_0]; decide⟩ := Fin.ext h
  rw [(dat m c).before_of_pos 15 _ (by decide) rfl d]
  change (if (cfg0.win 15).flush ⟨31, hN⟩ = true then d else (dat m c).left 15 ⟨31, hN⟩ d) = _
  rw [if_neg (fun hf => (flush_15 ⟨31, hN⟩).mp hf rfl)]
  unfold Dat.left
  rw [(idle_15 ⟨31, hN⟩).mpr (show 31 < 32 by decide)]
  exact after_15 m c ⟨31, hN⟩

/-! ## The body obligation -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d))
    ∗ (∃ d, owns (c : Thread nD τ) (st0_15 t) fullShare ((dat m c).before 15 t d))
    ∗ (∃ d, owns (c : Thread nD τ) (st0_16 t) fullShare ((dat m c).before 16 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t
    ∗ (dat m c).leavesExact 8 t
    ∗ (dat m c).leavesExact 9 t
    ∗ (dat m c).leavesExact 10 t
    ∗ (dat m c).leavesExact 11 t
    ∗ (dat m c).leavesExact 12 t
    ∗ (dat m c).leavesExact 13 t
    ∗ (dat m c).leavesExact 14 t
    ∗ (dat m c).leavesExact 15 t
    ∗ (dat m c).leavesExact 16 t)

theorem leaves_0 (c : Dev nD) (t : Fin cfg0.N) : (dat m c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dat m c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dat m c).leavesExact 2 t = owns (c : Thread nD τ) (st0_2 t) fullShare (X0_2 m c t) := by
  unfold Dat.leavesExact; rw [show cfg0.idle 2 (grid0.coords t) = false from rfl, after_2]
theorem leaves_3 (c : Dev nD) (t : Fin cfg0.N) : (dat m c).leavesExact 3 t = owns (c : Thread nD τ) (st0_3 t) fullShare (X0_3 m c t) := by
  unfold Dat.leavesExact; rw [show cfg0.idle 3 (grid0.coords t) = false from rfl, after_3]
theorem leaves_4 (c : Dev nD) (t : Fin cfg0.N) : (dat m c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dat m c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dat m c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dat m c).leavesExact 7 t = owns (c : Thread nD τ) (st0_7 t) fullShare (X0_7 m c t) := by
  unfold Dat.leavesExact; rw [show cfg0.idle 7 (grid0.coords t) = false from rfl, after_7]
theorem leaves_8 (c : Dev nD) (t : Fin cfg0.N) : (dat m c).leavesExact 8 t = owns (c : Thread nD τ) (st0_8 t) fullShare (X0_8 m c t) := by
  unfold Dat.leavesExact; rw [show cfg0.idle 8 (grid0.coords t) = false from rfl, after_8]
theorem leaves_9 (c : Dev nD) (t : Fin cfg0.N) : (dat m c).leavesExact 9 t = owns (c : Thread nD τ) (st0_9 t) fullShare (iblk m c 9 t) := by
  unfold Dat.leavesExact; rw [show cfg0.idle 9 (grid0.coords t) = false from rfl, after_9]
theorem leaves_10 (c : Dev nD) (t : Fin cfg0.N) : (dat m c).leavesExact 10 t = owns (c : Thread nD τ) (st0_10 t) fullShare (iblk m c 10 t) := by
  unfold Dat.leavesExact; rw [show cfg0.idle 10 (grid0.coords t) = false from rfl, after_10]
theorem leaves_11 (c : Dev nD) (t : Fin cfg0.N) : (dat m c).leavesExact 11 t = owns (c : Thread nD τ) (st0_11 t) fullShare (iblk m c 11 t) := by
  unfold Dat.leavesExact; rw [show cfg0.idle 11 (grid0.coords t) = false from rfl, after_11]
theorem leaves_12 (c : Dev nD) (t : Fin cfg0.N) : (dat m c).leavesExact 12 t = owns (c : Thread nD τ) (st0_12 t) fullShare (iblk m c 12 t) := by
  unfold Dat.leavesExact; rw [show cfg0.idle 12 (grid0.coords t) = false from rfl, after_12]
theorem leaves_13 (c : Dev nD) (t : Fin cfg0.N) : (dat m c).leavesExact 13 t = owns (c : Thread nD τ) (st0_13 t) fullShare (iblk m c 13 t) := by
  unfold Dat.leavesExact; rw [show cfg0.idle 13 (grid0.coords t) = false from rfl, after_13]
theorem leaves_14 (c : Dev nD) (t : Fin cfg0.N) : (dat m c).leavesExact 14 t = owns (c : Thread nD τ) (st0_14 t) fullShare (iblk m c 14 t) := by
  unfold Dat.leavesExact; rw [show cfg0.idle 14 (grid0.coords t) = false from rfl, after_14]

theorem made_lt (t : Fin cfg0.N) (h : t.val < 32) : madeAt t = t := Fin.ext (show min t.val 31 = t.val by omega)

theorem leaves_15 (c : Dev nD) (t : Fin cfg0.N) :
    (dat m c).leavesExact 15 t = owns (c : Thread nD τ) (st0_15 t) fullShare (promptAt m c (madeAt t)) := by
  unfold Dat.leavesExact
  by_cases h : t.val < 32
  · rw [(idle_15 t).mpr h, after_15]
  · have h' := point_lt t
    rw [show cfg0.idle 15 (grid0.coords t) = true from Bool.eq_true_of_not_eq_false (fun hi => h ((idle_15 t).mp hi)), (flush_15 t).mpr (by omega), after_15]

theorem leaves_16_prompt (c : Dev nD) (t : Fin cfg0.N) (h : t.val < 32) :
    (dat m c).leavesExact 16 t = iprop(∃ d, owns (c : Thread nD τ) (st0_16 t) fullShare ((dat m c).before 16 t d)) := by
  unfold Dat.leavesExact
  have hf : (cfg0.win 16).flush t = false := Bool.eq_false_iff.mpr fun hf => by have := (flush0_16 t).mp hf; omega
  rw [show cfg0.idle 16 (grid0.coords t) = true from Bool.eq_true_of_not_eq_false (fun hi => by have := (idle_16 t).mp hi; omega), hf]

theorem leaves_16_sample (c : Dev nD) (t : Fin cfg0.N) (h : t.val = 32) :
    (dat m c).leavesExact 16 t = owns (c : Thread nD τ) (st0_16 t) fullShare (sampleAt m c t) := by
  unfold Dat.leavesExact
  rw [(idle_16 t).mpr h, after_16]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dat m c).Φ t.succ = (dat m c).Φ t.castSucc from rfl,
    show (dat m c).owesAt () t.succ = (dat m c).owesAt () t.castSucc from rfl,
    leaves_0, leaves_1, leaves_2, leaves_3, leaves_4, leaves_5, leaves_6, leaves_7, leaves_8, leaves_9, leaves_10, leaves_11, leaves_12, leaves_13, leaves_14, leaves_15]
  have hN := point_lt t
  by_cases h : t.val < 32
  · rw [leaves_16_prompt m c t h, made_lt t h]
    unfold promptAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (body_prompt c Set.univ (grid0.coords t) _ _ _ _ _ _ _ _ _ _ _ _ _ _ _ _ _ _ _ _ _ _ _ _ _ _ _ _ _ _ _ _ _ _ ((prompt_at t).mpr h) (fun hs => by have := (sample_at t).mp hs; omega) (iblk m c 0 t) (iblk m c 1 t) (X0_2 m c t) (X0_3 m c t) (iblk m c 4 t) (iblk m c 10 t) (iblk m c 11 t) (iblk m c 12 t) (iblk m c 13 t) (iblk m c 14 t) _)
    isplitl [H0]; · iexact H0
    isplitl [H1]; · iexact H1
    isplitl [H2]; · iexact H2
    isplitl [H3]; · iexact H3
    isplitl [H4]; · iexact H4
    isplitl [H10]; · iexact H10
    isplitl [H11]; · iexact H11
    isplitl [H12]; · iexact H12
    isplitl [H13]; · iexact H13
    isplitl [H14]; · iexact H14
    isplitl [H15]; · iexists _; iexact H15
    iintro ⟨H0, H1, H2, H3, H4, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexists _; iexact H16
  · have h' : t.val = 32 := by omega
    simp only [before_15 m c t h']
    rw [leaves_16_sample m c t h']
    unfold sampleAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (body_sample c Set.univ (grid0.coords t) _ _ _ _ _ _ _ _ _ _ _ _ _ _ _ _ _ _ _ _ _ _ _ _ _ _ _ _ _ _ _ _ _ _ (fun hs => h ((prompt_at t).mp hs)) ((sample_at t).mpr h') (iblk m c 5 t) (iblk m c 6 t) (X0_7 m c t) (X0_8 m c t) (iblk m c 9 t) (iblk m c 10 t) (iblk m c 11 t) (iblk m c 12 t) (iblk m c 13 t) (iblk m c 14 t) _)
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H16]; · iexists _; iexact H16
    iintro ⟨H5, H6, H7, H8, H9, H10, H11, H12, H13, H14, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-! ## The run -/

def dats : (p : Fin 1) → (c : Dev nD) → Dat τ (Elt F) Unit ℕ (UR sig nD τ) ℕ (cfgs p) c := fun | 0 => fun c => dat m c

set_option maxHeartbeats 1600000 in
/-- Every run ends with the windows' arrays at what the write-backs leave, the other buffers as the region found them and
    every counter at zero. -/
theorem run_all : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ Variants.none m ρ main
    (hbody := fun c => (body_obligation m c).loose) (hq := fun _ _ _ => rfl) (howed := fun _ _ => rfl) (V := V m)
    (hmain := hmain m Variants.none) (hA := fun c w => A_eq m c w) (hΦ := fun _ _ => rfl)
    (Q' := fun r => Pipeline.FramePost cfgs (dats m) 0 (V m) r ∧ r.2.sem = fun _ => 0) (hQ' := fun _ h => h)

theorem run_post : θ_run defs (onTc (τ := τ) (main (F := F))) (s₀ m ρ) (Pipeline.FramePost cfgs (dats m) 0 (V m)) :=
  (θ_run defs _ _).mono (fun _ h => h.1) (run_all m ρ)

/-- THE FRAME: the run ends, nothing faults, the arguments keep their contents and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  θ_run_and (frame_of m ρ (dats m) (fun c w => A_eq m c w) (run_post m ρ)) ((θ_run defs _ _).mono (fun _ h => h.2) (run_all m ρ))

end Cert.Kernel2Ideal.Whole

end
-- ==== Proof.OutBlocks.lean ====
module

public import proofs.«01_k».proof.Proof.OutRunIdeal
public import proofs.«01_k».proof.Proof.Gen.Kernel2Ideal.Skeleton
public import proofs.«01_k».proof.Proof.Gen.Kernel2Ideal.Launch
public import Idealize.ShloMosaic.Lib.Pipeline.ValueKit
public import Idealize.ShloMosaic.Lib.Pipeline.Covers
public import Idealize.ShloMosaic.Lib.Pointwise

/-! # The blocks the output call reads

Each window's block at a point is a rectangle of its array; here is which entry of the array each entry of the block is. -/

@[expose] public section

set_option maxRecDepth 16384

noncomputable section

namespace Cert.Kernel2Ideal.Whole

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The blocks of the prompt's windows at a point that makes a block of the prompt. -/
theorem idxP : ∀ t : Fin cfg0.N, t.val < 32 → win0_0.index t = ![t.val, 0] ∧ win0_1.index t = ![t.val, 0]
    ∧ win0_2.index t = ![t.val, 4] ∧ win0_3.index t = ![t.val, 5] ∧ win0_4.index t = ![t.val, 0] :=
  (by decide +kernel : ∀ t : Fin grid0.N, t.val < 32 → win0_0.index t = ![t.val, 0] ∧ win0_1.index t = ![t.val, 0]
    ∧ win0_2.index t = ![t.val, 4] ∧ win0_3.index t = ![t.val, 5] ∧ win0_4.index t = ![t.val, 0])

/-- The blocks of the windows that do not move. -/
theorem idxS : ∀ t : Fin cfg0.N, win0_5.index t = ![0, 0] ∧ win0_6.index t = ![0, 0] ∧ win0_7.index t = ![0, 4] ∧ win0_8.index t = ![0, 5]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_16.index t = ![0, 0] :=
  (by decide +kernel : ∀ t : Fin grid0.N, win0_5.index t = ![0, 0] ∧ win0_6.index t = ![0, 0] ∧ win0_7.index t = ![0, 4] ∧ win0_8.index t = ![0, 5]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_16.index t = ![0, 0])

/-- The blocks of the prompt's result. -/
theorem idxO : ∀ t : Fin cfg0.N, win0_15.index t = ![min t.val 31, 0] :=
  (by decide +kernel : ∀ t : Fin grid0.N, win0_15.index t = ![min t.val 31, 0])

theorem read_0 (t : Fin cfg0.N) (ht : t.val < 32) (r : Fin 256) (k : Fin 1024) (a : Fin 8192) (ha : a.val = t.val * 256 + r.val) :
    iblk m c 0 t (ix2 r k : S256x1024.Idx) = V m c main_v13 (ix2 a k : S8192x1024.Idx) := by
  blk_point [iblk, idxP t ht, ha]

theorem read_1 (t : Fin cfg0.N) (ht : t.val < 32) (r : Fin 256) (k : Fin 1024) (a : Fin 8192) (ha : a.val = t.val * 256 + r.val) :
    iblk m c 1 t (ix2 r k : S256x1024.Idx) = V m c main_v15 (ix2 a k : S8192x1024.Idx) := by
  blk_point [iblk, idxP t ht, ha]

theorem read_2 (t : Fin cfg0.N) (ht : t.val < 32) (r : Fin 256) (k : Fin 2048) (a : Fin 8192) (ha : a.val = t.val * 256 + r.val) (b : Fin 12544) (hb : b.val = 8192 + k.val) :
    X0_2 m c t (ix2 r k : S256x2048.Idx) = V m c main_arg2 (ix2 a b : S8192x12544.Idx) := by
  unfold X0_2 Pipeline.Window.fill
  rw [dif_pos (moved0_2 t _)]
  blk_point [iblk, idxP t ht, ha, hb]

theorem read_3 (t : Fin cfg0.N) (ht : t.val < 32) (r : Fin 256) (k : Fin 2048) (a : Fin 8192) (ha : a.val = t.val * 256 + r.val) (b : Fin 12544) (hb : b.val = 10240 + k.val) :
    X0_3 m c t (ix2 r k : S256x2048.Idx) = V m c main_arg2 (ix2 a b : S8192x12544.Idx) := by
  unfold X0_3 Pipeline.Window.fill
  rw [dif_pos (moved0_3 t _)]
  blk_point [iblk, idxP t ht, ha, hb]

theorem read_4 (t : Fin cfg0.N) (ht : t.val < 32) (r : Fin 256) (k : Fin 2048) (a : Fin 8192) (ha : a.val = t.val * 256 + r.val) :
    iblk m c 4 t (ix2 r k : S256x2048.Idx) = V m c main_v0 (ix2 a k : S8192x2048.Idx) := by
  blk_point [iblk, idxP t ht, ha]

theorem read_5 (t : Fin cfg0.N) (r : Fin 128) (k : Fin 1024) :
    iblk m c 5 t (ix2 r k : S128x1024.Idx) = V m c main_v17 (ix2 r k : S128x1024.Idx) := by
  blk_point [iblk, idxS t]

theorem read_6 (t : Fin cfg0.N) (r : Fin 128) (k : Fin 1024) :
    iblk m c 6 t (ix2 r k : S128x1024.Idx) = V m c main_v19 (ix2 r k : S128x1024.Idx) := by
  blk_point [iblk, idxS t]

theorem read_7 (t : Fin cfg0.N) (r : Fin 128) (k : Fin 2048) (b : Fin 12544) (hb : b.val = 8192 + k.val) :
    X0_7 m c t (ix2 r k : S128x2048.Idx) = V m c main_arg6 (ix2 r b : S128x12544.Idx) := by
  unfold X0_7 Pipeline.Window.fill
  rw [dif_pos (moved0_7 t _)]
  blk_point [iblk, idxS t, hb]

theorem read_8 (t : Fin cfg0.N) (r : Fin 128) (k : Fin 2048) (b : Fin 12544) (hb : b.val = 10240 + k.val) :
    X0_8 m c t (ix2 r k : S128x2048.Idx) = V m c main_arg6 (ix2 r b : S128x12544.Idx) := by
  unfold X0_8 Pipeline.Window.fill
  rw [dif_pos (moved0_8 t _)]
  blk_point [iblk, idxS t, hb]

theorem read_9 (t : Fin cfg0.N) (r : Fin 128) (k : Fin 2048) :
    iblk m c 9 t (ix2 r k : S128x2048.Idx) = V m c main_v1 (ix2 r k : S128x2048.Idx) := by
  blk_point [iblk, idxS t]

theorem read_10 (t : Fin cfg0.N) (r : Fin 1024) (k : Fin 2048) :
    iblk m c 10 t (ix2 r k : S1024x2048.Idx) = V m c main_v7 (ix2 r k : S1024x2048.Idx) := by
  blk_point [iblk, idxS t]

theorem read_11 (t : Fin cfg0.N) (r : Fin 1024) (k : Fin 2048) :
    iblk m c 11 t (ix2 r k : S1024x2048.Idx) = V m c main_v9 (ix2 r k : S1024x2048.Idx) := by
  blk_point [iblk, idxS t]

theorem read_12 (t : Fin cfg0.N) (r : Fin 2048) (k : Fin 2048) :
    iblk m c 12 t (ix2 r k : S2048x2048.Idx) = V m c main_v11 (ix2 r k : S2048x2048.Idx) := by
  blk_point [iblk, idxS t]

theorem read_13 (t : Fin cfg0.N) (r : Fin 1) (k : Fin 2048) :
    iblk m c 13 t (ix2 r k : S1x2048.Idx) = V m c main_v3 (ix2 r k : S1x2048.Idx) := by
  blk_point [iblk, idxS t]

theorem read_14 (t : Fin cfg0.N) (r : Fin 1) (k : Fin 2048) :
    iblk m c 14 t (ix2 r k : S1x2048.Idx) = V m c main_v5 (ix2 r k : S1x2048.Idx) := by
  blk_point [iblk, idxS t]

end Cert.Kernel2Ideal.Whole

end
-- ==== Proof.OutRow.lean ====
module

public import proofs.«01_k».proof.Proof.Gen.Kernel2Ideal.Skeleton
public import Idealize.ShloMosaic.PureOps.Ideal
public import Idealize.ShloMosaic.Lib.Pipeline.ValueKit
public import Idealize.ShloMosaic.Lib.Pipeline.Covers
public import Idealize.ShloMosaic.Lib.Pointwise

/-! # One row of the layer's output

The two branches' rows are projected, each is weighted by the logistic function of its gate, their sum is projected
again and added to the scaled input row, and the row is normalised to mean zero and variance one. The kernel writes the
logistic function with a power of two, which over the reals is the same function. -/

@[expose] public section

set_option maxRecDepth 16384

noncomputable section

namespace Cert.Kernel2Ideal.Whole

open Idealize.ShloMosaic Idealize.ShloMosaic.TcCoe Idealize.SL.Sem
open Idealize.ShloMosaic.Pipeline (Dat)
open Cert.Kernel2Ideal Cert.Kernel2Ideal.Gen

/-- The constant one. -/
abbrev one : EReal := FloatOps.ofBits (F := Ideal) .f32 0x3F800000#32
/-- The row's length. -/
abbrev len : EReal := FloatOps.ofBits (F := Ideal) .f32 0x45000000#32
/-- The layer's factor of the input row. -/
abbrev scale : EReal := FloatOps.ofBits (F := Ideal) .f32 0x3F9837F0#32
/-- The normalisation's small constant. -/
abbrev eps : EReal := FloatOps.ofBits (F := Ideal) .f32 0x3727C5AC#32

/-- The logistic function of a gate. -/
def gate (z : EReal) : EReal := Ideal.div one (one + Ideal.exp (-z))

/-- The mean of a row. -/
def mean (r : Fin 2048 → EReal) : EReal := Ideal.div (∑ k, r k) len

/-- An entry of the normalised row, with its scale and its shift. -/
def norm (r : Fin 2048 → EReal) (g b : EReal) (l : Fin 2048) : EReal :=
  (r l - mean r) * Ideal.rsqrt (mean (fun k => (r k - mean r) * (r k - mean r)) + eps) * g + b

/-- An entry of the two branches' gated sum. -/
def merge (ga gb : EReal) (ya yb : Fin 1024 → EReal) (wa wb : Fin 1024 → EReal) : EReal :=
  gate ga * (∑ j, ya j * wa j) + gate gb * (∑ j, yb j * wb j)

/-- An entry of the row that is normalised. -/
def residual (x : EReal) (a : Fin 2048 → EReal) (w : Fin 2048 → EReal) : EReal :=
  scale * x + ∑ k, a k * w k

/-- The kernel's factor of a gate: minus one over the logarithm of two. -/
abbrev slope : EReal := (Named.named κ "minus_log2_e" 0xBFB8AA3B#32 : Ideal .f32)

theorem slope_eq : slope = ((-(Real.log 2)⁻¹ : ℝ) : EReal) := rfl

/-- The power of two at the scaled gate is the exponential at the negated gate. -/
theorem exp2_eq (z : EReal) : Ideal.exp2 (z * slope) = Ideal.exp (-z) := by
  have h2 : (0 : ℝ) < Real.log 2 := Real.log_pos (by norm_num)
  have hn : -(Real.log 2)⁻¹ < 0 := neg_lt_zero.2 (inv_pos.2 h2)
  rw [slope_eq]
  induction z with
  | bot => rw [EReal.bot_mul_coe_of_neg hn]; rfl
  | top => rw [EReal.top_mul_coe_of_neg hn]; rfl
  | coe r =>
    rw [← EReal.coe_mul, Ideal.exp2_coe, ← EReal.coe_neg, Ideal.exp_coe]
    congr 1
    show (2 : ℝ) ^ (r * -(Real.log 2)⁻¹) = Real.exp (-r)
    rw [Real.rpow_def_of_pos (by norm_num : (0:ℝ) < 2)]
    congr 1
    field_simp

theorem pay1_apply (v38 : FVec Ideal S256x2048 .f32) (v39 : FVec Ideal S256x2048 .bf16) (v40 : Vec Ideal S2048x2048 .bf16)
    (v60 v64 : Vec Ideal S1x2048 .f32) (i : S256x2048.Idx) :
    k0_pay1 (F := Ideal) v38 v39 v40 v60 v64 i
      = norm (fun l => v38 (ix2 (i 0) l) + ∑ k : Fin 2048, v39 (ix2 (i 0) k) * v40 (ix2 k l)) (v60 (ix2 0 (i 1))) (v64 (ix2 0 (i 1))) (i 1) := by
  unfold norm mean
  pointwise [k0_pay1]

theorem pay3_apply (x : Vec Ideal S256x2048 .f32) (i : S256x2048.Idx) : k0_pay3 (F := Ideal) x i = scale * x i := by
  pointwise [k0_pay3]

theorem pay4_apply (ya : Vec Ideal S256x1024 .bf16) (wa : Vec Ideal S1024x2048 .bf16) (yb : Vec Ideal S256x1024 .bf16)
    (wb : Vec Ideal S1024x2048 .bf16) (ga gb : Vec Ideal S256x2048 .f32) (i : S256x2048.Idx) :
    k0_pay4 (F := Ideal) ya wa yb wb ga gb i
      = merge (ga i) (gb i) (fun j => ya (ix2 (i 0) j)) (fun j => yb (ix2 (i 0) j)) (fun j => wa (ix2 j (i 1))) (fun j => wb (ix2 j (i 1))) := by
  unfold merge gate
  rw [← exp2_eq, ← exp2_eq]
  pointwise [k0_pay4]
  rfl

theorem pay2_apply (v38 : FVec Ideal S128x2048 .f32) (v39 : FVec Ideal S128x2048 .bf16) (v40 : Vec Ideal S2048x2048 .bf16)
    (v60 v64 : Vec Ideal S1x2048 .f32) (i : S128x2048.Idx) :
    k0_pay2 (F := Ideal) v38 v39 v40 v60 v64 i
      = norm (fun l => v38 (ix2 (i 0) l) + ∑ k : Fin 2048, v39 (ix2 (i 0) k) * v40 (ix2 k l)) (v60 (ix2 0 (i 1))) (v64 (ix2 0 (i 1))) (i 1) := by
  unfold norm mean
  pointwise [k0_pay2]

theorem pay5_apply (x : Vec Ideal S128x2048 .f32) (i : S128x2048.Idx) : k0_pay5 (F := Ideal) x i = scale * x i := by
  pointwise [k0_pay5]

theorem pay6_apply (ya : Vec Ideal S128x1024 .bf16) (wa : Vec Ideal S1024x2048 .bf16) (yb : Vec Ideal S128x1024 .bf16)
    (wb : Vec Ideal S1024x2048 .bf16) (ga gb : Vec Ideal S128x2048 .f32) (i : S128x2048.Idx) :
    k0_pay6 (F := Ideal) ya wa yb wb ga gb i
      = merge (ga i) (gb i) (fun j => ya (ix2 (i 0) j)) (fun j => yb (ix2 (i 0) j)) (fun j => wa (ix2 j (i 1))) (fun j => wb (ix2 j (i 1))) := by
  unfold merge gate
  rw [← exp2_eq, ← exp2_eq]
  pointwise [k0_pay6]
  rfl

end Cert.Kernel2Ideal.Whole

end
-- ==== Proof.OutValue.lean ====
module

public import proofs.«01_k».proof.Proof.OutBlocks
public import proofs.«01_k».proof.Proof.OutRow

/-! # What the output call leaves

Every row of the prompt's result, and every row of the samples', is the row formula of `Proof/OutRow.lean` at the rows
of the arrays the call is given. -/

@[expose] public section

set_option maxRecDepth 16384

noncomputable section

namespace Cert.Kernel2Ideal.Whole

open Idealize.ShloMosaic Idealize.ShloMosaic.TcCoe Idealize.SL.Sem
open Idealize.ShloMosaic.Pipeline (Dat)
open Cert.Kernel2Ideal Cert.Kernel2Ideal.Gen

/-- The whole row formula: one entry of the layer's output from the rows it depends on. -/
def entry (ya yb : Fin 1024 → EReal) (ga gb x : Fin 2048 → EReal) (wa wb : Fin 1024 → Fin 2048 → EReal)
    (wo : Fin 2048 → Fin 2048 → EReal) (g b : Fin 2048 → EReal) (l : Fin 2048) : EReal :=
  norm (fun l => residual (x l) (fun k => merge (ga k) (gb k) ya yb (fun j => wa j k) (fun j => wb j k)) (fun k => wo k l)) (g l) (b l) l

theorem entry_congr {ya ya' yb yb' : Fin 1024 → EReal} {ga ga' gb gb' x x' : Fin 2048 → EReal} {wa wa' wb wb' : Fin 1024 → Fin 2048 → EReal}
    {wo wo' : Fin 2048 → Fin 2048 → EReal} {g g' b b' : Fin 2048 → EReal} {l l' : Fin 2048}
    (h1 : ∀ j, ya j = ya' j) (h2 : ∀ j, yb j = yb' j) (h3 : ∀ k, ga k = ga' k) (h4 : ∀ k, gb k = gb' k) (h5 : ∀ k, x k = x' k)
    (h6 : ∀ j k, wa j k = wa' j k) (h7 : ∀ j k, wb j k = wb' j k) (h8 : ∀ k l, wo k l = wo' k l) (h9 : ∀ l, g l = g' l) (h10 : ∀ l, b l = b' l)
    (hl : l = l') : entry ya yb ga gb x wa wb wo g b l = entry ya' yb' ga' gb' x' wa' wb' wo' g' b' l' := by
  obtain rfl := funext h1
  obtain rfl := funext h2
  obtain rfl := funext h3
  obtain rfl := funext h4
  obtain rfl := funext h5
  obtain rfl := funext fun j => funext (h6 j)
  obtain rfl := funext fun j => funext (h7 j)
  obtain rfl := funext fun j => funext (h8 j)
  obtain rfl := funext h9
  obtain rfl := funext h10
  rw [hl]

/-- Column `k` of the first branch's gate. -/
def colA (k : Fin 2048) : Fin 12544 := ⟨8192 + k.val, by omega⟩
/-- Column `k` of the second branch's gate. -/
def colB (k : Fin 2048) : Fin 12544 := ⟨10240 + k.val, by omega⟩

theorem outP_apply (x1 x2 : Vec Ideal S256x1024 .bf16) (x3 x4 x5 : Vec Ideal S256x2048 .f32) (x11 x12 : Vec Ideal S1024x2048 .bf16)
    (x13 : Vec Ideal S2048x2048 .bf16) (x14 x15 : Vec Ideal S1x2048 .f32) (i : S256x2048.Idx) :
    outP x1 x2 x3 x4 x5 x11 x12 x13 x14 x15 i
      = entry (fun j => x1 (ix2 (i 0) j)) (fun j => x2 (ix2 (i 0) j)) (fun k => x3 (ix2 (i 0) k)) (fun k => x4 (ix2 (i 0) k))
        (fun k => x5 (ix2 (i 0) k)) (fun j k => x11 (ix2 j k)) (fun j k => x12 (ix2 j k)) (fun k l => x13 (ix2 k l))
        (fun l => x14 (ix2 0 l)) (fun l => x15 (ix2 0 l)) (i 1) := by
  unfold outP
  frame_out
  rw [pay1_apply]
  unfold entry residual
  simp only [pay3_apply, pay4_apply]
  rfl

theorem outS_apply (x1 x2 : Vec Ideal S128x1024 .bf16) (x3 x4 x5 : Vec Ideal S128x2048 .f32) (x11 x12 : Vec Ideal S1024x2048 .bf16)
    (x13 : Vec Ideal S2048x2048 .bf16) (x14 x15 : Vec Ideal S1x2048 .f32) (i : S128x2048.Idx) :
    outS x1 x2 x3 x4 x5 x11 x12 x13 x14 x15 i
      = entry (fun j => x1 (ix2 (i 0) j)) (fun j => x2 (ix2 (i 0) j)) (fun k => x3 (ix2 (i 0) k)) (fun k => x4 (ix2 (i 0) k))
        (fun k => x5 (ix2 (i 0) k)) (fun j k => x11 (ix2 j k)) (fun j k => x12 (ix2 j k)) (fun k l => x13 (ix2 k l))
        (fun l => x14 (ix2 0 l)) (fun l => x15 (ix2 0 l)) (i 1) := by
  unfold outS
  frame_out
  rw [pay2_apply]
  unfold entry residual
  simp only [pay5_apply, pay6_apply]
  rfl

/-- The prompt's rows from the arrays the call is given. -/
def rowsP (ya yb : FVec Ideal S8192x1024 .bf16) (p : FVec Ideal S8192x12544 .f32) (x : FVec Ideal S8192x2048 .f32)
    (wa wb : FVec Ideal S1024x2048 .bf16) (wo : FVec Ideal S2048x2048 .bf16) (g b : FVec Ideal S1x2048 .f32) : FVec Ideal S8192x2048 .f32 :=
  fun i => entry (fun j => ya (ix2 (i 0) j)) (fun j => yb (ix2 (i 0) j)) (fun k => p (ix2 (i 0) (colA k))) (fun k => p (ix2 (i 0) (colB k)))
    (fun k => x (ix2 (i 0) k)) (fun j k => wa (ix2 j k)) (fun j k => wb (ix2 j k)) (fun k l => wo (ix2 k l))
    (fun l => g (ix2 0 l)) (fun l => b (ix2 0 l)) (i 1)

/-- The samples' rows from the arrays the call is given. -/
def rowsS (ya yb : FVec Ideal S128x1024 .bf16) (p : FVec Ideal S128x12544 .f32) (x : FVec Ideal S128x2048 .f32)
    (wa wb : FVec Ideal S1024x2048 .bf16) (wo : FVec Ideal S2048x2048 .bf16) (g b : FVec Ideal S1x2048 .f32) : FVec Ideal S128x2048 .f32 :=
  fun i => entry (fun j => ya (ix2 (i 0) j)) (fun j => yb (ix2 (i 0) j)) (fun k => p (ix2 (i 0) (colA k))) (fun k => p (ix2 (i 0) (colB k)))
    (fun k => x (ix2 (i 0) k)) (fun j k => wa (ix2 j k)) (fun j k => wb (ix2 j k)) (fun k l => wo (ix2 k l))
    (fun l => g (ix2 0 l)) (fun l => b (ix2 0 l)) (i 1)

variable (m : (ℓ : Loc nD τ sig) → Buf (Elt Ideal) ℓ) (c : Dev nD)

/-- A block of the prompt's result, entry by entry. -/
theorem promptAt_apply (t : Fin cfg0.N) (ht : t.val < 32) (i : S256x2048.Idx) (j : S8192x2048.Idx)
    (h0 : (j 0 : ℕ) = t.val * 256 + (i 0 : ℕ)) (h1 : (j 1 : ℕ) = (i 1 : ℕ)) :
    promptAt m c t i = rowsP (V m c main_v13) (V m c main_v15) (V m c main_arg2) (V m c main_v0) (V m c main_v7) (V m c main_v9)
      (V m c main_v11) (V m c main_v3) (V m c main_v5) j := by
  unfold promptAt
  rw [outP_apply]
  unfold rowsP
  exact entry_congr (fun k => read_0 m c t ht (i 0) k (j 0) h0) (fun k => read_1 m c t ht (i 0) k (j 0) h0)
    (fun k => read_2 m c t ht (i 0) k (j 0) h0 (colA k) rfl) (fun k => read_3 m c t ht (i 0) k (j 0) h0 (colB k) rfl)
    (fun k => read_4 m c t ht (i 0) k (j 0) h0) (fun k l => read_10 m c t k l) (fun k l => read_11 m c t k l) (fun k l => read_12 m c t k l)
    (fun l => read_13 m c t 0 l) (fun l => read_14 m c t 0 l) (Fin.ext h1.symm)

/-- The samples' result, entry by entry. -/
theorem sampleAt_apply (t : Fin cfg0.N) (i : S128x2048.Idx) :
    sampleAt m c t i = rowsS (V m c main_v17) (V m c main_v19) (V m c main_arg6) (V m c main_v1) (V m c main_v7) (V m c main_v9)
      (V m c main_v11) (V m c main_v3) (V m c main_v5) i := by
  unfold sampleAt
  rw [outS_apply]
  unfold rowsS
  exact entry_congr (fun k => read_5 m c t (i 0) k) (fun k => read_6 m c t (i 0) k)
    (fun k => read_7 m c t (i 0) k (colA k) rfl) (fun k => read_8 m c t (i 0) k (colB k) rfl)
    (fun k => read_9 m c t (i 0) k) (fun k l => read_10 m c t k l) (fun k l => read_11 m c t k l) (fun k l => read_12 m c t k l)
    (fun l => read_13 m c t 0 l) (fun l => read_14 m c t 0 l) rfl

/-- The prompt's result after the whole call. -/
theorem prompt_value : (dat m c).arrAt 15 cfg0.N = rowsP (V m c main_v13) (V m c main_v15) (V m c main_arg2) (V m c main_v0) (V m c main_v7)
    (V m c main_v9) (V m c main_v11) (V m c main_v3) (V m c main_v5) := by
  refine (dat m c).arrAt_eq_of_covers 15 _ (by decide +kernel) fun t _ y => ?_
  have hN := point_lt t
  have hm : (madeAt t).val = min t.val 31 := rfl
  have hi := idxO t
  blk_simp
  rw [after_15]
  refine promptAt_apply m c (madeAt t) (by omega) y _ ?_ ?_
  · refine (win0_15.rect_emb_val t y 0).trans ?_
    show win0_15.index t 0 * 256 + (y 0 : ℕ) = _
    rw [hi, hm]; rfl
  · refine (win0_15.rect_emb_val t y 1).trans ?_
    show win0_15.index t 1 * 2048 + (y 1 : ℕ) = _
    rw [hi]; show 0 * 2048 + (y 1 : ℕ) = _; omega

/-- The samples' result after the whole call. -/
theorem sample_value : (dat m c).arrAt 16 cfg0.N = rowsS (V m c main_v17) (V m c main_v19) (V m c main_arg6) (V m c main_v1) (V m c main_v7)
    (V m c main_v9) (V m c main_v11) (V m c main_v3) (V m c main_v5) := by
  refine (dat m c).arrAt_eq_of_covers 16 _ (by decide +kernel) fun t _ y => ?_
  blk_simp
  rw [after_16]
  have hi := (idxS t).2.2.2.2.2.2.2.2.2.2
  have he : (win0_16.blk t).view.emb y = y := by
    funext a
    refine Fin.ext ?_
    match a with
    | ⟨0, _⟩ =>
      refine (win0_16.rect_emb_val t y 0).trans ?_
      show win0_16.index t 0 * 128 + (y 0 : ℕ) = (y 0 : ℕ)
      rw [hi]; show 0 * 128 + (y 0 : ℕ) = _; omega
    | ⟨1, _⟩ =>
      refine (win0_16.rect_emb_val t y 1).trans ?_
      show win0_16.index t 1 * 2048 + (y 1 : ℕ) = (y 1 : ℕ)
      rw [hi]; show 0 * 2048 + (y 1 : ℕ) = _; omega
  rw [he]
  exact sampleAt_apply m c t y

end Cert.Kernel2Ideal.Whole

end
-- ==== Proof.OutRef.lean ====
module

public import proofs.«01_k».proof.Proof.Gen.Reference2Ideal.Run
public import proofs.«01_k».proof.Proof.Gen.Reference2Ideal.Read
public import proofs.«01_k».proof.Proof.OutValue
public import Idealize.ShloMosaic.Lib.Pipeline.Value

/-! # The reference of the output program, entry by entry

The reference's two results, read through its operations one after the other: every entry is the row formula at the rows
of the arguments. -/

@[expose] public section

set_option maxRecDepth 16384

noncomputable section

namespace Cert.Reference2Ideal.Whole

open Idealize.ShloMosaic Idealize.ShloMosaic.TcCoe Idealize.SL.Sem
open Cert.Reference2Ideal Cert.Reference2Ideal.Value Cert.Reference2Ideal.Read
open Cert.Kernel2Ideal.Whole (one len scale eps gate mean norm merge residual entry entry_congr colA colB)

theorem bits_zero : (FloatOps.ofBits (F := Ideal) .f32 0x00000000#32 : EReal) = 0 := Ideal.ofBits_zero .f32

/-- The projection's row of position `s` of batch row `a`. -/
def rowAt (a : Fin 4) (s : Fin 2048) : Fin 8192 := ⟨a.val * 2048 + s.val, by omega⟩

/-! ## The prompt -/

section Prompt

variable (x0 x1 : FVec Ideal S4x2048x1024 .f32) (x2 : FVec Ideal S8192x12544 .f32) (x3 : FVec Ideal S4x2048x2048 .f32)
  (x8 x9 : FVec Ideal S1x1024x2048 .f32) (x10 : FVec Ideal S1x2048x2048 .f32) (x11 x12 : FVec Ideal S1x2048 .f32)

theorem gate_PA (a : Fin 4) (s : Fin 2048) (k : Fin 2048) : val_main_v8 (F := Ideal) x2 (ix3 a s k) = gate (x2 (ix2 (rowAt a s) (colA k))) := by
  rw [val_main_v8_apply, val_main_v7_apply, val_main_v6_apply, val_main_v5_apply, val_main_v4_apply, val_main_v3_apply, val_main_v1_apply, val_main_v0_apply, val_main_cst_apply, val_main_cst_0_apply]
  refine congrArg (fun j => gate (x2 j)) (funext fun b => ?_)
  have hk := k.isLt
  match b with
  | ⟨0, _⟩ => exact Fin.ext (by show (((a : ℕ) * 2048 + (s : ℕ)) * 12544 + (8192 + (k : ℕ))) / 12544 = (a : ℕ) * 2048 + (s : ℕ); omega)
  | ⟨1, _⟩ => exact Fin.ext (by show (((a : ℕ) * 2048 + (s : ℕ)) * 12544 + (8192 + (k : ℕ))) % 12544 = 8192 + (k : ℕ); omega)

theorem gate_PB (a : Fin 4) (s : Fin 2048) (k : Fin 2048) : val_main_v17 (F := Ideal) x2 (ix3 a s k) = gate (x2 (ix2 (rowAt a s) (colB k))) := by
  rw [val_main_v17_apply, val_main_v16_apply, val_main_v15_apply, val_main_v14_apply, val_main_v13_apply, val_main_v12_apply, val_main_v2_apply, val_main_v0_apply, val_main_cst_1_apply, val_main_cst_2_apply]
  refine congrArg (fun j => gate (x2 j)) (funext fun b => ?_)
  have hk := k.isLt
  match b with
  | ⟨0, _⟩ => exact Fin.ext (by show (((a : ℕ) * 2048 + (s : ℕ)) * 12544 + (10240 + (k : ℕ))) / 12544 = (a : ℕ) * 2048 + (s : ℕ); omega)
  | ⟨1, _⟩ => exact Fin.ext (by show (((a : ℕ) * 2048 + (s : ℕ)) * 12544 + (10240 + (k : ℕ))) % 12544 = 10240 + (k : ℕ); omega)

theorem branch_PA (a : Fin 4) (s : Fin 2048) (k : Fin 2048) :
    val_main_v10 (F := Ideal) x0 x8 (ix3 a s k) = ∑ j : Fin 1024, x0 (ix3 a s j) * x8 (ix3 0 j k) := by
  rw [val_main_v10_apply]
  refine Fin.sum_fin_congr fun j => ?_
  rw [val_main_v9_apply]
  have hk := k.isLt
  refine congrArg₂ (· * ·) (congrArg x0 (funext fun b => ?_)) (congrArg x8 (funext fun b => ?_))
  · match b with
    | ⟨0, _⟩ => rfl
    | ⟨1, _⟩ => rfl
    | ⟨2, _⟩ => rfl
  · have hj := j.isLt
    match b with
    | ⟨0, _⟩ => rfl
    | ⟨1, _⟩ => exact Fin.ext (by show ((j : ℕ) * 2048 + (k : ℕ)) / 2048 % 1024 = j; omega)
    | ⟨2, _⟩ => exact Fin.ext (by show ((j : ℕ) * 2048 + (k : ℕ)) % 2048 = k; omega)

theorem branch_PB (a : Fin 4) (s : Fin 2048) (k : Fin 2048) :
    val_main_v19 (F := Ideal) x1 x9 (ix3 a s k) = ∑ j : Fin 1024, x1 (ix3 a s j) * x9 (ix3 0 j k) := by
  rw [val_main_v19_apply]
  refine Fin.sum_fin_congr fun j => ?_
  rw [val_main_v18_apply]
  have hk := k.isLt
  refine congrArg₂ (· * ·) (congrArg x1 (funext fun b => ?_)) (congrArg x9 (funext fun b => ?_))
  · match b with
    | ⟨0, _⟩ => rfl
    | ⟨1, _⟩ => rfl
    | ⟨2, _⟩ => rfl
  · have hj := j.isLt
    match b with
    | ⟨0, _⟩ => rfl
    | ⟨1, _⟩ => exact Fin.ext (by show ((j : ℕ) * 2048 + (k : ℕ)) / 2048 % 1024 = j; omega)
    | ⟨2, _⟩ => exact Fin.ext (by show ((j : ℕ) * 2048 + (k : ℕ)) % 2048 = k; omega)

theorem merged_P (a : Fin 4) (s : Fin 2048) (k : Fin 2048) : val_main_v21 (F := Ideal) x0 x1 x2 x8 x9 (ix3 a s k)
    = merge (x2 (ix2 (rowAt a s) (colA k))) (x2 (ix2 (rowAt a s) (colB k))) (fun j => x0 (ix3 a s j)) (fun j => x1 (ix3 a s j))
      (fun j => x8 (ix3 0 j k)) (fun j => x9 (ix3 0 j k)) := by
  rw [val_main_v21_apply, val_main_v11_apply, val_main_v20_apply, gate_PA, gate_PB, branch_PA, branch_PB]
  rfl

theorem sum_P (a : Fin 4) (s : Fin 2048) (l : Fin 2048) : val_main_v26 (F := Ideal) x0 x1 x2 x3 x8 x9 x10 (ix3 a s l)
    = residual (x3 (ix3 a s l)) (fun k => merge (x2 (ix2 (rowAt a s) (colA k))) (x2 (ix2 (rowAt a s) (colB k))) (fun j => x0 (ix3 a s j)) (fun j => x1 (ix3 a s j))
      (fun j => x8 (ix3 0 j k)) (fun j => x9 (ix3 0 j k))) (fun k => x10 (ix3 0 k l)) := by
  rw [val_main_v26_apply, val_main_v23_apply, val_main_v22_apply, val_main_cst_3_apply, val_main_v25_apply]
  have hl := l.isLt
  refine congrArg (scale * x3 (ix3 a s l) + ·) (Fin.sum_fin_congr fun k => ?_)
  have hk := k.isLt
  rw [val_main_v24_apply]
  refine congrArg₂ (· * ·) ((congrArg (val_main_v21 (F := Ideal) x0 x1 x2 x8 x9) (funext fun b => ?_)).trans (merged_P x0 x1 x2 x8 x9 a s k)) (congrArg x10 (funext fun b => ?_))
  · match b with
    | ⟨0, _⟩ => rfl
    | ⟨1, _⟩ => rfl
    | ⟨2, _⟩ => rfl
  · match b with
    | ⟨0, _⟩ => rfl
    | ⟨1, _⟩ => exact Fin.ext (by show ((k : ℕ) * 2048 + (l : ℕ)) / 2048 % 2048 = k; omega)
    | ⟨2, _⟩ => exact Fin.ext (by show ((k : ℕ) * 2048 + (l : ℕ)) % 2048 = l; omega)

/-- The row's mean. -/
theorem mean_P (a : Fin 4) (s : Fin 2048) (i : S4x2048x1.Idx) (h0 : i 0 = a) (h1 : i 1 = s) : val_main_v32 (F := Ideal) x0 x1 x2 x3 x8 x9 x10 i
    = mean (fun k => val_main_v26 (F := Ideal) x0 x1 x2 x3 x8 x9 x10 (ix3 a s k)) := by
  rw [val_main_v32_apply, val_main_v30_apply, val_main_v29_apply, val_main_v31_apply, val_main_cst_5_apply, val_main_cst_4_apply, bits_zero, zero_add]
  refine congrArg (Ideal.div · len) (Fin.sum_fin_congr fun k => congrArg (val_main_v26 (F := Ideal) x0 x1 x2 x3 x8 x9 x10) (funext fun b => ?_))
  match b with
  | ⟨0, _⟩ => exact h0
  | ⟨1, _⟩ => exact h1
  | ⟨2, _⟩ => rfl

/-- The row's variance. -/
theorem var_P (a : Fin 4) (s : Fin 2048) (i : S4x2048x1.Idx) (h0 : i 0 = a) (h1 : i 1 = s) (r : Fin 2048 → EReal)
    (hr : ∀ k, val_main_v26 (F := Ideal) x0 x1 x2 x3 x8 x9 x10 (ix3 a s k) = r k) : val_main_v39 (F := Ideal) x0 x1 x2 x3 x8 x9 x10 i
    = mean (fun k => (r k - mean r) * (r k - mean r)) := by
  have e : ∀ k : Fin 2048, val_main_v34 (F := Ideal) x0 x1 x2 x3 x8 x9 x10 (idx_main_v36 (idx_main_v37 i) k) = r k - mean r := fun k => by
    rw [val_main_v34_apply, val_main_v33_apply, mean_P x0 x1 x2 x3 x8 x9 x10 a s (idx_main_v33 (idx_main_v36 (idx_main_v37 i) k)) h0 h1]
    rw [show (fun k => val_main_v26 (F := Ideal) x0 x1 x2 x3 x8 x9 x10 (ix3 a s k)) = r from funext hr, ← hr k]
    refine congrArg (fun j => val_main_v26 (F := Ideal) x0 x1 x2 x3 x8 x9 x10 j - mean r) (funext fun b => ?_)
    match b with
    | ⟨0, _⟩ => exact h0
    | ⟨1, _⟩ => exact h1
    | ⟨2, _⟩ => rfl
  rw [val_main_v39_apply, val_main_v37_apply, val_main_v36_apply, val_main_v38_apply, val_main_cst_7_apply, val_main_cst_6_apply, bits_zero, zero_add]
  refine congrArg (Ideal.div · len) (Fin.sum_fin_congr fun k => ?_)
  rw [val_main_v35_apply, e k]
  rfl

/-- The normalised row. -/
theorem norm_P (a : Fin 4) (s : Fin 2048) (l : Fin 2048) (r : Fin 2048 → EReal) (hr : ∀ k, val_main_v26 (F := Ideal) x0 x1 x2 x3 x8 x9 x10 (ix3 a s k) = r k) :
    val_main_v52 (F := Ideal) x0 x1 x2 x3 x8 x9 x10 x11 x12 (ix3 a s l) = norm r (x11 (ix2 0 l)) (x12 (ix2 0 l)) l := by
  have hl := l.isLt
  rw [val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v28_apply, val_main_v27_apply, val_main_cst_8_apply]
  rw [mean_P x0 x1 x2 x3 x8 x9 x10 a s _ rfl rfl, var_P x0 x1 x2 x3 x8 x9 x10 a s _ rfl rfl r hr, hr l,
    show (fun k => val_main_v26 (F := Ideal) x0 x1 x2 x3 x8 x9 x10 (ix3 a s k)) = r from funext hr]
  refine congrArg₂ (fun g b => (r l - mean r) * Ideal.rsqrt (mean (fun k => (r k - mean r) * (r k - mean r)) + eps) * g + b)
    (congrArg x11 (funext fun b => ?_)) (congrArg x12 (funext fun b => ?_))
  · match b with
    | ⟨0, _⟩ => rfl
    | ⟨1, _⟩ => exact Fin.ext (by show (l : ℕ) % 2048 = l; omega)
  · match b with
    | ⟨0, _⟩ => rfl
    | ⟨1, _⟩ => exact Fin.ext (by show (l : ℕ) % 2048 = l; omega)

/-- One entry of the prompt' result. -/
theorem entry_P (a : Fin 4) (s : Fin 2048) (l : Fin 2048) : val_main_v52 (F := Ideal) x0 x1 x2 x3 x8 x9 x10 x11 x12 (ix3 a s l)
    = entry (fun j => x0 (ix3 a s j)) (fun j => x1 (ix3 a s j)) (fun k => x2 (ix2 (rowAt a s) (colA k))) (fun k => x2 (ix2 (rowAt a s) (colB k)))
      (fun k => x3 (ix3 a s k)) (fun j k => x8 (ix3 0 j k)) (fun j k => x9 (ix3 0 j k)) (fun k l => x10 (ix3 0 k l))
      (fun l => x11 (ix2 0 l)) (fun l => x12 (ix2 0 l)) l :=
  norm_P x0 x1 x2 x3 x8 x9 x10 x11 x12 a s l _ (sum_P x0 x1 x2 x3 x8 x9 x10 a s)

end Prompt

/-! ## The samples -/

section Samples

variable (x4 x5 : FVec Ideal S128x1x1024 .f32) (x6 : FVec Ideal S128x12544 .f32) (x7 : FVec Ideal S128x1x2048 .f32)
  (x8 x9 : FVec Ideal S1x1024x2048 .f32) (x10 : FVec Ideal S1x2048x2048 .f32) (x11 x12 : FVec Ideal S1x2048 .f32)

theorem gate_SA (n : Fin 128) (k : Fin 2048) : val_main_v61 (F := Ideal) x6 (ix3 n 0 k) = gate (x6 (ix2 n (colA k))) := by
  rw [val_main_v61_apply, val_main_v60_apply, val_main_v59_apply, val_main_v58_apply, val_main_v57_apply, val_main_v56_apply, val_main_v54_apply, val_main_v53_apply, val_main_cst_9_apply, val_main_cst_10_apply]
  refine congrArg (fun j => gate (x6 j)) (funext fun b => ?_)
  have hk := k.isLt
  match b with
  | ⟨0, _⟩ => exact Fin.ext (by show (((n : ℕ) * 1 + 0) * 12544 + (8192 + (k : ℕ))) / 12544 = (n : ℕ); omega)
  | ⟨1, _⟩ => exact Fin.ext (by show (((n : ℕ) * 1 + 0) * 12544 + (8192 + (k : ℕ))) % 12544 = 8192 + (k : ℕ); omega)

theorem gate_SB (n : Fin 128) (k : Fin 2048) : val_main_v70 (F := Ideal) x6 (ix3 n 0 k) = gate (x6 (ix2 n (colB k))) := by
  rw [val_main_v70_apply, val_main_v69_apply, val_main_v68_apply, val_main_v67_apply, val_main_v66_apply, val_main_v65_apply, val_main_v55_apply, val_main_v53_apply, val_main_cst_11_apply, val_main_cst_12_apply]
  refine congrArg (fun j => gate (x6 j)) (funext fun b => ?_)
  have hk := k.isLt
  match b with
  | ⟨0, _⟩ => exact Fin.ext (by show (((n : ℕ) * 1 + 0) * 12544 + (10240 + (k : ℕ))) / 12544 = (n : ℕ); omega)
  | ⟨1, _⟩ => exact Fin.ext (by show (((n : ℕ) * 1 + 0) * 12544 + (10240 + (k : ℕ))) % 12544 = 10240 + (k : ℕ); omega)

theorem branch_SA (n : Fin 128) (k : Fin 2048) :
    val_main_v63 (F := Ideal) x4 x8 (ix3 n 0 k) = ∑ j : Fin 1024, x4 (ix3 n 0 j) * x8 (ix3 0 j k) := by
  rw [val_main_v63_apply]
  refine Fin.sum_fin_congr fun j => ?_
  rw [val_main_v62_apply]
  have hk := k.isLt
  refine congrArg₂ (· * ·) (congrArg x4 (funext fun b => ?_)) (congrArg x8 (funext fun b => ?_))
  · match b with
    | ⟨0, _⟩ => rfl
    | ⟨1, _⟩ => rfl
    | ⟨2, _⟩ => rfl
  · have hj := j.isLt
    match b with
    | ⟨0, _⟩ => rfl
    | ⟨1, _⟩ => exact Fin.ext (by show ((j : ℕ) * 2048 + (k : ℕ)) / 2048 % 1024 = j; omega)
    | ⟨2, _⟩ => exact Fin.ext (by show ((j : ℕ) * 2048 + (k : ℕ)) % 2048 = k; omega)

theorem branch_SB (n : Fin 128) (k : Fin 2048) :
    val_main_v72 (F := Ideal) x5 x9 (ix3 n 0 k) = ∑ j : Fin 1024, x5 (ix3 n 0 j) * x9 (ix3 0 j k) := by
  rw [val_main_v72_apply]
  refine Fin.sum_fin_congr fun j => ?_
  rw [val_main_v71_apply]
  have hk := k.isLt
  refine congrArg₂ (· * ·) (congrArg x5 (funext fun b => ?_)) (congrArg x9 (funext fun b => ?_))
  · match b with
    | ⟨0, _⟩ => rfl
    | ⟨1, _⟩ => rfl
    | ⟨2, _⟩ => rfl
  · have hj := j.isLt
    match b with
    | ⟨0, _⟩ => rfl
    | ⟨1, _⟩ => exact Fin.ext (by show ((j : ℕ) * 2048 + (k : ℕ)) / 2048 % 1024 = j; omega)
    | ⟨2, _⟩ => exact Fin.ext (by show ((j : ℕ) * 2048 + (k : ℕ)) % 2048 = k; omega)

theorem merged_S (n : Fin 128) (k : Fin 2048) : val_main_v74 (F := Ideal) x4 x5 x6 x8 x9 (ix3 n 0 k)
    = merge (x6 (ix2 n (colA k))) (x6 (ix2 n (colB k))) (fun j => x4 (ix3 n 0 j)) (fun j => x5 (ix3 n 0 j))
      (fun j => x8 (ix3 0 j k)) (fun j => x9 (ix3 0 j k)) := by
  rw [val_main_v74_apply, val_main_v64_apply, val_main_v73_apply, gate_SA, gate_SB, branch_SA, branch_SB]
  rfl

theorem sum_S (n : Fin 128) (l : Fin 2048) : val_main_v79 (F := Ideal) x4 x5 x6 x7 x8 x9 x10 (ix3 n 0 l)
    = residual (x7 (ix3 n 0 l)) (fun k => merge (x6 (ix2 n (colA k))) (x6 (ix2 n (colB k))) (fun j => x4 (ix3 n 0 j)) (fun j => x5 (ix3 n 0 j))
      (fun j => x8 (ix3 0 j k)) (fun j => x9 (ix3 0 j k))) (fun k => x10 (ix3 0 k l)) := by
  rw [val_main_v79_apply, val_main_v76_apply, val_main_v75_apply, val_main_cst_13_apply, val_main_v78_apply]
  have hl := l.isLt
  refine congrArg (scale * x7 (ix3 n 0 l) + ·) (Fin.sum_fin_congr fun k => ?_)
  have hk := k.isLt
  rw [val_main_v77_apply]
  refine congrArg₂ (· * ·) ((congrArg (val_main_v74 (F := Ideal) x4 x5 x6 x8 x9) (funext fun b => ?_)).trans (merged_S x4 x5 x6 x8 x9 n k)) (congrArg x10 (funext fun b => ?_))
  · match b with
    | ⟨0, _⟩ => rfl
    | ⟨1, _⟩ => rfl
    | ⟨2, _⟩ => rfl
  · match b with
    | ⟨0, _⟩ => rfl
    | ⟨1, _⟩ => exact Fin.ext (by show ((k : ℕ) * 2048 + (l : ℕ)) / 2048 % 2048 = k; omega)
    | ⟨2, _⟩ => exact Fin.ext (by show ((k : ℕ) * 2048 + (l : ℕ)) % 2048 = l; omega)

/-- The row's mean. -/
theorem mean_S (n : Fin 128) (i : S128x1x1.Idx) (h0 : i 0 = n) : val_main_v85 (F := Ideal) x4 x5 x6 x7 x8 x9 x10 i
    = mean (fun k => val_main_v79 (F := Ideal) x4 x5 x6 x7 x8 x9 x10 (ix3 n 0 k)) := by
  rw [val_main_v85_apply, val_main_v83_apply, val_main_v82_apply, val_main_v84_apply, val_main_cst_15_apply, val_main_cst_14_apply, bits_zero, zero_add]
  refine congrArg (Ideal.div · len) (Fin.sum_fin_congr fun k => congrArg (val_main_v79 (F := Ideal) x4 x5 x6 x7 x8 x9 x10) (funext fun b => ?_))
  match b with
  | ⟨0, _⟩ => exact h0
  | ⟨1, _⟩ => exact rfl
  | ⟨2, _⟩ => rfl

/-- The row's variance. -/
theorem var_S (n : Fin 128) (i : S128x1x1.Idx) (h0 : i 0 = n) (r : Fin 2048 → EReal)
    (hr : ∀ k, val_main_v79 (F := Ideal) x4 x5 x6 x7 x8 x9 x10 (ix3 n 0 k) = r k) : val_main_v92 (F := Ideal) x4 x5 x6 x7 x8 x9 x10 i
    = mean (fun k => (r k - mean r) * (r k - mean r)) := by
  have e : ∀ k : Fin 2048, val_main_v87 (F := Ideal) x4 x5 x6 x7 x8 x9 x10 (idx_main_v89 (idx_main_v90 i) k) = r k - mean r := fun k => by
    rw [val_main_v87_apply, val_main_v86_apply, mean_S x4 x5 x6 x7 x8 x9 x10 n (idx_main_v86 (idx_main_v89 (idx_main_v90 i) k)) h0]
    rw [show (fun k => val_main_v79 (F := Ideal) x4 x5 x6 x7 x8 x9 x10 (ix3 n 0 k)) = r from funext hr, ← hr k]
    refine congrArg (fun j => val_main_v79 (F := Ideal) x4 x5 x6 x7 x8 x9 x10 j - mean r) (funext fun b => ?_)
    match b with
    | ⟨0, _⟩ => exact h0
    | ⟨1, _⟩ => exact rfl
    | ⟨2, _⟩ => rfl
  rw [val_main_v92_apply, val_main_v90_apply, val_main_v89_apply, val_main_v91_apply, val_main_cst_17_apply, val_main_cst_16_apply, bits_zero, zero_add]
  refine congrArg (Ideal.div · len) (Fin.sum_fin_congr fun k => ?_)
  rw [val_main_v88_apply, e k]
  rfl

/-- The normalised row. -/
theorem norm_S (n : Fin 128) (l : Fin 2048) (r : Fin 2048 → EReal) (hr : ∀ k, val_main_v79 (F := Ideal) x4 x5 x6 x7 x8 x9 x10 (ix3 n 0 k) = r k) :
    val_main_v105 (F := Ideal) x4 x5 x6 x7 x8 x9 x10 x11 x12 (ix3 n 0 l) = norm r (x11 (ix2 0 l)) (x12 (ix2 0 l)) l := by
  have hl := l.isLt
  rw [val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_v81_apply, val_main_v80_apply, val_main_cst_18_apply]
  rw [mean_S x4 x5 x6 x7 x8 x9 x10 n _ rfl, var_S x4 x5 x6 x7 x8 x9 x10 n _ rfl r hr, hr l,
    show (fun k => val_main_v79 (F := Ideal) x4 x5 x6 x7 x8 x9 x10 (ix3 n 0 k)) = r from funext hr]
  refine congrArg₂ (fun g b => (r l - mean r) * Ideal.rsqrt (mean (fun k => (r k - mean r) * (r k - mean r)) + eps) * g + b)
    (congrArg x11 (funext fun b => ?_)) (congrArg x12 (funext fun b => ?_))
  · match b with
    | ⟨0, _⟩ => rfl
    | ⟨1, _⟩ => exact Fin.ext (by show (l : ℕ) % 2048 = l; omega)
  · match b with
    | ⟨0, _⟩ => rfl
    | ⟨1, _⟩ => exact Fin.ext (by show (l : ℕ) % 2048 = l; omega)

/-- One entry of the samples' result. -/
theorem entry_S (n : Fin 128) (l : Fin 2048) : val_main_v105 (F := Ideal) x4 x5 x6 x7 x8 x9 x10 x11 x12 (ix3 n 0 l)
    = entry (fun j => x4 (ix3 n 0 j)) (fun j => x5 (ix3 n 0 j)) (fun k => x6 (ix2 n (colA k))) (fun k => x6 (ix2 n (colB k)))
      (fun k => x7 (ix3 n 0 k)) (fun j k => x8 (ix3 0 j k)) (fun j k => x9 (ix3 0 j k)) (fun k l => x10 (ix3 0 k l))
      (fun l => x11 (ix2 0 l)) (fun l => x12 (ix2 0 l)) l :=
  norm_S x4 x5 x6 x7 x8 x9 x10 x11 x12 n l _ (sum_S x4 x5 x6 x7 x8 x9 x10 n)

end Samples

end Cert.Reference2Ideal.Whole

end
-- ==== Proof.OutHost.lean ====
module

public import proofs.«01_k».proof.Proof.OutRef

/-! # The results of the output program as functions of its arguments

The host hands the call its arguments reshaped, which moves no entry out of its row; so both results are the row formula
at the rows of the arguments, and the reference's results are the same two formulas. -/

@[expose] public section

set_option maxRecDepth 16384

noncomputable section

namespace Cert.Kernel2Ideal.Whole

open Idealize.ShloMosaic Idealize.ShloMosaic.TcCoe Idealize.SL.Sem Idealize.ShloMosaic.StableHlo
open Cert.Kernel2Ideal Cert.Kernel2Ideal.Gen

/-- The batch row of a row of the flattened prompt. -/
def batchOf (i : Fin 8192) : Fin 4 := ⟨i.val / 2048, by omega⟩
/-- The position of a row of the flattened prompt. -/
def posOf (i : Fin 8192) : Fin 2048 := ⟨i.val % 2048, by omega⟩

/-- The prompt's result from the program's arguments. -/
def finalP (x0 x1 : FVec Ideal S4x2048x1024 .f32) (x2 : FVec Ideal S8192x12544 .f32) (x3 : FVec Ideal S4x2048x2048 .f32)
    (x8 x9 : FVec Ideal S1x1024x2048 .f32) (x10 : FVec Ideal S1x2048x2048 .f32) (x11 x12 : FVec Ideal S1x2048 .f32) : FVec Ideal S8192x2048 .f32 :=
  fun i => entry (fun j => x0 (ix3 (batchOf (i 0)) (posOf (i 0)) j)) (fun j => x1 (ix3 (batchOf (i 0)) (posOf (i 0)) j))
    (fun k => x2 (ix2 (i 0) (colA k))) (fun k => x2 (ix2 (i 0) (colB k))) (fun k => x3 (ix3 (batchOf (i 0)) (posOf (i 0)) k))
    (fun j k => x8 (ix3 0 j k)) (fun j k => x9 (ix3 0 j k)) (fun k l => x10 (ix3 0 k l)) (fun l => x11 (ix2 0 l)) (fun l => x12 (ix2 0 l)) (i 1)

/-- The samples' result from the program's arguments. -/
def finalS (x4 x5 : FVec Ideal S128x1x1024 .f32) (x6 : FVec Ideal S128x12544 .f32) (x7 : FVec Ideal S128x1x2048 .f32)
    (x8 x9 : FVec Ideal S1x1024x2048 .f32) (x10 : FVec Ideal S1x2048x2048 .f32) (x11 x12 : FVec Ideal S1x2048 .f32) : FVec Ideal S128x2048 .f32 :=
  fun i => entry (fun j => x4 (ix3 (i 0) 0 j)) (fun j => x5 (ix3 (i 0) 0 j))
    (fun k => x6 (ix2 (i 0) (colA k))) (fun k => x6 (ix2 (i 0) (colB k))) (fun k => x7 (ix3 (i 0) 0 k))
    (fun j k => x8 (ix3 0 j k)) (fun j k => x9 (ix3 0 j k)) (fun k l => x10 (ix3 0 k l)) (fun l => x11 (ix2 0 l)) (fun l => x12 (ix2 0 l)) (i 1)

/-! ## The host's moves -/

theorem move_branch (x : FVec Ideal S4x2048x1024 .f32) (i : Fin 8192) (j : Fin 1024) :
    shapeCast S8192x1024 x shapeCasts_S4x2048x1024_S8192x1024 (ix2 i j) = x (ix3 (batchOf i) (posOf i) j) :=
  shapeCast_apply _ _ _ (ix3 (batchOf i) (posOf i) j) (by
    rw [Shape.rowMajor_val_three, Shape.rowMajor_val_two]
    show ((i : ℕ) / 2048 * 2048 + (i : ℕ) % 2048) * 1024 + (j : ℕ) = (i : ℕ) * 1024 + (j : ℕ); omega)

theorem move_input (x : FVec Ideal S4x2048x2048 .f32) (i : Fin 8192) (k : Fin 2048) :
    shapeCast S8192x2048 x shapeCasts_S4x2048x2048_S8192x2048 (ix2 i k) = x (ix3 (batchOf i) (posOf i) k) :=
  shapeCast_apply _ _ _ (ix3 (batchOf i) (posOf i) k) (by
    rw [Shape.rowMajor_val_three, Shape.rowMajor_val_two]
    show ((i : ℕ) / 2048 * 2048 + (i : ℕ) % 2048) * 2048 + (k : ℕ) = (i : ℕ) * 2048 + (k : ℕ); omega)

theorem move_branch_s (x : FVec Ideal S128x1x1024 .f32) (n : Fin 128) (j : Fin 1024) :
    shapeCast S128x1024 x shapeCasts_S128x1x1024_S128x1024 (ix2 n j) = x (ix3 n 0 j) :=
  shapeCast_apply _ _ _ (ix3 n 0 j) (by
    rw [Shape.rowMajor_val_three, Shape.rowMajor_val_two]
    show ((n : ℕ) * 1 + 0) * 1024 + (j : ℕ) = (n : ℕ) * 1024 + (j : ℕ); omega)

theorem move_input_s (x : FVec Ideal S128x1x2048 .f32) (n : Fin 128) (k : Fin 2048) :
    shapeCast S128x2048 x shapeCasts_S128x1x2048_S128x2048 (ix2 n k) = x (ix3 n 0 k) :=
  shapeCast_apply _ _ _ (ix3 n 0 k) (by
    rw [Shape.rowMajor_val_three, Shape.rowMajor_val_two]
    show ((n : ℕ) * 1 + 0) * 2048 + (k : ℕ) = (n : ℕ) * 2048 + (k : ℕ); omega)

theorem move_weight (x : FVec Ideal S1x1024x2048 .f32) (j : Fin 1024) (k : Fin 2048) :
    shapeCast S1024x2048 x shapeCasts_S1x1024x2048_S1024x2048 (ix2 j k) = x (ix3 0 j k) :=
  shapeCast_apply _ _ _ (ix3 0 j k) (by
    rw [Shape.rowMajor_val_three, Shape.rowMajor_val_two]
    show (0 * 1024 + (j : ℕ)) * 2048 + (k : ℕ) = (j : ℕ) * 2048 + (k : ℕ); omega)

theorem move_out (x : FVec Ideal S1x2048x2048 .f32) (k l : Fin 2048) :
    shapeCast S2048x2048 x shapeCasts_S1x2048x2048_S2048x2048 (ix2 k l) = x (ix3 0 k l) :=
  shapeCast_apply _ _ _ (ix3 0 k l) (by
    rw [Shape.rowMajor_val_three, Shape.rowMajor_val_two]
    show (0 * 2048 + (k : ℕ)) * 2048 + (l : ℕ) = (k : ℕ) * 2048 + (l : ℕ); omega)

theorem move_scale (x : FVec Ideal S1x2048 .f32) (l : Fin 2048) :
    broadcastInDim S1x2048 ![1] bcast_S2048_S1x2048_1 (shapeCast S2048 x shapeCasts_S1x2048_S2048) (ix2 0 l) = x (ix2 0 l) := by
  rw [broadcastInDim_apply _ _ _ _ (ix1 l) (fun a => by match a with | ⟨0, _⟩ => rfl)]
  exact shapeCast_apply _ _ _ (ix2 0 l) (by
    rw [Shape.rowMajor_val_two, Shape.rowMajor_val_one]
    show 0 * 2048 + (l : ℕ) = (l : ℕ); omega)

/-! ## The results -/

variable (m : (ℓ : Loc nD τ sig) → Buf (Elt Ideal) ℓ) (ρ : Dev nD → PrngReg) (c : Dev nD)

theorem V_v13 : V m c main_v13 = shapeCast S8192x1024 (m ((c : Thread nD τ).loc main_arg0)) shapeCasts_S4x2048x1024_S8192x1024 := by
  first | (after_results_simp; rfl) | rfl
theorem V_v15 : V m c main_v15 = shapeCast S8192x1024 (m ((c : Thread nD τ).loc main_arg1)) shapeCasts_S4x2048x1024_S8192x1024 := by
  first | (after_results_simp; rfl) | rfl
theorem V_v0 : V m c main_v0 = shapeCast S8192x2048 (m ((c : Thread nD τ).loc main_arg3)) shapeCasts_S4x2048x2048_S8192x2048 := by
  first | (after_results_simp; rfl) | rfl
theorem V_v17 : V m c main_v17 = shapeCast S128x1024 (m ((c : Thread nD τ).loc main_arg4)) shapeCasts_S128x1x1024_S128x1024 := by
  first | (after_results_simp; rfl) | rfl
theorem V_v19 : V m c main_v19 = shapeCast S128x1024 (m ((c : Thread nD τ).loc main_arg5)) shapeCasts_S128x1x1024_S128x1024 := by
  first | (after_results_simp; rfl) | rfl
theorem V_v1 : V m c main_v1 = shapeCast S128x2048 (m ((c : Thread nD τ).loc main_arg7)) shapeCasts_S128x1x2048_S128x2048 := by
  first | (after_results_simp; rfl) | rfl
theorem V_v7 : V m c main_v7 = shapeCast S1024x2048 (m ((c : Thread nD τ).loc main_arg8)) shapeCasts_S1x1024x2048_S1024x2048 := by
  first | (after_results_simp; rfl) | rfl
theorem V_v9 : V m c main_v9 = shapeCast S1024x2048 (m ((c : Thread nD τ).loc main_arg9)) shapeCasts_S1x1024x2048_S1024x2048 := by
  first | (after_results_simp; rfl) | rfl
theorem V_v11 : V m c main_v11 = shapeCast S2048x2048 (m ((c : Thread nD τ).loc main_arg10)) shapeCasts_S1x2048x2048_S2048x2048 := by
  first | (after_results_simp; rfl) | rfl
theorem V_v3 : V m c main_v3 = broadcastInDim S1x2048 ![1] bcast_S2048_S1x2048_1
    (shapeCast S2048 (m ((c : Thread nD τ).loc main_arg11)) shapeCasts_S1x2048_S2048) := by
  first | (after_results_simp; rfl) | rfl
theorem V_v5 : V m c main_v5 = broadcastInDim S1x2048 ![1] bcast_S2048_S1x2048_1
    (shapeCast S2048 (m ((c : Thread nD τ).loc main_arg12)) shapeCasts_S1x2048_S2048) := by
  first | (after_results_simp; rfl) | rfl

theorem prompt_final : (dat m c).arrAt 15 cfg0.N
    = finalP (m ((c : Thread nD τ).loc main_arg0)) (m ((c : Thread nD τ).loc main_arg1)) (m ((c : Thread nD τ).loc main_arg2))
      (m ((c : Thread nD τ).loc main_arg3)) (m ((c : Thread nD τ).loc main_arg8)) (m ((c : Thread nD τ).loc main_arg9))
      (m ((c : Thread nD τ).loc main_arg10)) (m ((c : Thread nD τ).loc main_arg11)) (m ((c : Thread nD τ).loc main_arg12)) := by
  rw [prompt_value, V_v13, V_v15, V_v0, V_v7, V_v9, V_v11, V_v3, V_v5, V_main_arg2]
  funext i
  exact entry_congr (fun j => move_branch _ _ j) (fun j => move_branch _ _ j) (fun k => rfl) (fun k => rfl) (fun k => move_input _ _ k)
    (fun j k => move_weight _ j k) (fun j k => move_weight _ j k) (fun k l => move_out _ k l) (fun l => move_scale _ l) (fun l => move_scale _ l) rfl

theorem sample_final : (dat m c).arrAt 16 cfg0.N
    = finalS (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) := by
  rw [sample_value, V_v17, V_v19, V_v1, V_v7, V_v9, V_v11, V_v3, V_v5, V_main_arg6]
  funext i
  exact entry_congr (fun j => move_branch_s _ _ j) (fun j => move_branch_s _ _ j) (fun k => rfl) (fun k => rfl) (fun k => move_input_s _ _ k)
    (fun j k => move_weight _ j k) (fun j k => move_weight _ j k) (fun k l => move_out _ k l) (fun l => move_scale _ l) (fun l => move_scale _ l) rfl

/-- Every run ends with the two results at their formulas. -/
theorem run_results : θ_run defs (onTc (τ := τ) (main (F := Ideal))) ⟨m, fun _ => 0, ρ⟩ (fun r => ∀ c : Dev nD,
    r.2.mem ((c.tc : Thread nD τ).loc main_v20_0)
      = finalP (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12))
    ∧ r.2.mem ((c.tc : Thread nD τ).loc main_v20_1)
      = finalS (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12))) :=
  (θ_run _ _ _).mono (fun r h c => ⟨((h c).1 15).trans (prompt_final m c), ((h c).1 16).trans (sample_final m c)⟩) (run_post m ρ)

end Cert.Kernel2Ideal.Whole

namespace Cert.Reference2Ideal.Whole

open Idealize.ShloMosaic Idealize.ShloMosaic.TcCoe Idealize.SL.Sem
open Cert.Reference2Ideal Cert.Reference2Ideal.Value Cert.Reference2Ideal.Read
open Cert.Kernel2Ideal.Whole (batchOf posOf finalP finalS)

theorem result_P (x0 x1 : FVec Ideal S4x2048x1024 .f32) (x2 : FVec Ideal S8192x12544 .f32) (x3 : FVec Ideal S4x2048x2048 .f32)
    (x8 x9 : FVec Ideal S1x1024x2048 .f32) (x10 : FVec Ideal S1x2048x2048 .f32) (x11 x12 : FVec Ideal S1x2048 .f32) :
    val_main_v106 (F := Ideal) x0 x1 x2 x3 x8 x9 x10 x11 x12 = finalP x0 x1 x2 x3 x8 x9 x10 x11 x12 := by
  funext i
  have h0 : (i 0 : ℕ) < 8192 := (i 0).isLt
  have h1 : (i 1 : ℕ) < 2048 := (i 1).isLt
  have hi : idx_main_v106 i = ix3 (batchOf (i 0)) (posOf (i 0)) (i 1) := funext fun b => by
    match b with
    | ⟨0, _⟩ => exact Fin.ext (by show ((i 0 : ℕ) * 2048 + (i 1 : ℕ)) / 4194304 = (i 0 : ℕ) / 2048; omega)
    | ⟨1, _⟩ => exact Fin.ext (by show ((i 0 : ℕ) * 2048 + (i 1 : ℕ)) / 2048 % 2048 = (i 0 : ℕ) % 2048; omega)
    | ⟨2, _⟩ => exact Fin.ext (by show ((i 0 : ℕ) * 2048 + (i 1 : ℕ)) % 2048 = (i 1 : ℕ); omega)
  have hr : rowAt (batchOf (i 0)) (posOf (i 0)) = i 0 := Fin.ext (by show (i 0 : ℕ) / 2048 * 2048 + (i 0 : ℕ) % 2048 = (i 0 : ℕ); omega)
  rw [val_main_v106_apply, hi]
  refine (entry_P x0 x1 x2 x3 x8 x9 x10 x11 x12 (batchOf (i 0)) (posOf (i 0)) (i 1)).trans ?_
  rw [hr]
  rfl

theorem result_S (x4 x5 : FVec Ideal S128x1x1024 .f32) (x6 : FVec Ideal S128x12544 .f32) (x7 : FVec Ideal S128x1x2048 .f32)
    (x8 x9 : FVec Ideal S1x1024x2048 .f32) (x10 : FVec Ideal S1x2048x2048 .f32) (x11 x12 : FVec Ideal S1x2048 .f32) :
    val_main_v107 (F := Ideal) x4 x5 x6 x7 x8 x9 x10 x11 x12 = finalS x4 x5 x6 x7 x8 x9 x10 x11 x12 := by
  funext i
  have h0 : (i 0 : ℕ) < 128 := (i 0).isLt
  have h1 : (i 1 : ℕ) < 2048 := (i 1).isLt
  have hi : idx_main_v107 i = ix3 (i 0) 0 (i 1) := funext fun b => by
    match b with
    | ⟨0, _⟩ => exact Fin.ext (by show ((i 0 : ℕ) * 2048 + (i 1 : ℕ)) / 2048 = (i 0 : ℕ); omega)
    | ⟨1, _⟩ => rfl
    | ⟨2, _⟩ => exact Fin.ext (by show ((i 0 : ℕ) * 2048 + (i 1 : ℕ)) % 2048 = (i 1 : ℕ); omega)
  rw [val_main_v107_apply, hi]
  exact entry_S x4 x5 x6 x7 x8 x9 x10 x11 x12 (i 0) (i 1)

end Cert.Reference2Ideal.Whole

end
-- ==== Proof.StepRunAIdeal.lean ====
module

public import proofs.«01_k».proof.Proof.Gen.Kernel3Ideal.Frame.Runs

/-! # The body of the first branch's call, run once where a new prompt begins

At every eighth point the body clears the two arrays it carries before it uses them. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The body at a point of the first case: from the blocks of the inputs, with anything in the outputs and in the carried arrays,
    it ends with the inputs as they were and with these pieces stored in each output and each carried array (last first). -/
noncomputable def kernelRun0_A (c : Dev nD) (i : grid0.Coords) (arg3 : Memref sig .tc .vmem S256x2048 .f32) (harg3 : arg3.IsWhole) (arg4 : Memref sig .tc .vmem S256x3072 .f32) (harg4 : arg4.IsWhole) (arg5 : Memref sig .tc .vmem S256x128 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S16x256 .f32) (harg10 : arg10.IsWhole) (arg11 : Memref sig .tc .vmem S16x256 .f32) (harg11 : arg11.IsWhole) (arg12 : Memref sig .tc .vmem S16x256 .f32) (harg12 : arg12.IsWhole) (arg13 : Memref sig .tc .vmem S16x256 .f32) (harg13 : arg13.IsWhole) (arg14 : Memref sig .tc .vmem S16x256 .f32) (harg14 : arg14.IsWhole) (arg15 : Memref sig .tc .vmem S16x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S4x256 .f32) (harg22 : arg22.IsWhole) (arg23 : Memref sig .tc .vmem S4x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x256 .f32) (harg27 : arg27.IsWhole) (arg28 : Memref sig .tc .vmem S16x1x256x256 .f32) (harg28 : arg28.IsWhole) (arg29 : Memref sig .tc .vmem S16x1x1x256 .f32) (harg29 : arg29.IsWhole) (arg30 : Memref sig .tc .vmem S16x4 .f32) (harg30 : arg30.IsWhole) (arg31 : Memref sig .tc .vmem S256x1024 .bf16) (harg31 : arg31.IsWhole) (arg32 : Memref sig .tc .vmem S1x4x256x256 .f32) (harg32 : arg32.IsWhole) (arg33 : Memref sig .tc .vmem S1x4x1x256 .f32) (harg33 : arg33.IsWhole) (arg34 : Memref sig .tc .vmem S1x4x1x128 .f32) (harg34 : arg34.IsWhole) (arg35 : Memref sig .tc .vmem S16x256 .bf16) (harg35 : arg35.IsWhole) (arg36 : Memref sig .tc .vmem S16x1x256x256 .f32) (harg36 : arg36.IsWhole) (arg37 : Memref sig .tc .vmem S16x1x1x256 .f32) (harg37 : arg37.IsWhole) (arg38 : Memref sig .tc .vmem S16x128 .f32) (harg38 : arg38.IsWhole) (arg39 : Memref sig .tc .vmem S8x1024 .f32) (harg39 : arg39.IsWhole) (arg40 : Memref sig .tc .vmem S8x1024 .f32) (harg40 : arg40.IsWhole) (hc0 : cond0_0 i)
    (x0 : Vec F S256x2048 .f32) (x1 : Vec F S256x3072 .f32) (x2 : Vec F S256x128 .f32) (x3 : Vec F S4x2048 .f32) (x4 : Vec F S1x2048 .f32) (x5 : Vec F S1x128 .f32) (x6 : Vec F S1x1024 .f32) (x7 : Vec F S16x256 .f32) (x8 : Vec F S16x256 .f32) (x9 : Vec F S16x256 .f32) (x10 : Vec F S16x256 .f32) (x11 : Vec F S16x256 .f32) (x12 : Vec F S16x128 .f32) (x13 : Vec F S16x256 .f32) (x14 : Vec F S16x256 .f32) (x15 : Vec F S16x256 .f32) (x16 : Vec F S16x256 .f32) (x17 : Vec F S16x256 .f32) (x18 : Vec F S16x256 .f32) (x19 : Vec F S4x256 .f32) (x20 : Vec F S4x256 .f32) (x21 : Vec F S1x256 .f32) (x22 : Vec F S1x256 .f32) (x23 : Vec F S1x128 .f32) (x24 : Vec F S1x256 .f32) (x25 : Vec F S16x1x256x256 .f32) (x26 : Vec F S16x1x1x256 .f32) (x27 : Vec F S16x4 .f32) :
    Σ' (L28 : List (View.Piece (Elt F) S256x1024 .bf16)), Σ' (L29 : List (View.Piece (Elt F) S1x4x256x256 .f32)), Σ' (L30 : List (View.Piece (Elt F) S1x4x1x256 .f32)), Σ' (L31 : List (View.Piece (Elt F) S1x4x1x128 .f32)), Σ' (L32 : List (View.Piece (Elt F) S16x256 .bf16)), Σ' (L33 : List (View.Piece (Elt F) S16x1x256x256 .f32)), Σ' (L34 : List (View.Piece (Elt F) S16x1x1x256 .f32)), Σ' (L35 : List (View.Piece (Elt F) S16x128 .f32)), Σ' (LS0 : List (View.Piece (Elt F) S8x1024 .f32)), { LS1 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ (∃ f, arg31.view.loc (c : Thread nD τ) ↦[arg31.view.set]{fullShare} arg31.view.writes (Elt F) f L28) ∗ (∃ f, arg32.view.loc (c : Thread nD τ) ↦[arg32.view.set]{fullShare} arg32.view.writes (Elt F) f L29) ∗ (∃ f, arg33.view.loc (c : Thread nD τ) ↦[arg33.view.set]{fullShare} arg33.view.writes (Elt F) f L30) ∗ (∃ f, arg34.view.loc (c : Thread nD τ) ↦[arg34.view.set]{fullShare} arg34.view.writes (Elt F) f L31) ∗ (∃ f, arg35.view.loc (c : Thread nD τ) ↦[arg35.view.set]{fullShare} arg35.view.writes (Elt F) f L32) ∗ (∃ f, arg36.view.loc (c : Thread nD τ) ↦[arg36.view.set]{fullShare} arg36.view.writes (Elt F) f L33) ∗ (∃ f, arg37.view.loc (c : Thread nD τ) ↦[arg37.view.set]{fullShare} arg37.view.writes (Elt F) f L34) ∗ (∃ f, arg38.view.loc (c : Thread nD τ) ↦[arg38.view.set]{fullShare} arg38.view.writes (Elt F) f L35) ∗ (∃ f, arg39.view.loc (c : Thread nD τ) ↦[arg39.view.set]{fullShare} arg39.view.writes (Elt F) f LS0) ∗ (∃ f, arg40.view.loc (c : Thread nD τ) ↦[arg40.view.set]{fullShare} arg40.view.writes (Elt F) f LS1)) -∗ K ⟨⟩))
          ⊢ wp frame (wpE (defs₀ (F := F)) Variants.none c none) E (cc0_mlstm i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, fun E K => ?run⟩
  case run =>
    simp only [cc0_mlstm_eq_skeleton]; unfold cc0_mlstm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [HS0]; · iexists _; iexact HS0
    iexists _; iexact HS1

end Cert.Kernel3Ideal.Gen

end
-- ==== Proof.StepRunBIdeal.lean ====
module

public import proofs.«01_k».proof.Proof.Gen.Kernel3Ideal.Frame.Runs

/-! # The body of the first branch's call, run once within a prompt

At the other points the body goes on from what the point before left in the two arrays it carries. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The body at a point of the second case: from the blocks of the inputs and what the point before left in the outputs it adds to
    and in the carried arrays, it ends with the inputs as they were and with these pieces stored (last first). -/
noncomputable def kernelRun0_B (c : Dev nD) (i : grid0.Coords) (arg3 : Memref sig .tc .vmem S256x2048 .f32) (harg3 : arg3.IsWhole) (arg4 : Memref sig .tc .vmem S256x3072 .f32) (harg4 : arg4.IsWhole) (arg5 : Memref sig .tc .vmem S256x128 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S16x256 .f32) (harg10 : arg10.IsWhole) (arg11 : Memref sig .tc .vmem S16x256 .f32) (harg11 : arg11.IsWhole) (arg12 : Memref sig .tc .vmem S16x256 .f32) (harg12 : arg12.IsWhole) (arg13 : Memref sig .tc .vmem S16x256 .f32) (harg13 : arg13.IsWhole) (arg14 : Memref sig .tc .vmem S16x256 .f32) (harg14 : arg14.IsWhole) (arg15 : Memref sig .tc .vmem S16x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S4x256 .f32) (harg22 : arg22.IsWhole) (arg23 : Memref sig .tc .vmem S4x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x256 .f32) (harg27 : arg27.IsWhole) (arg28 : Memref sig .tc .vmem S16x1x256x256 .f32) (harg28 : arg28.IsWhole) (arg29 : Memref sig .tc .vmem S16x1x1x256 .f32) (harg29 : arg29.IsWhole) (arg30 : Memref sig .tc .vmem S16x4 .f32) (harg30 : arg30.IsWhole) (arg31 : Memref sig .tc .vmem S256x1024 .bf16) (harg31 : arg31.IsWhole) (arg32 : Memref sig .tc .vmem S1x4x256x256 .f32) (harg32 : arg32.IsWhole) (arg33 : Memref sig .tc .vmem S1x4x1x256 .f32) (harg33 : arg33.IsWhole) (arg34 : Memref sig .tc .vmem S1x4x1x128 .f32) (harg34 : arg34.IsWhole) (arg35 : Memref sig .tc .vmem S16x256 .bf16) (harg35 : arg35.IsWhole) (arg36 : Memref sig .tc .vmem S16x1x256x256 .f32) (harg36 : arg36.IsWhole) (arg37 : Memref sig .tc .vmem S16x1x1x256 .f32) (harg37 : arg37.IsWhole) (arg38 : Memref sig .tc .vmem S16x128 .f32) (harg38 : arg38.IsWhole) (arg39 : Memref sig .tc .vmem S8x1024 .f32) (harg39 : arg39.IsWhole) (arg40 : Memref sig .tc .vmem S8x1024 .f32) (harg40 : arg40.IsWhole) (hc0 : ¬cond0_0 i)
    (x0 : Vec F S256x2048 .f32) (x1 : Vec F S256x3072 .f32) (x2 : Vec F S256x128 .f32) (x3 : Vec F S4x2048 .f32) (x4 : Vec F S1x2048 .f32) (x5 : Vec F S1x128 .f32) (x6 : Vec F S1x1024 .f32) (x7 : Vec F S16x256 .f32) (x8 : Vec F S16x256 .f32) (x9 : Vec F S16x256 .f32) (x10 : Vec F S16x256 .f32) (x11 : Vec F S16x256 .f32) (x12 : Vec F S16x128 .f32) (x13 : Vec F S16x256 .f32) (x14 : Vec F S16x256 .f32) (x15 : Vec F S16x256 .f32) (x16 : Vec F S16x256 .f32) (x17 : Vec F S16x256 .f32) (x18 : Vec F S16x256 .f32) (x19 : Vec F S4x256 .f32) (x20 : Vec F S4x256 .f32) (x21 : Vec F S1x256 .f32) (x22 : Vec F S1x256 .f32) (x23 : Vec F S1x128 .f32) (x24 : Vec F S1x256 .f32) (x25 : Vec F S16x1x256x256 .f32) (x26 : Vec F S16x1x1x256 .f32) (x27 : Vec F S16x4 .f32) (xo29 : Vec F S1x4x256x256 .f32) (xo30 : Vec F S1x4x1x256 .f32) (xo31 : Vec F S1x4x1x128 .f32) (xs0 : Vec F S8x1024 .f32) (xs1 : Vec F S8x1024 .f32) :
    Σ' (L28 : List (View.Piece (Elt F) S256x1024 .bf16)), Σ' (L29 : List (View.Piece (Elt F) S1x4x256x256 .f32)), Σ' (L30 : List (View.Piece (Elt F) S1x4x1x256 .f32)), Σ' (L31 : List (View.Piece (Elt F) S1x4x1x128 .f32)), Σ' (L32 : List (View.Piece (Elt F) S16x256 .bf16)), Σ' (L33 : List (View.Piece (Elt F) S16x1x256x256 .f32)), Σ' (L34 : List (View.Piece (Elt F) S16x1x1x256 .f32)), Σ' (L35 : List (View.Piece (Elt F) S16x128 .f32)), Σ' (LS0 : List (View.Piece (Elt F) S8x1024 .f32)), { LS1 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ (∃ d, owns (c : Thread nD τ) arg31 fullShare d) ∗ owns (c : Thread nD τ) arg32 fullShare xo29 ∗ owns (c : Thread nD τ) arg33 fullShare xo30 ∗ owns (c : Thread nD τ) arg34 fullShare xo31 ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ owns (c : Thread nD τ) arg39 fullShare xs0 ∗ owns (c : Thread nD τ) arg40 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ (∃ f, arg31.view.loc (c : Thread nD τ) ↦[arg31.view.set]{fullShare} arg31.view.writes (Elt F) f L28) ∗ (∃ f, arg32.view.loc (c : Thread nD τ) ↦[arg32.view.set]{fullShare} arg32.view.writes (Elt F) f L29) ∗ (∃ f, arg33.view.loc (c : Thread nD τ) ↦[arg33.view.set]{fullShare} arg33.view.writes (Elt F) f L30) ∗ (∃ f, arg34.view.loc (c : Thread nD τ) ↦[arg34.view.set]{fullShare} arg34.view.writes (Elt F) f L31) ∗ (∃ f, arg35.view.loc (c : Thread nD τ) ↦[arg35.view.set]{fullShare} arg35.view.writes (Elt F) f L32) ∗ (∃ f, arg36.view.loc (c : Thread nD τ) ↦[arg36.view.set]{fullShare} arg36.view.writes (Elt F) f L33) ∗ (∃ f, arg37.view.loc (c : Thread nD τ) ↦[arg37.view.set]{fullShare} arg37.view.writes (Elt F) f L34) ∗ (∃ f, arg38.view.loc (c : Thread nD τ) ↦[arg38.view.set]{fullShare} arg38.view.writes (Elt F) f L35) ∗ (∃ f, arg39.view.loc (c : Thread nD τ) ↦[arg39.view.set]{fullShare} arg39.view.writes (Elt F) f LS0) ∗ (∃ f, arg40.view.loc (c : Thread nD τ) ↦[arg40.view.set]{fullShare} arg40.view.writes (Elt F) f LS1)) -∗ K ⟨⟩))
          ⊢ wp frame (wpE (defs₀ (F := F)) Variants.none c none) E (cc0_mlstm i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, ?_, ?_, ?_, ?_, ?_, ?_, ?_, ?_, fun E K => ?run⟩
  case run =>
    simp only [cc0_mlstm_eq_skeleton]; unfold cc0_mlstm_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg32.eq_unread hf29; obtain rfl := harg33.eq_unread hf30; obtain rfl := harg34.eq_unread hf31; obtain rfl := harg39.eq_unread hfs0; obtain rfl := harg40.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [HS0]; · iexists _; iexact HS0
    iexists _; iexact HS1

end Cert.Kernel3Ideal.Gen

end
-- ==== Proof.StepOutsIdeal.lean ====
module

public import proofs.«01_k».proof.Proof.StepRunAIdeal
public import proofs.«01_k».proof.Proof.StepRunBIdeal
public import Idealize.ShloMosaic.Lib.Claim

/-! # What each point of the first branch's call leaves

The stores of the two cases cover each output's block, so what a point leaves is read back from them. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents a case leaves: the outputs in window order, then the two scratch arrays carried between points. -/
abbrev Left (F : FTy → Type) [FloatOps F] : Type :=
  Vec F S256x1024 .bf16 × Vec F S1x4x256x256 .f32 × Vec F S1x4x1x256 .f32 × Vec F S1x4x1x128 .f32 × Vec F S16x256 .bf16 × Vec F S16x1x256x256 .f32 × Vec F S16x1x1x256 .f32 × Vec F S16x128 .f32 × Vec F S8x1024 .f32 × Vec F S8x1024 .f32

section

-- The point's memrefs and what they hold when the body starts, in case A.
variable (c : Dev nD) (i : grid0.Coords) (arg3 : Memref sig .tc .vmem S256x2048 .f32) (harg3 : arg3.IsWhole) (arg4 : Memref sig .tc .vmem S256x3072 .f32) (harg4 : arg4.IsWhole) (arg5 : Memref sig .tc .vmem S256x128 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S16x256 .f32) (harg10 : arg10.IsWhole) (arg11 : Memref sig .tc .vmem S16x256 .f32) (harg11 : arg11.IsWhole) (arg12 : Memref sig .tc .vmem S16x256 .f32) (harg12 : arg12.IsWhole) (arg13 : Memref sig .tc .vmem S16x256 .f32) (harg13 : arg13.IsWhole) (arg14 : Memref sig .tc .vmem S16x256 .f32) (harg14 : arg14.IsWhole) (arg15 : Memref sig .tc .vmem S16x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S4x256 .f32) (harg22 : arg22.IsWhole) (arg23 : Memref sig .tc .vmem S4x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x256 .f32) (harg27 : arg27.IsWhole) (arg28 : Memref sig .tc .vmem S16x1x256x256 .f32) (harg28 : arg28.IsWhole) (arg29 : Memref sig .tc .vmem S16x1x1x256 .f32) (harg29 : arg29.IsWhole) (arg30 : Memref sig .tc .vmem S16x4 .f32) (harg30 : arg30.IsWhole) (arg31 : Memref sig .tc .vmem S256x1024 .bf16) (harg31 : arg31.IsWhole) (arg32 : Memref sig .tc .vmem S1x4x256x256 .f32) (harg32 : arg32.IsWhole) (arg33 : Memref sig .tc .vmem S1x4x1x256 .f32) (harg33 : arg33.IsWhole) (arg34 : Memref sig .tc .vmem S1x4x1x128 .f32) (harg34 : arg34.IsWhole) (arg35 : Memref sig .tc .vmem S16x256 .bf16) (harg35 : arg35.IsWhole) (arg36 : Memref sig .tc .vmem S16x1x256x256 .f32) (harg36 : arg36.IsWhole) (arg37 : Memref sig .tc .vmem S16x1x1x256 .f32) (harg37 : arg37.IsWhole) (arg38 : Memref sig .tc .vmem S16x128 .f32) (harg38 : arg38.IsWhole) (arg39 : Memref sig .tc .vmem S8x1024 .f32) (harg39 : arg39.IsWhole) (arg40 : Memref sig .tc .vmem S8x1024 .f32) (harg40 : arg40.IsWhole) (hc0 : cond0_0 i)
  (x0 : Vec F S256x2048 .f32) (x1 : Vec F S256x3072 .f32) (x2 : Vec F S256x128 .f32) (x3 : Vec F S4x2048 .f32) (x4 : Vec F S1x2048 .f32) (x5 : Vec F S1x128 .f32) (x6 : Vec F S1x1024 .f32) (x7 : Vec F S16x256 .f32) (x8 : Vec F S16x256 .f32) (x9 : Vec F S16x256 .f32) (x10 : Vec F S16x256 .f32) (x11 : Vec F S16x256 .f32) (x12 : Vec F S16x128 .f32) (x13 : Vec F S16x256 .f32) (x14 : Vec F S16x256 .f32) (x15 : Vec F S16x256 .f32) (x16 : Vec F S16x256 .f32) (x17 : Vec F S16x256 .f32) (x18 : Vec F S16x256 .f32) (x19 : Vec F S4x256 .f32) (x20 : Vec F S4x256 .f32) (x21 : Vec F S1x256 .f32) (x22 : Vec F S1x256 .f32) (x23 : Vec F S1x128 .f32) (x24 : Vec F S1x256 .f32) (x25 : Vec F S16x1x256x256 .f32) (x26 : Vec F S16x1x1x256 .f32) (x27 : Vec F S16x4 .f32)

theorem cover0_A_28 (y : S256x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).1, y ∈ pc.1.set :=
  View.cover_of_tiledL _ ![256, 256] (by sl_kernel_rfl) y

theorem cover0_A_29 (y : S1x4x256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.1, y ∈ pc.1.set :=
  View.cover_of_tiledBy _ ![1, 1, 256, 256] (by sl_kernel_rfl) y

theorem cover0_A_30 (y : S1x4x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.1, y ∈ pc.1.set :=
  View.cover_of_tiledBy _ ![1, 1, 1, 256] (by sl_kernel_rfl) y

theorem cover0_A_31 (y : S1x4x1x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.1, y ∈ pc.1.set :=
  View.cover_of_tiledBy _ ![1, 1, 1, 128] (by sl_kernel_rfl) y

theorem cover0_A_32 (y : S16x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.1, y ∈ pc.1.set :=
  View.cover_of_tiledL _ ![16, 256] (by sl_kernel_rfl) y

theorem cover0_A_33 (y : S16x1x256x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.1, y ∈ pc.1.set :=
  View.cover_of_tiledL _ ![1, 1, 256, 256] (by sl_kernel_rfl) y

theorem cover0_A_34 (y : S16x1x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.1, y ∈ pc.1.set :=
  View.cover_of_tiledL _ ![16, 1, 1, 256] (by sl_kernel_rfl) y

theorem cover0_A_35 (y : S16x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.1, y ∈ pc.1.set :=
  View.cover_of_tiledL _ ![16, 128] (by sl_kernel_rfl) y

theorem scover0_A_0 (y : S8x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.2.1, y ∈ pc.1.set :=
  View.cover_of_tiledL _ ![8, 1024] (by sl_kernel_rfl) y

theorem scover0_A_1 (y : S8x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.2.2.1, y ∈ pc.1.set :=
  View.cover_of_tiledL _ ![8, 1024] (by sl_kernel_rfl) y

/-- What case A leaves: its pieces read back, output by output and scratch by scratch. -/
def outs0_A : Left F :=
  (VO0_28.read (Elt F) (VO0_28.writes (Elt F) VO0_28.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).1),
    VO0_29.read (Elt F) (VO0_29.writes (Elt F) VO0_29.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.1),
    VO0_30.read (Elt F) (VO0_30.writes (Elt F) VO0_30.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.1),
    VO0_31.read (Elt F) (VO0_31.writes (Elt F) VO0_31.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.1),
    VO0_32.read (Elt F) (VO0_32.writes (Elt F) VO0_32.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.1),
    VO0_33.read (Elt F) (VO0_33.writes (Elt F) VO0_33.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.1),
    VO0_34.read (Elt F) (VO0_34.writes (Elt F) VO0_34.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.1),
    VO0_35.read (Elt F) (VO0_35.writes (Elt F) VO0_35.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.1),
    VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.2.1),
    VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27).2.2.2.2.2.2.2.2.2.1))

end

section

-- The point's memrefs and what they hold when the body starts, in case B.
variable (c : Dev nD) (i : grid0.Coords) (arg3 : Memref sig .tc .vmem S256x2048 .f32) (harg3 : arg3.IsWhole) (arg4 : Memref sig .tc .vmem S256x3072 .f32) (harg4 : arg4.IsWhole) (arg5 : Memref sig .tc .vmem S256x128 .f32) (harg5 : arg5.IsWhole) (arg6 : Memref sig .tc .vmem S4x2048 .f32) (harg6 : arg6.IsWhole) (arg7 : Memref sig .tc .vmem S1x2048 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S16x256 .f32) (harg10 : arg10.IsWhole) (arg11 : Memref sig .tc .vmem S16x256 .f32) (harg11 : arg11.IsWhole) (arg12 : Memref sig .tc .vmem S16x256 .f32) (harg12 : arg12.IsWhole) (arg13 : Memref sig .tc .vmem S16x256 .f32) (harg13 : arg13.IsWhole) (arg14 : Memref sig .tc .vmem S16x256 .f32) (harg14 : arg14.IsWhole) (arg15 : Memref sig .tc .vmem S16x128 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S16x256 .f32) (harg18 : arg18.IsWhole) (arg19 : Memref sig .tc .vmem S16x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S4x256 .f32) (harg22 : arg22.IsWhole) (arg23 : Memref sig .tc .vmem S4x256 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S1x128 .f32) (harg26 : arg26.IsWhole) (arg27 : Memref sig .tc .vmem S1x256 .f32) (harg27 : arg27.IsWhole) (arg28 : Memref sig .tc .vmem S16x1x256x256 .f32) (harg28 : arg28.IsWhole) (arg29 : Memref sig .tc .vmem S16x1x1x256 .f32) (harg29 : arg29.IsWhole) (arg30 : Memref sig .tc .vmem S16x4 .f32) (harg30 : arg30.IsWhole) (arg31 : Memref sig .tc .vmem S256x1024 .bf16) (harg31 : arg31.IsWhole) (arg32 : Memref sig .tc .vmem S1x4x256x256 .f32) (harg32 : arg32.IsWhole) (arg33 : Memref sig .tc .vmem S1x4x1x256 .f32) (harg33 : arg33.IsWhole) (arg34 : Memref sig .tc .vmem S1x4x1x128 .f32) (harg34 : arg34.IsWhole) (arg35 : Memref sig .tc .vmem S16x256 .bf16) (harg35 : arg35.IsWhole) (arg36 : Memref sig .tc .vmem S16x1x256x256 .f32) (harg36 : arg36.IsWhole) (arg37 : Memref sig .tc .vmem S16x1x1x256 .f32) (harg37 : arg37.IsWhole) (arg38 : Memref sig .tc .vmem S16x128 .f32) (harg38 : arg38.IsWhole) (arg39 : Memref sig .tc .vmem S8x1024 .f32) (harg39 : arg39.IsWhole) (arg40 : Memref sig .tc .vmem S8x1024 .f32) (harg40 : arg40.IsWhole) (hc0 : ¬cond0_0 i)
  (x0 : Vec F S256x2048 .f32) (x1 : Vec F S256x3072 .f32) (x2 : Vec F S256x128 .f32) (x3 : Vec F S4x2048 .f32) (x4 : Vec F S1x2048 .f32) (x5 : Vec F S1x128 .f32) (x6 : Vec F S1x1024 .f32) (x7 : Vec F S16x256 .f32) (x8 : Vec F S16x256 .f32) (x9 : Vec F S16x256 .f32) (x10 : Vec F S16x256 .f32) (x11 : Vec F S16x256 .f32) (x12 : Vec F S16x128 .f32) (x13 : Vec F S16x256 .f32) (x14 : Vec F S16x256 .f32) (x15 : Vec F S16x256 .f32) (x16 : Vec F S16x256 .f32) (x17 : Vec F S16x256 .f32) (x18 : Vec F S16x256 .f32) (x19 : Vec F S4x256 .f32) (x20 : Vec F S4x256 .f32) (x21 : Vec F S1x256 .f32) (x22 : Vec F S1x256 .f32) (x23 : Vec F S1x128 .f32) (x24 : Vec F S1x256 .f32) (x25 : Vec F S16x1x256x256 .f32) (x26 : Vec F S16x1x1x256 .f32) (x27 : Vec F S16x4 .f32) (xo29 : Vec F S1x4x256x256 .f32) (xo30 : Vec F S1x4x1x256 .f32) (xo31 : Vec F S1x4x1x128 .f32) (xs0 : Vec F S8x1024 .f32) (xs1 : Vec F S8x1024 .f32)

theorem cover0_B_28 (y : S256x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).1, y ∈ pc.1.set :=
  View.cover_of_tiledL _ ![256, 256] (by sl_kernel_rfl) y

theorem cover0_B_29 (y : S1x4x256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.1, y ∈ pc.1.set :=
  View.cover_of_tiledL _ ![1, 1, 256, 256] (by sl_kernel_rfl) y

theorem cover0_B_30 (y : S1x4x1x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.1, y ∈ pc.1.set :=
  View.cover_of_tiledL _ ![1, 1, 1, 256] (by sl_kernel_rfl) y

theorem cover0_B_31 (y : S1x4x1x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.1, y ∈ pc.1.set :=
  View.cover_of_tiledL _ ![1, 1, 1, 128] (by sl_kernel_rfl) y

theorem cover0_B_32 (y : S16x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.1, y ∈ pc.1.set :=
  View.cover_of_tiledL _ ![16, 256] (by sl_kernel_rfl) y

theorem cover0_B_33 (y : S16x1x256x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.1, y ∈ pc.1.set :=
  View.cover_of_tiledL _ ![1, 1, 256, 256] (by sl_kernel_rfl) y

theorem cover0_B_34 (y : S16x1x1x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.1, y ∈ pc.1.set :=
  View.cover_of_tiledL _ ![16, 1, 1, 256] (by sl_kernel_rfl) y

theorem cover0_B_35 (y : S16x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.1, y ∈ pc.1.set :=
  View.cover_of_tiledL _ ![16, 128] (by sl_kernel_rfl) y

theorem scover0_B_0 (y : S8x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.2.1, y ∈ pc.1.set :=
  View.cover_of_tiledL _ ![8, 1024] (by sl_kernel_rfl) y

theorem scover0_B_1 (y : S8x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.2.2.1, y ∈ pc.1.set :=
  View.cover_of_tiledL _ ![8, 1024] (by sl_kernel_rfl) y

/-- What case B leaves: its pieces read back, output by output and scratch by scratch. -/
def outs0_B : Left F :=
  (VO0_28.read (Elt F) (VO0_28.writes (Elt F) VO0_28.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).1),
    VO0_29.read (Elt F) (VO0_29.writes (Elt F) VO0_29.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.1),
    VO0_30.read (Elt F) (VO0_30.writes (Elt F) VO0_30.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.1),
    VO0_31.read (Elt F) (VO0_31.writes (Elt F) VO0_31.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.1),
    VO0_32.read (Elt F) (VO0_32.writes (Elt F) VO0_32.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.1),
    VO0_33.read (Elt F) (VO0_33.writes (Elt F) VO0_33.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.1),
    VO0_34.read (Elt F) (VO0_34.writes (Elt F) VO0_34.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.1),
    VO0_35.read (Elt F) (VO0_35.writes (Elt F) VO0_35.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.1),
    VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.2.1),
    VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 x22 x23 x24 x25 x26 x27 xo29 xo30 xo31 xs0 xs1).2.2.2.2.2.2.2.2.2.1))

end

variable (m : (ℓ : Loc nD τ sig) → Buf (Elt F) ℓ) (ρ : Dev nD → PrngReg)

/-! ## What the outputs hold after each point -/

/-- Case A at point `t`: from the point's own memrefs and blocks. -/
def leftA (c : Dev nD) (t : Fin cfg0.N) (h0 : t.val % 8 = 0) : Left F :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- Case B at point `t`: over what the point before left. -/
def leftB (c : Dev nD) (t : Fin cfg0.N) (h0 : ¬t.val % 8 = 0) (p : Left F) : Left F :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) p.2.1 p.2.2.1 p.2.2.2.1 p.2.2.2.2.2.2.2.2.1 p.2.2.2.2.2.2.2.2.2

/-- What the outputs' staging buffers and the carried scratch hold after the body at position `n`. -/
def outsAt0 (c : Dev nD) : (n : ℕ) → n < cfg0.N → Left F
  | 0, hn => leftA m c ⟨0, hn⟩ (Nat.zero_mod _)
  | n + 1, hn =>
    if h0 : (n + 1) % 8 = 0 then leftA m c ⟨n + 1, hn⟩ h0
    else leftB m c ⟨n + 1, hn⟩ h0 (outsAt0 c n (Nat.lt_of_succ_lt hn))

/-- `outsAt0` at a point of case A: that case's contents. -/
theorem outsAt0_A (c : Dev nD) (t : Fin cfg0.N) (h0 : t.val % 8 = 0) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) scM0_0 (Memref.isWhole_whole _) scM0_1 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 := by
  obtain ⟨n, hn⟩ := t
  cases n with
  | zero => exact (by exfalso; (try dsimp only at h0); exact absurd (Nat.zero_mod _) h0)
  | succ n => exact (dif_neg h0).trans rfl

end Cert.Kernel3Ideal.Gen

end
-- ==== Proof.StepBodyIdeal.lean ====
module

public import proofs.«01_k».proof.Proof.StepOutsIdeal
public import Idealize.ShloMosaic.Lib.Claim

/-! # The body of the first branch's call at every point

From the inputs' blocks and what the point before left, the body leaves each output's buffer at what the point computes. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What holds before position `n`: at the start the scratch arrays hold anything; later they hold what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-! ## The pipeline's proof data -/

/-- The data of the one pipeline on core `c`: the arrays as the call finds them, each input's block in its buffer, and each output's
    buffer at what the point leaves. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => (outsAt0 m c t.val t.isLt).1
    | ⟨29, _⟩ => (outsAt0 m c t.val t.isLt).2.1
    | ⟨30, _⟩ => (outsAt0 m c t.val t.isLt).2.2.1
    | ⟨31, _⟩ => (outsAt0 m c t.val t.isLt).2.2.2.1
    | ⟨32, _⟩ => (outsAt0 m c t.val t.isLt).2.2.2.2.1
    | ⟨33, _⟩ => (outsAt0 m c t.val t.isLt).2.2.2.2.2.1
    | ⟨34, _⟩ => (outsAt0 m c t.val t.isLt).2.2.2.2.2.2.1
    | ⟨35, _⟩ => (outsAt0 m c t.val t.isLt).2.2.2.2.2.2.2.1
    | ⟨_ + 36, h⟩ => absurd h (Nat.not_lt.2 (Nat.le_add_left _ _))
  Φ t := PhiS m c t.val (Nat.le_of_lt_succ t.isLt)
  q w := Pipeline.shareOf spec0 w
  owed _ := 0

/-- The arrays of this data are those the call finds. -/
theorem A_eq (c : Dev nD) (w : Fin cfg0.W) : (dats m 0 c).A w = V m c (Pipeline.arrRef spec0 w) := by
  dsimp only [dats]

/-- The condition at a point's start, at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = (outsAt0 m c t.val t.isLt).1 := by dsimp only [dats]
theorem after0_29 (c : Dev nD) (t : Fin cfg0.N) : (dats m 0 c).after 29 t = (outsAt0 m c t.val t.isLt).2.1 := by dsimp only [dats]
theorem after0_30 (c : Dev nD) (t : Fin cfg0.N) : (dats m 0 c).after 30 t = (outsAt0 m c t.val t.isLt).2.2.1 := by dsimp only [dats]
theorem after0_31 (c : Dev nD) (t : Fin cfg0.N) : (dats m 0 c).after 31 t = (outsAt0 m c t.val t.isLt).2.2.2.1 := by dsimp only [dats]
theorem after0_32 (c : Dev nD) (t : Fin cfg0.N) : (dats m 0 c).after 32 t = (outsAt0 m c t.val t.isLt).2.2.2.2.1 := by dsimp only [dats]
theorem after0_33 (c : Dev nD) (t : Fin cfg0.N) : (dats m 0 c).after 33 t = (outsAt0 m c t.val t.isLt).2.2.2.2.2.1 := by dsimp only [dats]
theorem after0_34 (c : Dev nD) (t : Fin cfg0.N) : (dats m 0 c).after 34 t = (outsAt0 m c t.val t.isLt).2.2.2.2.2.2.1 := by dsimp only [dats]
theorem after0_35 (c : Dev nD) (t : Fin cfg0.N) : (dats m 0 c).after 35 t = (outsAt0 m c t.val t.isLt).2.2.2.2.2.2.2.1 := by dsimp only [dats]

/-- Each input's current buffer holds its block at every point, fetched there or kept. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
/-- Within a prompt this output's buffer still holds what the point before left. -/
theorem before0_29_B (c : Dev nD) (t : Fin cfg0.N) (h0 : ¬t.val % 8 = 0) (d) :
    (dats m 0 c).before 29 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 29 rfl t (by omega) (Bool.eq_false_iff.mpr fun h => by have := (flush0_29 _).mp h; dsimp only at this; omega)
    (fun _ => rfl) (fun _ _ => rfl)]
  dsimp only [dats]
/-- Within a prompt this output's buffer still holds what the point before left. -/
theorem before0_30_B (c : Dev nD) (t : Fin cfg0.N) (h0 : ¬t.val % 8 = 0) (d) :
    (dats m 0 c).before 30 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 30 rfl t (by omega) (Bool.eq_false_iff.mpr fun h => by have := (flush0_30 _).mp h; dsimp only at this; omega)
    (fun _ => rfl) (fun _ _ => rfl)]
  dsimp only [dats]
/-- Within a prompt this output's buffer still holds what the point before left. -/
theorem before0_31_B (c : Dev nD) (t : Fin cfg0.N) (h0 : ¬t.val % 8 = 0) (d) :
    (dats m 0 c).before 31 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 31 rfl t (by omega) (Bool.eq_false_iff.mpr fun h => by have := (flush0_31 _).mp h; dsimp only at this; omega)
    (fun _ => rfl) (fun _ _ => rfl)]
  dsimp only [dats]

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t))

set_option maxHeartbeats 28800000 in
/-- The body at any point: the inputs' buffers hold their blocks, the point is in one of the two cases, and that case's run
    applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold outs0_A; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [HS0]; · iexact HS0
      isplitl [HS1]; · iexact HS1
      iintro ⟨H0, H1, H2, H3, H4, H5, H6, H7, H8, H9, H10, H11, H12, H13, H14, H15, H16, H17, H18, H19, H20, H21, H22, H23, H24, H25, H26, H27, ⟨%e28, H28⟩, ⟨%e29, H29⟩, ⟨%e30, H30⟩, ⟨%e31, H31⟩, ⟨%e32, H32⟩, ⟨%e33, H33⟩, ⟨%e34, H34⟩, ⟨%e35, H35⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]
      · unfold owns; iexists _; isplitr
        swap; · iexact H28
        ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H29]
      · unfold owns; iexists _; isplitr
        swap; · iexact H29
        ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H30]
      · unfold owns; iexists _; isplitr
        swap; · iexact H30
        ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H31]
      · unfold owns; iexists _; isplitr
        swap; · iexact H31
        ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H32]
      · unfold owns; iexists _; isplitr
        swap; · iexact H32
        ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H33]
      · unfold owns; iexists _; isplitr
        swap; · iexact H33
        ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H34]
      · unfold owns; iexists _; isplitr
        swap; · iexact H34
        ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H35
      ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold outs0_A; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [HS0]; · iexists _; iexact HS0
      isplitl [HS1]; · iexists _; iexact HS1
      iintro ⟨H0, H1, H2, H3, H4, H5, H6, H7, H8, H9, H10, H11, H12, H13, H14, H15, H16, H17, H18, H19, H20, H21, H22, H23, H24, H25, H26, H27, ⟨%e28, H28⟩, ⟨%e29, H29⟩, ⟨%e30, H30⟩, ⟨%e31, H31⟩, ⟨%e32, H32⟩, ⟨%e33, H33⟩, ⟨%e34, H34⟩, ⟨%e35, H35⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]
      · unfold owns; iexists _; isplitr
        swap; · iexact H28
        ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H29]
      · unfold owns; iexists _; isplitr
        swap; · iexact H29
        ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H30]
      · unfold owns; iexists _; isplitr
        swap; · iexact H30
        ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H31]
      · unfold owns; iexists _; isplitr
        swap; · iexact H31
        ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H32]
      · unfold owns; iexists _; isplitr
        swap; · iexact H32
        ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H33]
      · unfold owns; iexists _; isplitr
        swap; · iexact H33
        ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H34]
      · unfold owns; iexists _; isplitr
        swap; · iexact H34
        ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H35
      ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_29_B m c t h0, before0_30_B m c t h0, before0_31_B m c t h0]
      unfold outs0_B; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexists _; iexact H28
      isplitl [H29]; · iexact H29
      isplitl [H30]; · iexact H30
      isplitl [H31]; · iexact H31
      isplitl [H32]; · iexists _; iexact H32
      isplitl [H33]; · iexists _; iexact H33
      isplitl [H34]; · iexists _; iexact H34
      isplitl [H35]; · iexists _; iexact H35
      isplitl [HS0]; · iexact HS0
      isplitl [HS1]; · iexact HS1
      iintro ⟨H0, H1, H2, H3, H4, H5, H6, H7, H8, H9, H10, H11, H12, H13, H14, H15, H16, H17, H18, H19, H20, H21, H22, H23, H24, H25, H26, H27, ⟨%e28, H28⟩, ⟨%e29, H29⟩, ⟨%e30, H30⟩, ⟨%e31, H31⟩, ⟨%e32, H32⟩, ⟨%e33, H33⟩, ⟨%e34, H34⟩, ⟨%e35, H35⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]
      · unfold owns; iexists _; isplitr
        swap; · iexact H28
        ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H29]
      · unfold owns; iexists _; isplitr
        swap; · iexact H29
        ipureintro; exact View.read_writes_of_cover _ _ _ _ _ (cover0_B_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H30]
      · unfold owns; iexists _; isplitr
        swap; · iexact H30
        ipureintro; exact View.read_writes_of_cover _ _ _ _ _ (cover0_B_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H31]
      · unfold owns; iexists _; isplitr
        swap; · iexact H31
        ipureintro; exact View.read_writes_of_cover _ _ _ _ _ (cover0_B_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H32]
      · unfold owns; iexists _; isplitr
        swap; · iexact H32
        ipureintro; exact View.read_writes_of_cover _ _ _ _ _ (cover0_B_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H33]
      · unfold owns; iexists _; isplitr
        swap; · iexact H33
        ipureintro; exact View.read_writes_of_cover _ _ _ _ _ (cover0_B_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H34]
      · unfold owns; iexists _; isplitr
        swap; · iexact H34
        ipureintro; exact View.read_writes_of_cover _ _ _ _ _ (cover0_B_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H35
      ipureintro; exact View.read_writes_of_cover _ _ _ _ _ (cover0_B_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel3Ideal.Gen

end
-- ==== Proof.StepFrameIdeal.lean ====
module

public import proofs.«01_k».proof.Proof.StepBodyIdeal
public import Idealize.ShloMosaic.Lib.Claim

/-! # The frame of the first branch's call

The body keeps the pipeline's promise at every point, so the call ends, leaves its arguments as they were, and leaves in
each result what the points left. -/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body of the table at point `t` is the body as `bodyAt0` writes it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body keeps the pipeline's promise at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives is the condition before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any later point the named contents of the carried arrays may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
set_option maxHeartbeats 800000 in
/-- The run, with every counter at zero in the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every run of the whole program ends with each result at what the points left, and with every other buffer as the lines
    after the call leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame of this program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Gen

end
-- ==== Proof.StepBlocks.lean ====
module

public import proofs.«01_k».proof.Proof.Gen.Kernel3Ideal.Frame.Runs
public import Idealize.ShloMosaic.Lib.Pipeline.ValueKit
public import Idealize.ShloMosaic.Lib.Pipeline.Covers
public import Idealize.ShloMosaic.Lib.Pointwise

/-! # The blocks the first branch's call reads for the samples

Point `t` takes the sixteen samples of block `t / 4` and the head `t % 4`. Here is which entry of its array each entry of
a block is. -/

@[expose] public section

set_option maxRecDepth 16384

noncomputable section

namespace Cert.Kernel3Ideal.Whole

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD) (t : Fin cfg0.N)

/-- The blocks of the token's columns and of the kept rows. -/
theorem idxTok : ∀ t : Fin cfg0.N, win0_8.index t = ![t.val / 4, 4 + t.val % 4] ∧ win0_9.index t = ![t.val / 4, 12 + t.val % 4]
    ∧ win0_12.index t = ![t.val / 4, 96] ∧ win0_16.index t = ![t.val / 4, 4 + t.val % 4] ∧ win0_17.index t = ![t.val / 4, 12 + t.val % 4]
    ∧ win0_18.index t = ![t.val / 4, 20 + t.val % 4] :=
  (by decide +kernel : ∀ t : Fin grid0.N, win0_8.index t = ![t.val / 4, 4 + t.val % 4] ∧ win0_9.index t = ![t.val / 4, 12 + t.val % 4]
    ∧ win0_12.index t = ![t.val / 4, 96] ∧ win0_16.index t = ![t.val / 4, 4 + t.val % 4] ∧ win0_17.index t = ![t.val / 4, 12 + t.val % 4]
    ∧ win0_18.index t = ![t.val / 4, 20 + t.val % 4])

/-- The blocks of the convolution's weights and of the gates' shift. -/
theorem idxPar : ∀ t : Fin cfg0.N, win0_20.index t = ![0, 4 + t.val % 4] ∧ win0_22.index t = ![0, 4 + t.val % 4] ∧ win0_23.index t = ![0, 0] :=
  (by decide +kernel : ∀ t : Fin grid0.N, win0_20.index t = ![0, 4 + t.val % 4] ∧ win0_22.index t = ![0, 4 + t.val % 4] ∧ win0_23.index t = ![0, 0])

/-- The blocks of the old state and of the new one. -/
theorem idxState : ∀ t : Fin cfg0.N, win0_25.index t = ![t.val / 4, t.val % 4, 0, 0] ∧ win0_26.index t = ![t.val / 4, t.val % 4, 0, 0]
    ∧ win0_27.index t = ![t.val / 4, 0] ∧ win0_33.index t = ![t.val / 4, t.val % 4, 0, 0] ∧ win0_34.index t = ![t.val / 4, t.val % 4, 0, 0]
    ∧ win0_35.index t = ![t.val / 4, t.val % 4] :=
  (by decide +kernel : ∀ t : Fin grid0.N, win0_25.index t = ![t.val / 4, t.val % 4, 0, 0] ∧ win0_26.index t = ![t.val / 4, t.val % 4, 0, 0]
    ∧ win0_27.index t = ![t.val / 4, 0] ∧ win0_33.index t = ![t.val / 4, t.val % 4, 0, 0] ∧ win0_34.index t = ![t.val / 4, t.val % 4, 0, 0]
    ∧ win0_35.index t = ![t.val / 4, t.val % 4])

theorem read_8 (r : Fin 16) (k : Fin 256) (a : Fin 128) (ha : a.val = t.val / 4 * 16 + r.val) (b : Fin 12544) (hb : b.val = (4 + t.val % 4) * 256 + k.val) :
    iblk m c 8 t (ix2 r k : S16x256.Idx) = V m c main_arg1 (ix2 a b : S128x12544.Idx) := by
  blk_point [iblk, idxTok t, ha, hb]

theorem read_9 (r : Fin 16) (k : Fin 256) (a : Fin 128) (ha : a.val = t.val / 4 * 16 + r.val) (b : Fin 12544) (hb : b.val = (12 + t.val % 4) * 256 + k.val) :
    iblk m c 9 t (ix2 r k : S16x256.Idx) = V m c main_arg1 (ix2 a b : S128x12544.Idx) := by
  blk_point [iblk, idxTok t, ha, hb]

theorem read_12 (r : Fin 16) (k : Fin 128) (a : Fin 128) (ha : a.val = t.val / 4 * 16 + r.val) (b : Fin 12544) (hb : b.val = 12288 + k.val) :
    iblk m c 12 t (ix2 r k : S16x128.Idx) = V m c main_arg1 (ix2 a b : S128x12544.Idx) := by
  blk_point [iblk, idxTok t, ha, hb]

theorem read_16 (r : Fin 16) (k : Fin 256) (a : Fin 128) (ha : a.val = t.val / 4 * 16 + r.val) (b : Fin 6144) (hb : b.val = (4 + t.val % 4) * 256 + k.val) :
    iblk m c 16 t (ix2 r k : S16x256.Idx) = V m c main_v10 (ix2 a b : S128x6144.Idx) := by
  blk_point [iblk, idxTok t, ha, hb]

theorem read_17 (r : Fin 16) (k : Fin 256) (a : Fin 128) (ha : a.val = t.val / 4 * 16 + r.val) (b : Fin 6144) (hb : b.val = (12 + t.val % 4) * 256 + k.val) :
    iblk m c 17 t (ix2 r k : S16x256.Idx) = V m c main_v10 (ix2 a b : S128x6144.Idx) := by
  blk_point [iblk, idxTok t, ha, hb]

theorem read_18 (r : Fin 16) (k : Fin 256) (a : Fin 128) (ha : a.val = t.val / 4 * 16 + r.val) (b : Fin 6144) (hb : b.val = (20 + t.val % 4) * 256 + k.val) :
    iblk m c 18 t (ix2 r k : S16x256.Idx) = V m c main_v10 (ix2 a b : S128x6144.Idx) := by
  blk_point [iblk, idxTok t, ha, hb]

theorem read_20 (r : Fin 4) (k : Fin 256) (b : Fin 2048) (hb : b.val = (4 + t.val % 4) * 256 + k.val) :
    iblk m c 20 t (ix2 r k : S4x256.Idx) = V m c main_v0 (ix2 r b : S4x2048.Idx) := by
  blk_point [iblk, idxPar t, hb]

theorem read_22 (k : Fin 256) (b : Fin 2048) (hb : b.val = (4 + t.val % 4) * 256 + k.val) :
    iblk m c 22 t (ix2 0 k : S1x256.Idx) = V m c main_v2 (ix2 0 b : S1x2048.Idx) := by
  blk_point [iblk, idxPar t, hb]

theorem read_23 (k : Fin 128) : iblk m c 23 t (ix2 0 k : S1x128.Idx) = V m c main_v7 (ix2 0 k : S1x128.Idx) := by
  blk_point [iblk, idxPar t]

theorem read_25 (r : Fin 16) (d e : Fin 256) (a : Fin 128) (ha : a.val = t.val / 4 * 16 + r.val) (h : Fin 4) (hh : h.val = t.val % 4) :
    iblk m c 25 t (ix4 r 0 d e : S16x1x256x256.Idx) = V m c main_v11 (ix4 a h d e : S128x4x256x256.Idx) := by
  blk_point [iblk, idxState t, ha, hh]

theorem read_26 (r : Fin 16) (d : Fin 256) (a : Fin 128) (ha : a.val = t.val / 4 * 16 + r.val) (h : Fin 4) (hh : h.val = t.val % 4) :
    iblk m c 26 t (ix4 r 0 0 d : S16x1x1x256.Idx) = V m c main_v12 (ix4 a h 0 d : S128x4x1x256.Idx) := by
  blk_point [iblk, idxState t, ha, hh]

theorem read_27 (r : Fin 16) (h : Fin 4) (a : Fin 128) (ha : a.val = t.val / 4 * 16 + r.val) :
    iblk m c 27 t (ix2 r h : S16x4.Idx) = V m c main_v13 (ix2 a h : S128x4.Idx) := by
  blk_point [iblk, idxState t, ha]

end Cert.Kernel3Ideal.Whole

end
-- ==== Proof.StepMath.lean ====
module

public import proofs.«01_k».proof.Proof.OutRow
public import proofs.«01_k».proof.Proof.Gen.Kernel3Ideal.Skeleton
public import Idealize.ShloMosaic.PureOps.Ideal
public import Idealize.ShloMosaic.Lib.Pipeline.ValueKit
public import Idealize.ShloMosaic.Lib.Pipeline.Covers
public import Idealize.ShloMosaic.Lib.Pointwise

/-! # The arithmetic of one step of the first branch

A sample brings one token. Its query and key columns go through a convolution of width four over the three kept rows and
the token, and through `z` times its logistic function; its two gates give the logarithm of the forget factor and the
input exponent; and the new state is stabilised by the larger of the two exponents. The kernel writes the logarithm of the
logistic function with a power of two and a rescaled logarithm, the reference with the logarithm of one plus an
exponential. -/

@[expose] public section

set_option maxRecDepth 16384

noncomputable section

namespace Cert.Kernel3Ideal.Whole

open Idealize.ShloMosaic Idealize.ShloMosaic.TcCoe Idealize.SL.Sem
open Cert.Kernel3Ideal Cert.Kernel3Ideal.Gen
open Cert.Kernel2Ideal.Whole (one gate)

/-- The constant zero. -/
abbrev zero : EReal := FloatOps.ofBits (F := Ideal) .f32 0x00000000#32
/-- The key's factor, one over the root of the head's width. -/
abbrev keyScale : EReal := FloatOps.ofBits (F := Ideal) .f32 0x3D800000#32
/-- The kernel's minus one over the logarithm of two. -/
abbrev slope : EReal := (Named.named κ "minus_log2_e" 0xBFB8AA3B#32 : Ideal .f32)
/-- The kernel's one over the logarithm of two. -/
abbrev invLn : EReal := (Named.named κ "log2_e" 0x3FB8AA3B#32 : Ideal .f32)
/-- The kernel's logarithm of two. -/
abbrev ln : EReal := (Named.named κ "ln_2" 0x3F317218#32 : Ideal .f32)

theorem slope_eq : slope = ((-(Real.log 2)⁻¹ : ℝ) : EReal) := rfl
theorem invLn_eq : invLn = (((Real.log 2)⁻¹ : ℝ) : EReal) := rfl
theorem ln_eq : ln = ((Real.log 2 : ℝ) : EReal) := rfl

theorem exp2_eq (z : EReal) : Ideal.exp2 (z * slope) = Ideal.exp (-z) := Cert.Kernel2Ideal.Whole.exp2_eq z

/-- A convolved column: the shift, the three kept rows and the token's. -/
def conv (b w0 w1 w2 w3 s0 s1 s2 x : EReal) : EReal := b + s0 * w0 + s1 * w1 + s2 * w2 + x * w3

/-- A key column. -/
def key (z : EReal) : EReal := z * gate z * keyScale

/-- The logarithm of the logistic function, as the kernel writes it. -/
def logGate (z : EReal) : EReal :=
  min z zero - ln * (Ideal.log (one + Ideal.exp2 (max z (-z) * slope)) * invLn)

/-- The stabilising exponent. -/
def top (f i mOld : EReal) : EReal := max (logGate f + mOld) i
/-- The token's weight. -/
def weight (f i mOld : EReal) : EReal := Ideal.exp (i - top f i mOld)
/-- The old state's weight. -/
def decay (f i mOld : EReal) : EReal := Ideal.exp (logGate f + mOld - top f i mOld)

theorem pay7_apply (b : Vec Ideal S1x256 .f32) (s0 : Vec Ideal S16x256 .f32) (w0 : Vec Ideal S1x256 .f32) (s1 : Vec Ideal S16x256 .f32)
    (w1 : Vec Ideal S1x256 .f32) (i : S16x256.Idx) :
    k0_pay10 (F := Ideal) b s0 w0 s1 w1 i = b (ix2 0 (i 1)) + s0 i * w0 (ix2 0 (i 1)) + s1 i * w1 (ix2 0 (i 1)) := by
  pointwise [k0_pay10]

theorem pay11_apply (x : Vec Ideal S16x256 .f32) (i : S16x256.Idx) : k0_pay11 (F := Ideal) x i = x i := by
  pointwise [k0_pay11]

theorem pay12_apply (a s2 : FVec Ideal S16x256 .f32) (w2 : Vec Ideal S1x256 .f32) (x : Vec Ideal S16x256 .f32)
    (w3 : Vec Ideal S1x256 .f32) (i : S16x256.Idx) :
    k0_pay12 (F := Ideal) a s2 w2 x w3 i = key (a i + s2 i * w2 (ix2 0 (i 1)) + x i * w3 (ix2 0 (i 1))) := by
  unfold key gate
  rw [← exp2_eq]
  pointwise [k0_pay12]
  rfl

theorem pay13_apply (g : Vec Ideal S16x128 .f32) (b : Vec Ideal S1x128 .f32) (i : S16x128.Idx) :
    k0_pay13 (F := Ideal) g b i = g i + b (ix2 0 (i 1)) := by
  pointwise [k0_pay13]

theorem pay20_apply (x : Vec Ideal S16x1x1x256 .f32) (r : Fin 16) (d : Fin 256) :
    k0_pay20 (F := Ideal) x (ix2 r d) = x (ix4 r 0 0 d) := by
  pointwise [k0_pay20]

theorem pay25_apply (k : FVec Ideal S16x256 .f32) (w : FVec Ideal S16x1 .f32) (i : S16x256.Idx) :
    k0_pay25 (F := Ideal) k w i = k i * w (ix2 (i 0) 0) := by
  pointwise [k0_pay25]

theorem pay26_apply (k : FVec Ideal S16x256 .f32) (w dec : FVec Ideal S16x1 .f32) (n : FVec Ideal S16x256 .f32) (r : Fin 16) (d : Fin 256) :
    k0_pay26 (F := Ideal) k w dec n (ix4 r 0 0 d) = dec (ix2 r 0) * n (ix2 r d) + k (ix2 r d) * w (ix2 r 0) := by
  pointwise [k0_pay26, k0_pay25]

theorem pay27_apply (mt : FVec Ideal S16x1 .f32) (i : S16x128.Idx) : k0_pay27 (F := Ideal) mt i = mt (ix2 (i 0) 0) := by
  pointwise [k0_pay27]

/-- A sum masked to one place. -/
theorem sum_select (n : ℕ) (hn : n ≤ 2 ^ 32) (a : Fin n) (f : Fin n → EReal) :
    ∑ x : Fin n, Scalar.select (IntOp.cmpi .eq (BitVec.ofNat 32 x.val) (BitVec.ofNat 32 a.val)) (f x) 0 = f a := by
  rw [Finset.sum_eq_single a]
  · simp [Scalar.select, IntOp.cmpi]
  · intro b _ hb
    have : BitVec.ofNat 32 b.val ≠ BitVec.ofNat 32 a.val := by
      intro e
      have e' := congrArg BitVec.toNat e
      simp only [BitVec.toNat_ofNat] at e'
      rw [Nat.mod_eq_of_lt (by omega), Nat.mod_eq_of_lt (by omega)] at e'
      exact hb (Fin.ext e')
    have hq : (BitVec.ofNat 32 b.val == BitVec.ofNat 32 a.val) = false := beq_false_of_ne this
    simp [Scalar.select, IntOp.cmpi, hq]
  · simp

/-- The lane of a head's input gate. -/
def laneI (h : Fin 4) : Fin 128 := ⟨h.val, by omega⟩
/-- The lane of a head's forget gate. -/
def laneF (h : Fin 4) : Fin 128 := ⟨4 + h.val, by omega⟩

theorem pay14_apply (h : Fin 4) (g : Vec Ideal S16x128 .f32) (b : Vec Ideal S1x128 .f32) (r : Fin 16) :
    k0_pay14 (F := Ideal) (BitVec.ofNat 32 h.val) g b (ix2 r 0) = g (ix2 r (laneI h)) + b (ix2 0 (laneI h)) := by
  have e : Scalar.addi 0#32 (BitVec.ofNat 32 h.val) = BitVec.ofNat 32 (laneI h).val := by
    fin_cases h <;> rfl
  pointwise [k0_pay14, k0_pay13]
  rw [e]
  exact sum_select 128 (by norm_num) (laneI h) fun x => g (ix2 r x) + b (ix2 0 x)

theorem pay15_sum (h : Fin 4) (g : Vec Ideal S16x128 .f32) (b : Vec Ideal S1x128 .f32) (r : Fin 16) :
    ∑ k : Fin 128, k0_pay15 (F := Ideal) (BitVec.ofNat 32 h.val) g b (ix2 r k) = g (ix2 r (laneF h)) + b (ix2 0 (laneF h)) := by
  have e : Scalar.addi 4#32 (BitVec.ofNat 32 h.val) = BitVec.ofNat 32 (laneF h).val := by
    fin_cases h <;> rfl
  pointwise [k0_pay15, k0_pay13]
  rw [e]
  exact sum_select 128 (by norm_num) (laneF h) fun x => g (ix2 r x) + b (ix2 0 x)

theorem pay16_apply (h : Fin 4) (v : FVec Ideal S16x128 .f32) (mm : Vec Ideal S16x4 .f32) (r : Fin 16) :
    k0_pay16 (F := Ideal) (BitVec.ofNat 32 h.val) v mm (ix2 r 0) = logGate (∑ k : Fin 128, v (ix2 r k)) + mm (ix2 r h) := by
  have e := sum_select 4 (by norm_num) h fun x => mm (ix2 r x)
  unfold logGate
  pointwise [k0_pay16]
  rw [e]
  rfl

/-- The forget gate's and the input gate's lanes of a row of the gate columns, shifted. -/
def gateF (h : Fin 4) (g : Vec Ideal S16x128 .f32) (b : Vec Ideal S1x128 .f32) (r : Fin 16) : EReal :=
  g (ix2 r (laneF h)) + b (ix2 0 (laneF h))
def gateI (h : Fin 4) (g : Vec Ideal S16x128 .f32) (b : Vec Ideal S1x128 .f32) (r : Fin 16) : EReal :=
  g (ix2 r (laneI h)) + b (ix2 0 (laneI h))

section rows
variable (h : Fin 4) (g : Vec Ideal S16x128 .f32) (b : Vec Ideal S1x128 .f32) (mm : Vec Ideal S16x4 .f32) (r : Fin 16)

theorem pay17_apply : k0_pay17 (F := Ideal) (BitVec.ofNat 32 h.val) (k0_pay14 (BitVec.ofNat 32 h.val) g b) (k0_pay15 (BitVec.ofNat 32 h.val) g b) mm (ix2 r 0)
    = top (gateF h g b r) (gateI h g b r) (mm (ix2 r h)) := by
  have e16 := pay16_apply h (k0_pay15 (BitVec.ofNat 32 h.val) g b) mm r
  have e14 := pay14_apply h g b r
  rw [pay15_sum] at e16
  unfold top gateF gateI
  pointwise [k0_pay17]
  rw [e16, e14]

theorem pay18_apply : k0_pay18 (F := Ideal) (BitVec.ofNat 32 h.val) (k0_pay14 (BitVec.ofNat 32 h.val) g b) (k0_pay15 (BitVec.ofNat 32 h.val) g b) mm (ix2 r 0)
    = weight (gateF h g b r) (gateI h g b r) (mm (ix2 r h)) := by
  have e17 := pay17_apply h g b mm r
  have e14 := pay14_apply h g b r
  unfold weight
  pointwise [k0_pay18]
  rw [e17, e14]
  rfl

theorem pay19_apply : k0_pay19 (F := Ideal) (BitVec.ofNat 32 h.val) (k0_pay14 (BitVec.ofNat 32 h.val) g b) (k0_pay15 (BitVec.ofNat 32 h.val) g b) mm (ix2 r 0)
    = decay (gateF h g b r) (gateI h g b r) (mm (ix2 r h)) := by
  have e16 := pay16_apply h (k0_pay15 (BitVec.ofNat 32 h.val) g b) mm r
  have e17 := pay17_apply h g b mm r
  rw [pay15_sum] at e16
  unfold decay
  pointwise [k0_pay19]
  rw [e16, e17]
  rfl

end rows

end Cert.Kernel3Ideal.Whole

end
-- ==== Proof.StepArrays.lean ====
module

public import proofs.«01_k».proof.Proof.StepBlocks
public import proofs.«01_k».proof.Proof.StepMath

/-! # The arrays the first branch's call is handed

The host reshapes the arguments and lays the two gates' shifts side by side; here is which argument's entry each entry of
those arrays is. -/

@[expose] public section

set_option maxRecDepth 16384

noncomputable section

namespace Cert.Kernel3Ideal.Whole

open Idealize.ShloMosaic Idealize.ShloMosaic.TcCoe Idealize.SL.Sem Idealize.ShloMosaic.StableHlo
open Cert.Kernel3Ideal Cert.Kernel3Ideal.Gen

variable (m : (ℓ : Loc nD τ sig) → Buf (Elt Ideal) ℓ) (c : Dev nD)

theorem V_v0 : V m c main_v0 = shapeCast S4x2048 (m ((c : Thread nD τ).loc main_arg6)) shapeCasts_S1x4x2048_S4x2048 := by
  first | (after_results_simp; rfl) | rfl
theorem V_v2 : V m c main_v2 = broadcastInDim S1x2048 ![1] bcast_S2048_S1x2048_1
    (shapeCast S2048 (m ((c : Thread nD τ).loc main_arg7)) shapeCasts_S1x2048_S2048) := by
  first | (after_results_simp; rfl) | rfl
theorem V_v7 : V m c main_v7 = broadcastInDim S1x128 ![1] bcast_S128_S1x128_1
    (concatenate S128 0 [⟨S4, shapeCast S4 (m ((c : Thread nD τ).loc main_arg8)) shapeCasts_S1x4_S4⟩,
      ⟨S4, shapeCast S4 (m ((c : Thread nD τ).loc main_arg9)) shapeCasts_S1x4_S4⟩,
      ⟨S120, broadcastInDim S120 ![] bcast_S_S120 (constant (F := Ideal) S_ .f32 0x00000000#32)⟩] concatenates_S4_S4_S120_S128_d0) := by
  first | (after_results_simp; rfl) | rfl
theorem V_v10 : V m c main_v10 = shapeCast S128x6144 (m ((c : Thread nD τ).loc main_arg2)) shapeCasts_S1x128x3x2048_S128x6144 := by
  first | (after_results_simp; rfl) | rfl
theorem V_v11 : V m c main_v11 = shapeCast S128x4x256x256 (m ((c : Thread nD τ).loc main_arg3)) shapeCasts_S1x128x4x256x256_S128x4x256x256 := by
  first | (after_results_simp; rfl) | rfl
theorem V_v12 : V m c main_v12 = shapeCast S128x4x1x256 (m ((c : Thread nD τ).loc main_arg4)) shapeCasts_S1x128x4x256_S128x4x1x256 := by
  first | (after_results_simp; rfl) | rfl
theorem V_v13 : V m c main_v13 = shapeCast S128x4 (m ((c : Thread nD τ).loc main_arg5)) shapeCasts_S1x128x4_S128x4 := by
  first | (after_results_simp; rfl) | rfl

theorem at_v0 (r : Fin 4) (b : Fin 2048) : V m c main_v0 (ix2 r b) = m ((c : Thread nD τ).loc main_arg6) (ix3 0 r b : S1x4x2048.Idx) := by
  rw [V_v0]
  exact shapeCast_apply _ _ _ (ix3 0 r b) (by
    rw [Shape.rowMajor_val_three, Shape.rowMajor_val_two]
    show (0 * 4 + (r : ℕ)) * 2048 + (b : ℕ) = (r : ℕ) * 2048 + (b : ℕ); omega)

theorem at_v2 (b : Fin 2048) : V m c main_v2 (ix2 0 b) = m ((c : Thread nD τ).loc main_arg7) (ix2 0 b : S1x2048.Idx) := by
  rw [V_v2, broadcastInDim_apply _ _ _ _ (ix1 b) (fun a => by match a with | ⟨0, _⟩ => rfl)]
  exact shapeCast_apply _ _ _ (ix2 0 b) (by
    rw [Shape.rowMajor_val_two, Shape.rowMajor_val_one]
    show 0 * 2048 + (b : ℕ) = (b : ℕ); omega)

theorem at_v10 (n : Fin 128) (s : Fin 3) (b : Fin 2048) (k : Fin 6144) (hk : k.val = s.val * 2048 + b.val) :
    V m c main_v10 (ix2 n k) = m ((c : Thread nD τ).loc main_arg2) (ix4 0 n s b : S1x128x3x2048.Idx) := by
  rw [V_v10]
  exact shapeCast_apply _ _ _ (ix4 0 n s b) (by
    rw [Shape.rowMajor_val_four, Shape.rowMajor_val_two]
    show ((0 * 128 + (n : ℕ)) * 3 + (s : ℕ)) * 2048 + (b : ℕ) = (n : ℕ) * 6144 + (k : ℕ); omega)

theorem at_v11 (n : Fin 128) (h : Fin 4) (d e : Fin 256) :
    V m c main_v11 (ix4 n h d e) = m ((c : Thread nD τ).loc main_arg3) (ix5 0 n h d e : S1x128x4x256x256.Idx) := by
  rw [V_v11]
  exact shapeCast_apply _ _ _ (ix5 0 n h d e) (by
    rw [Shape.rowMajor_val_five, Shape.rowMajor_val_four]
    show (((0 * 128 + (n : ℕ)) * 4 + (h : ℕ)) * 256 + (d : ℕ)) * 256 + (e : ℕ) = (((n : ℕ) * 4 + (h : ℕ)) * 256 + (d : ℕ)) * 256 + (e : ℕ); omega)

theorem at_v12 (n : Fin 128) (h : Fin 4) (d : Fin 256) :
    V m c main_v12 (ix4 n h 0 d) = m ((c : Thread nD τ).loc main_arg4) (ix4 0 n h d : S1x128x4x256.Idx) := by
  rw [V_v12]
  exact shapeCast_apply _ _ _ (ix4 0 n h d) (by
    rw [Shape.rowMajor_val_four, Shape.rowMajor_val_four]
    show ((0 * 128 + (n : ℕ)) * 4 + (h : ℕ)) * 256 + (d : ℕ) = (((n : ℕ) * 4 + (h : ℕ)) * 1 + 0) * 256 + (d : ℕ); omega)

theorem at_v13 (n : Fin 128) (h : Fin 4) : V m c main_v13 (ix2 n h) = m ((c : Thread nD τ).loc main_arg5) (ix3 0 n h : S1x128x4.Idx) := by
  rw [V_v13]
  exact shapeCast_apply _ _ _ (ix3 0 n h) (by
    rw [Shape.rowMajor_val_three, Shape.rowMajor_val_two]
    show (0 * 128 + (n : ℕ)) * 4 + (h : ℕ) = (n : ℕ) * 4 + (h : ℕ); omega)

theorem shift_entry (x : FVec Ideal S1x4 .f32) (h : Fin 4) : shapeCast S4 x shapeCasts_S1x4_S4 (ix1 h) = x (ix2 0 h) :=
  shapeCast_apply _ _ _ (ix2 0 h) (by
    rw [Shape.rowMajor_val_two, Shape.rowMajor_val_one]
    show 0 * 4 + (h : ℕ) = (h : ℕ); omega)

theorem at_v7_i (h : Fin 4) : V m c main_v7 (ix2 0 (laneI h)) = m ((c : Thread nD τ).loc main_arg8) (ix2 0 h : S1x4.Idx) := by
  rw [V_v7, broadcastInDim_apply _ _ _ _ (ix1 (laneI h)) (fun a => by match a with | ⟨0, _⟩ => rfl)]
  refine Eq.trans ?_ (shift_entry _ h)
  fin_cases h <;> rfl

theorem at_v7_f (h : Fin 4) : V m c main_v7 (ix2 0 (laneF h)) = m ((c : Thread nD τ).loc main_arg9) (ix2 0 h : S1x4.Idx) := by
  rw [V_v7, broadcastInDim_apply _ _ _ _ (ix1 (laneF h)) (fun a => by match a with | ⟨0, _⟩ => rfl)]
  refine Eq.trans ?_ (shift_entry _ h)
  fin_cases h <;> rfl

end Cert.Kernel3Ideal.Whole

end
-- ==== Proof.StepTail.lean ====
module

public import proofs.«01_k».proof.Proof.StepArrays

/-! # The results the host makes of the call's

After the call the host reshapes the new state; of the exponents, which the call writes once in each of a head's 128
lanes, it keeps the first lane. -/

@[expose] public section

set_option maxRecDepth 16384

noncomputable section

namespace Cert.Kernel3Ideal.Whole

open Idealize.ShloMosaic Idealize.ShloMosaic.TcCoe Idealize.SL Idealize.SL.RA Idealize.SL.Sem Idealize.ShloMosaic.StableHlo
open Idealize.ShloMosaic.Pipeline (Dat)
open Cert.Kernel3Ideal Cert.Kernel3Ideal.Gen

variable (m : (ℓ : Loc nD τ sig) → Buf (Elt Ideal) ℓ) (c : Dev nD)
  (dats : (p : Fin _) → (c : Dev nD) → Dat τ (Elt Ideal) Unit ℕ (UR sig nD τ) ℕ (cfgs p) c)
  (hA : ∀ w, (dats 0 c).A w = V0 m c (Proc.devRef .tc (Pipeline.arrRef spec0 w)))

include hA

theorem exit_33 : Pipeline.withArrays spec0 c (V0 m c) (fun w => (dats 0 c).arrAt w cfg0.N) (Proc.devRef .tc main_v14_5) = (dats 0 c).arrAt 33 cfg0.N :=
  Dat.withArrays_arrAt (dats 0 c) sharedIn0 (V0 m c) hA 33
theorem exit_34 : Pipeline.withArrays spec0 c (V0 m c) (fun w => (dats 0 c).arrAt w cfg0.N) (Proc.devRef .tc main_v14_6) = (dats 0 c).arrAt 34 cfg0.N :=
  Dat.withArrays_arrAt (dats 0 c) sharedIn0 (V0 m c) hA 34
theorem exit_35 : Pipeline.withArrays spec0 c (V0 m c) (fun w => (dats 0 c).arrAt w cfg0.N) (Proc.devRef .tc main_v14_7) = (dats 0 c).arrAt 35 cfg0.N :=
  Dat.withArrays_arrAt (dats 0 c) sharedIn0 (V0 m c) hA 35

theorem tail_C : Pipeline.afterTail₀ cfgs dats 0 (V0 m) [hostOps1] c main_v15
    = shapeCast S1x128x4x256x256 (dats 0 c |>.arrAt 33 cfg0.N) shapeCasts_S128x4x256x256_S1x128x4x256x256 := by
  rw [← exit_33 m c dats hA]
  unfold Pipeline.afterTail₀
  after_results_simp
  rfl

theorem tail_n : Pipeline.afterTail₀ cfgs dats 0 (V0 m) [hostOps1] c main_v16
    = shapeCast S1x128x4x256 (dats 0 c |>.arrAt 34 cfg0.N) shapeCasts_S128x4x1x256_S1x128x4x256 := by
  rw [← exit_34 m c dats hA]
  unfold Pipeline.afterTail₀
  after_results_simp
  rfl

theorem tail_m : Pipeline.afterTail₀ cfgs dats 0 (V0 m) [hostOps1] c main_v20
    = shapeCast S1x128x4 (shapeCast S128x4 (extractStridedSlice S128x4x1 ![0, 0, 0]
        (shapeCast S128x4x128 (dats 0 c |>.arrAt 35 cfg0.N) shapeCasts_S128x512_S128x4x128)
        slices_S128x4x128_S128x4x1_0_0_0) shapeCasts_S128x4x1_S128x4) shapeCasts_S128x4_S1x128x4 := by
  rw [← exit_35 m c dats hA]
  unfold Pipeline.afterTail₀
  after_results_simp
  rfl

omit hA

theorem cast_C (x : FVec Ideal S128x4x256x256 .f32) (n : Fin 128) (h : Fin 4) (d e : Fin 256) :
    shapeCast S1x128x4x256x256 x shapeCasts_S128x4x256x256_S1x128x4x256x256 (ix5 0 n h d e) = x (ix4 n h d e) :=
  shapeCast_apply _ _ _ (ix4 n h d e) (by
    rw [Shape.rowMajor_val_five, Shape.rowMajor_val_four]
    show (((n : ℕ) * 4 + (h : ℕ)) * 256 + (d : ℕ)) * 256 + (e : ℕ) = (((0 * 128 + (n : ℕ)) * 4 + (h : ℕ)) * 256 + (d : ℕ)) * 256 + (e : ℕ); omega)

theorem cast_n (x : FVec Ideal S128x4x1x256 .f32) (n : Fin 128) (h : Fin 4) (d : Fin 256) :
    shapeCast S1x128x4x256 x shapeCasts_S128x4x1x256_S1x128x4x256 (ix4 0 n h d) = x (ix4 n h 0 d) :=
  shapeCast_apply _ _ _ (ix4 n h 0 d) (by
    rw [Shape.rowMajor_val_four, Shape.rowMajor_val_four]
    show (((n : ℕ) * 4 + (h : ℕ)) * 1 + 0) * 256 + (d : ℕ) = ((0 * 128 + (n : ℕ)) * 4 + (h : ℕ)) * 256 + (d : ℕ); omega)

/-- The first of a head's lanes. -/
def firstLane (h : Fin 4) : Fin 512 := ⟨h.val * 128, by omega⟩

theorem cast_m (x : FVec Ideal S128x512 .f32) (n : Fin 128) (h : Fin 4) :
    shapeCast S1x128x4 (shapeCast S128x4 (extractStridedSlice S128x4x1 ![0, 0, 0]
        (shapeCast S128x4x128 x shapeCasts_S128x512_S128x4x128)
        slices_S128x4x128_S128x4x1_0_0_0) shapeCasts_S128x4x1_S128x4) shapeCasts_S128x4_S1x128x4 (ix3 0 n h) = x (ix2 n (firstLane h)) := by
  rw [shapeCast_apply _ _ _ (ix2 n h) (by
      rw [Shape.rowMajor_val_two, Shape.rowMajor_val_three]
      show (n : ℕ) * 4 + (h : ℕ) = (0 * 128 + (n : ℕ)) * 4 + (h : ℕ); omega),
    shapeCast_apply _ _ _ (ix3 n h 0) (by
      rw [Shape.rowMajor_val_three, Shape.rowMajor_val_two]
      show ((n : ℕ) * 4 + (h : ℕ)) * 1 + 0 = (n : ℕ) * 4 + (h : ℕ); omega)]
  have e : extractStridedSlice S128x4x1 ![0, 0, 0] (shapeCast S128x4x128 x shapeCasts_S128x512_S128x4x128)
      slices_S128x4x128_S128x4x1_0_0_0 (ix3 n h 0) = shapeCast S128x4x128 x shapeCasts_S128x512_S128x4x128 (ix3 n h 0) := by
    pointwise []
  rw [e]
  exact shapeCast_apply _ _ _ (ix2 n (firstLane h)) (by
    rw [Shape.rowMajor_val_two, Shape.rowMajor_val_three]
    show (n : ℕ) * 512 + (h : ℕ) * 128 = ((n : ℕ) * 4 + (h : ℕ)) * 128 + 0; omega)

end Cert.Kernel3Ideal.Whole

end
-- ==== Proof.StepPieces.lean ====
module

public import proofs.«01_k».proof.Proof.StepMath

/-! # The sixteen matrices a point of the first branch's call stores

Each sample's new matrix is the old one by its decay and the product of its weighted key with its value: of the sixteen
rows all but the sample's own are masked out of the product. -/

@[expose] public section

set_option maxRecDepth 16384

noncomputable section

namespace Cert.Kernel3Ideal.Whole

open Idealize.ShloMosaic Idealize.ShloMosaic.TcCoe
open Cert.Kernel3Ideal Cert.Kernel3Ideal.Gen

/-- The rows' numbers. -/
abbrev row16 : IVec S16x1 32 := iota .tc S16x1 32 [0] iota_S16x1_d0_w32

variable (dec w : FVec Ideal S16x1 .f32) (k : FVec Ideal S16x256 .f32) (v : Vec Ideal S16x256 .f32) (o : Vec Ideal S1x1x256x256 .f32) (d e : Fin 256)

/-- A sample's new entry. -/
abbrev grown (r : Fin 16) : EReal := dec (ix2 r 0) * o (ix4 0 0 d e) + k (ix2 r d) * w (ix2 r 0) * v (ix2 r e)

/-- The masked product. -/
theorem one_row (r : Fin 16) :
    ∑ x : Fin 16, Scalar.select (IntOp.cmpi .eq (BitVec.ofNat 32 x.val) (BitVec.ofNat 32 r.val)) (k (ix2 x d) * w (ix2 x 0)) 0 * v (ix2 x e)
      = k (ix2 r d) * w (ix2 r 0) * v (ix2 r e) := by
  rw [← sum_select 16 (by norm_num) r fun x => k (ix2 x d) * w (ix2 x 0) * v (ix2 x e)]
  refine Finset.sum_congr rfl fun x _ => ?_
  by_cases hx : IntOp.cmpi .eq (BitVec.ofNat 32 x.val) (BitVec.ofNat 32 r.val) = 1#1
  · simp [Scalar.select, hx]
  · simp [Scalar.select, hx]

theorem piece_0 : k0_pay34 (F := Ideal) dec (k0_pay31 o) (k0_pay33 k v w) (ix4 0 0 d e) = grown dec w k v o d e 0 := by
  have s := one_row w k v d e 0
  have s' := sum_select 16 (by norm_num) 0 fun x => k (ix2 x d) * w (ix2 x 0) * v (ix2 x e)
  pointwise [k0_pay34, k0_pay31, k0_pay33, k0_pay29, k0_pay25, k0_pay30]
  first | exact congrArg _ s | exact congrArg _ s' | done

theorem piece_1 : k0_pay37 (F := Ideal) dec row16 (k0_pay29 k w) (k0_pay30 v) o (ix4 0 0 d e) = grown dec w k v o d e 1 := by
  have s := one_row w k v d e 1
  have s' := sum_select 16 (by norm_num) 1 fun x => k (ix2 x d) * w (ix2 x 0) * v (ix2 x e)
  pointwise [k0_pay37, k0_pay35, k0_pay29, k0_pay25, k0_pay30]
  first | exact congrArg _ s | exact congrArg _ s' | done

theorem piece_2 : k0_pay40 (F := Ideal) dec row16 (k0_pay29 k w) (k0_pay30 v) o (ix4 0 0 d e) = grown dec w k v o d e 2 := by
  have s := one_row w k v d e 2
  have s' := sum_select 16 (by norm_num) 2 fun x => k (ix2 x d) * w (ix2 x 0) * v (ix2 x e)
  pointwise [k0_pay40, k0_pay38, k0_pay29, k0_pay25, k0_pay30]
  first | exact congrArg _ s | exact congrArg _ s' | done

theorem piece_3 : k0_pay43 (F := Ideal) dec row16 (k0_pay29 k w) (k0_pay30 v) (k0_pay41 o) 3#32 (ix4 0 0 d e) = grown dec w k v o d e 3 := by
  have s := one_row w k v d e 3
  have s' := sum_select 16 (by norm_num) 3 fun x => k (ix2 x d) * w (ix2 x 0) * v (ix2 x e)
  pointwise [k0_pay43, k0_pay41, k0_pay29, k0_pay25, k0_pay30]
  first | exact congrArg _ s | exact congrArg _ s' | done

theorem piece_4 : k0_pay47 (F := Ideal) (k0_pay46 dec row16 (k0_pay29 k w) (k0_pay30 v) o) (ix4 0 0 d e) = grown dec w k v o d e 4 := by
  have s := one_row w k v d e 4
  have s' := sum_select 16 (by norm_num) 4 fun x => k (ix2 x d) * w (ix2 x 0) * v (ix2 x e)
  pointwise [k0_pay47, k0_pay46, k0_pay44, k0_pay29, k0_pay25, k0_pay30]
  first | exact congrArg _ s | exact congrArg _ s' | done

theorem piece_5 : k0_pay50 (F := Ideal) dec row16 (k0_pay29 k w) (k0_pay30 v) o (ix4 0 0 d e) = grown dec w k v o d e 5 := by
  have s := one_row w k v d e 5
  have s' := sum_select 16 (by norm_num) 5 fun x => k (ix2 x d) * w (ix2 x 0) * v (ix2 x e)
  pointwise [k0_pay50, k0_pay48, k0_pay29, k0_pay25, k0_pay30]
  first | exact congrArg _ s | exact congrArg _ s' | done

theorem piece_6 : k0_pay54 (F := Ideal) dec row16 (k0_pay29 k w) (k0_pay30 v) (k0_pay51 o) (ix4 0 0 d e) = grown dec w k v o d e 6 := by
  have s := one_row w k v d e 6
  have s' := sum_select 16 (by norm_num) 6 fun x => k (ix2 x d) * w (ix2 x 0) * v (ix2 x e)
  pointwise [k0_pay54, k0_pay51, k0_pay29, k0_pay25, k0_pay30]
  first | exact congrArg _ s | exact congrArg _ s' | done

theorem piece_7 : k0_pay58 (F := Ideal) dec (k0_pay30 v) (k0_pay55 o) (k0_pay57 row16 (k0_pay29 k w)) (constant S256x256 .f32 0x00000000#32) (ix4 0 0 d e) = grown dec w k v o d e 7 := by
  have s := one_row w k v d e 7
  have s' := sum_select 16 (by norm_num) 7 fun x => k (ix2 x d) * w (ix2 x 0) * v (ix2 x e)
  pointwise [k0_pay58, k0_pay57, k0_pay55, k0_pay29, k0_pay25, k0_pay30]
  first | exact congrArg _ s | exact congrArg _ s' | done

theorem piece_8 : k0_pay61 (F := Ideal) dec row16 (k0_pay29 k w) (k0_pay30 v) o (ix4 0 0 d e) = grown dec w k v o d e 8 := by
  have s := one_row w k v d e 8
  have s' := sum_select 16 (by norm_num) 8 fun x => k (ix2 x d) * w (ix2 x 0) * v (ix2 x e)
  pointwise [k0_pay61, k0_pay59, k0_pay29, k0_pay25, k0_pay30]
  first | exact congrArg _ s | exact congrArg _ s' | done

theorem piece_9 : k0_pay64 (F := Ideal) dec row16 (k0_pay29 k w) (k0_pay30 v) o (ix4 0 0 d e) = grown dec w k v o d e 9 := by
  have s := one_row w k v d e 9
  have s' := sum_select 16 (by norm_num) 9 fun x => k (ix2 x d) * w (ix2 x 0) * v (ix2 x e)
  pointwise [k0_pay64, k0_pay62, k0_pay29, k0_pay25, k0_pay30]
  first | exact congrArg _ s | exact congrArg _ s' | done

theorem piece_10 : k0_pay67 (F := Ideal) dec row16 (k0_pay29 k w) (k0_pay30 v) (k0_pay65 o) (ix4 0 0 d e) = grown dec w k v o d e 10 := by
  have s := one_row w k v d e 10
  have s' := sum_select 16 (by norm_num) 10 fun x => k (ix2 x d) * w (ix2 x 0) * v (ix2 x e)
  pointwise [k0_pay67, k0_pay65, k0_pay29, k0_pay25, k0_pay30]
  first | exact congrArg _ s | exact congrArg _ s' | done

theorem piece_11 : k0_pay71 (F := Ideal) (k0_pay70 dec row16 (k0_pay29 k w) (k0_pay30 v) o) (ix4 0 0 d e) = grown dec w k v o d e 11 := by
  have s := one_row w k v d e 11
  have s' := sum_select 16 (by norm_num) 11 fun x => k (ix2 x d) * w (ix2 x 0) * v (ix2 x e)
  pointwise [k0_pay71, k0_pay70, k0_pay68, k0_pay29, k0_pay25, k0_pay30]
  first | exact congrArg _ s | exact congrArg _ s' | done

theorem piece_12 : k0_pay74 (F := Ideal) dec row16 (k0_pay29 k w) (k0_pay30 v) o (ix4 0 0 d e) = grown dec w k v o d e 12 := by
  have s := one_row w k v d e 12
  have s' := sum_select 16 (by norm_num) 12 fun x => k (ix2 x d) * w (ix2 x 0) * v (ix2 x e)
  pointwise [k0_pay74, k0_pay72, k0_pay29, k0_pay25, k0_pay30]
  first | exact congrArg _ s | exact congrArg _ s' | done

theorem piece_13 : k0_pay79 (F := Ideal) dec row16 (k0_pay29 k w) (k0_pay30 v) (k0_pay75 o) (ix4 0 0 d e) = grown dec w k v o d e 13 := by
  have s := one_row w k v d e 13
  have s' := sum_select 16 (by norm_num) 13 fun x => k (ix2 x d) * w (ix2 x 0) * v (ix2 x e)
  pointwise [k0_pay79, k0_pay75, k0_pay29, k0_pay25, k0_pay30]
  first | exact congrArg _ s | exact congrArg _ s' | done

theorem piece_14 : k0_pay83 (F := Ideal) dec (k0_pay30 v) (k0_pay80 o) (k0_pay82 row16 (k0_pay29 k w)) (ix4 0 0 d e) = grown dec w k v o d e 14 := by
  have s := one_row w k v d e 14
  have s' := sum_select 16 (by norm_num) 14 fun x => k (ix2 x d) * w (ix2 x 0) * v (ix2 x e)
  pointwise [k0_pay83, k0_pay82, k0_pay80, k0_pay29, k0_pay25, k0_pay30]
  first | exact congrArg _ s | exact congrArg _ s' | done

theorem piece_15 : k0_pay85 (F := Ideal) dec row16 (k0_pay29 k w) (k0_pay30 v) o (ix4 0 0 d e) = grown dec w k v o d e 15 := by
  have s := one_row w k v d e 15
  have s' := sum_select 16 (by norm_num) 15 fun x => k (ix2 x d) * w (ix2 x 0) * v (ix2 x e)
  pointwise [k0_pay85, k0_pay84, k0_pay29, k0_pay25, k0_pay30]
  first | exact congrArg _ s | exact congrArg _ s' | done

end Cert.Kernel3Ideal.Whole

end
-- ==== Proof.StepRef.lean ====
module

public import proofs.«01_k».proof.Proof.Gen.Reference3Ideal.Run
public import proofs.«01_k».proof.Proof.Gen.Reference3Ideal.Read
public import proofs.«01_k».proof.Proof.StepMath
public import Idealize.ShloMosaic.Lib.Pipeline.Value

/-! # The reference of the step program, entry by entry

The reference's three results, read through its operations one after the other: every entry is the formula of
`Proof/StepMath.lean` at the entries of the arguments. -/

@[expose] public section

set_option maxRecDepth 16384

noncomputable section

namespace Cert.Reference3Ideal.Whole

open Idealize.ShloMosaic Idealize.ShloMosaic.TcCoe Idealize.SL.Sem
open Cert.Reference3Ideal Cert.Reference3Ideal.Value Cert.Reference3Ideal.Read Cert.Reference3Ideal.Gen
open Cert.Kernel3Ideal.Whole (conv key logGate top weight decay zero keyScale)
open Cert.Kernel2Ideal.Whole (one gate)

/-- The column of a head's input gate, of its forget gate, and of an entry of its value; the column of a key. -/
def colI (h : Fin 4) : Fin 12544 := ⟨12288 + h.val, by omega⟩
def colF (h : Fin 4) : Fin 12544 := ⟨12292 + h.val, by omega⟩
def colV (h : Fin 4) (e : Fin 256) : Fin 12544 := ⟨3072 + h.val * 256 + e.val, by omega⟩
def colK (h : Fin 4) (d : Fin 256) : Fin 12544 := ⟨1024 + h.val * 256 + d.val, by omega⟩
/-- The convolution's channel of a key. -/
def chan (h : Fin 4) (d : Fin 256) : Fin 2048 := ⟨1024 + h.val * 256 + d.val, by omega⟩

variable (x1 : FVec Ideal S128x12544 .f32) (x2 : FVec Ideal S1x128x3x2048 .f32) (x3 : FVec Ideal S1x128x4x256x256 .f32)
  (x4 : FVec Ideal S1x128x4x256 .f32) (x5 : FVec Ideal S1x128x4 .f32) (x6 : FVec Ideal S1x4x2048 .f32) (x7 : FVec Ideal S1x2048 .f32)
  (x8 x9 : FVec Ideal S1x4 .f32)

theorem kept_R (n : Fin 128) (k : Fin 2048) (s : Fin 3) (j : S128x4x2048.Idx) (h0 : (j 0).val = n.val) (h1 : (j 1).val = s.val) (h2 : (j 2).val = k.val) :
    val_main_v6 (F := Ideal) x1 x2 j = x2 (ix4 0 n s k) := by
  unfold val_main_v6
  rw [concatenate_pair_apply_left (t := S128x4x2048) (s₁ := S128x3x2048) (s₂ := S128x1x2048) 1 _ _ _ j rfl (ix3 n s k) (fun b => by
    match b with
    | ⟨0, _⟩ => exact h0.symm
    | ⟨1, _⟩ => exact h1.symm
    | ⟨2, _⟩ => exact h2.symm), val_main_v5_apply]
  have hk := k.isLt
  have hs := s.isLt
  refine congrArg x2 (funext fun b => ?_)
  match b with
  | ⟨0, _⟩ => rfl
  | ⟨1, _⟩ => exact Fin.ext (by show ((n.val * 3 + s.val) * 2048 + k.val) / 6144 % 128 = n.val; omega)
  | ⟨2, _⟩ => exact Fin.ext (by show ((n.val * 3 + s.val) * 2048 + k.val) / 2048 % 3 = s.val; omega)
  | ⟨3, _⟩ => exact Fin.ext (by show ((n.val * 3 + s.val) * 2048 + k.val) % 2048 = k.val; omega)

theorem token_R (n : Fin 128) (k : Fin 2048) (j : S128x4x2048.Idx) (h0 : (j 0).val = n.val) (h1 : (j 1).val = 3) (h2 : (j 2).val = k.val) :
    val_main_v6 (F := Ideal) x1 x2 j = x1 (ix2 n ⟨k.val, by omega⟩) := by
  unfold val_main_v6
  rw [concatenate_pair_apply_right (t := S128x4x2048) (s₁ := S128x3x2048) (s₂ := S128x1x2048) 1 _ _ _ j rfl rfl (ix3 n 0 k) (fun b hb => by
    match b with
    | ⟨0, _⟩ => exact h0.symm
    | ⟨1, _⟩ => exact absurd rfl hb
    | ⟨2, _⟩ => exact h2.symm) (by show 0 + 3 = (j 1).val; omega), val_main_v1_apply, val_main_v0_apply]
  have hk := k.isLt
  refine congrArg x1 (funext fun b => ?_)
  match b with
  | ⟨0, _⟩ => exact Fin.ext (by show ((n.val * 1 + 0) * 12544 + k.val) / 12544 = n.val; omega)
  | ⟨1, _⟩ => exact Fin.ext (by show ((n.val * 1 + 0) * 12544 + k.val) % 12544 = k.val; omega)

/-- The convolution at a channel of a sample. -/
theorem conv_R (n : Fin 128) (k : Fin 2048) (i : S128x1x2048.Idx) (h0 : (i 0).val = n.val) (h2 : (i 2).val = k.val) :
    val_main_v41 (F := Ideal) x1 x2 x6 x7 i
    = conv (x7 (ix2 0 k)) (x6 (ix3 0 0 k)) (x6 (ix3 0 1 k)) (x6 (ix3 0 2 k)) (x6 (ix3 0 3 k))
      (x2 (ix4 0 n 0 k)) (x2 (ix4 0 n 1 k)) (x2 (ix4 0 n 2 k)) (x1 (ix2 n ⟨k.val, by omega⟩)) := by
  have hk := k.isLt
  have h1 : (i 1).val = 0 := by have : (i 1).val < 1 := (i 1).isLt; omega
  rw [val_main_v41_apply, val_main_v40_apply, val_main_v33_apply, val_main_v32_apply, val_main_v25_apply, val_main_v24_apply,
    val_main_v17_apply, val_main_v14_apply, val_main_v8_apply, val_main_v18_apply, val_main_v26_apply, val_main_v34_apply,
    kept_R x1 x2 n k 0 _ h0 (by show (i 1).val = 0; omega) h2, kept_R x1 x2 n k 1 _ h0 (by show 1 + (i 1).val = 1; omega) h2,
    kept_R x1 x2 n k 2 _ h0 (by show 2 + (i 1).val = 2; omega) h2, token_R x1 x2 n k _ h0 (by show 3 + (i 1).val = 3; omega) h2,
    val_main_v16_apply, val_main_v15_apply, val_main_v7_apply,
    val_main_v13_apply, val_main_v12_apply, val_main_v11_apply, val_main_v10_apply, val_main_v9_apply,
    val_main_v23_apply, val_main_v22_apply, val_main_v21_apply, val_main_v20_apply, val_main_v19_apply,
    val_main_v31_apply, val_main_v30_apply, val_main_v29_apply, val_main_v28_apply, val_main_v27_apply,
    val_main_v39_apply, val_main_v38_apply, val_main_v37_apply, val_main_v36_apply, val_main_v35_apply]
  have eb : ∀ j : S1x2048.Idx, (j 1).val = k.val → x7 j = x7 (ix2 0 k) := fun j hj => congrArg x7 (funext fun b => by
    match b with
    | ⟨0, _⟩ => exact Fin.ext (by have : (j 0).val < 1 := (j 0).isLt; show (j 0).val = 0; omega)
    | ⟨1, _⟩ => exact Fin.ext hj)
  have ew : ∀ (s : Fin 4) (j : S1x4x2048.Idx), (j 1).val = s.val → (j 2).val = k.val → x6 j = x6 (ix3 0 s k) := fun s j hs hj => congrArg x6 (funext fun b => by
    match b with
    | ⟨0, _⟩ => exact Fin.ext (by have : (j 0).val < 1 := (j 0).isLt; show (j 0).val = 0; omega)
    | ⟨1, _⟩ => exact Fin.ext hs
    | ⟨2, _⟩ => exact Fin.ext hj)
  rw [eb _ (by show (i 2).val % 2048 = k.val; omega),
    ew 0 (idx_main_v9 (idx_main_v10 (idx_main_v11 (idx_main_v12 (idx_main_v13 i))))) (by show ((0) * 2048 + (i 2).val % 2048) / 2048 % 4 = 0; omega) (by show ((0) * 2048 + (i 2).val % 2048) % 2048 = k.val; omega),
    ew 1 (idx_main_v19 (idx_main_v20 (idx_main_v21 (idx_main_v22 (idx_main_v23 i))))) (by show ((1 + 0) * 2048 + (i 2).val % 2048) / 2048 % 4 = 1; omega) (by show ((1 + 0) * 2048 + (i 2).val % 2048) % 2048 = k.val; omega),
    ew 2 (idx_main_v27 (idx_main_v28 (idx_main_v29 (idx_main_v30 (idx_main_v31 i))))) (by show ((2 + 0) * 2048 + (i 2).val % 2048) / 2048 % 4 = 2; omega) (by show ((2 + 0) * 2048 + (i 2).val % 2048) % 2048 = k.val; omega),
    ew 3 (idx_main_v35 (idx_main_v36 (idx_main_v37 (idx_main_v38 (idx_main_v39 i))))) (by show ((3 + 0) * 2048 + (i 2).val % 2048) / 2048 % 4 = 3; omega) (by show ((3 + 0) * 2048 + (i 2).val % 2048) % 2048 = k.val; omega)]
  rfl

/-- A key column of the reference. -/
theorem key_R (n : Fin 128) (h : Fin 4) (d : Fin 256) : val_main_v48 (F := Ideal) x1 x2 x6 x7 (ix4 n h 0 d)
    = key (conv (x7 (ix2 0 (chan h d))) (x6 (ix3 0 0 (chan h d))) (x6 (ix3 0 1 (chan h d))) (x6 (ix3 0 2 (chan h d))) (x6 (ix3 0 3 (chan h d)))
      (x2 (ix4 0 n 0 (chan h d))) (x2 (ix4 0 n 1 (chan h d))) (x2 (ix4 0 n 2 (chan h d))) (x1 (ix2 n (colK h d)))) := by
  have hh := h.isLt
  have hd := d.isLt
  rw [val_main_v48_apply, val_main_v46_apply, val_main_v45_apply, val_main_v44_apply, val_main_v42_apply, val_main_call0_v5_apply,
    val_main_call0_v4_apply, val_main_call0_v3_apply, val_main_call0_v2_apply, val_main_call0_v1_apply, val_main_call0_v0_apply,
    conv_R x1 x2 x6 x7 n (chan h d) _ (by show (((n.val * 1 + 0) * 4 + h.val) * 256 + d.val) / 1024 = n.val; omega)
      (by show 1024 + (((n.val * 1 + 0) * 4 + h.val) * 256 + d.val) % 1024 = 1024 + h.val * 256 + d.val; omega),
    val_main_v47_apply]
  rfl

/-- A value column of the reference. -/
theorem val_R (n : Fin 128) (h : Fin 4) (e : Fin 256) : val_main_v50 (F := Ideal) x1 (ix4 n h 0 e) = x1 (ix2 n (colV h e)) := by
  have hh := h.isLt
  have he := e.isLt
  rw [val_main_v50_apply, val_main_v49_apply, val_main_v2_apply, val_main_v0_apply]
  refine congrArg x1 (funext fun b => ?_)
  match b with
  | ⟨0, _⟩ => exact Fin.ext (by
      show (((((n.val * 1 + 0) * 4 + h.val) * 256 + e.val) / 1024 * 1 + 0) * 12544 + (3072 + (((n.val * 1 + 0) * 4 + h.val) * 256 + e.val) % 1024)) / 12544 = n.val; omega)
  | ⟨1, _⟩ => exact Fin.ext (by
      show (((((n.val * 1 + 0) * 4 + h.val) * 256 + e.val) / 1024 * 1 + 0) * 12544 + (3072 + (((n.val * 1 + 0) * 4 + h.val) * 256 + e.val) % 1024)) % 12544 = 3072 + h.val * 256 + e.val; omega)

/-- The input gate's exponent of the reference. -/
theorem input_R (n : Fin 128) (h : Fin 4) (i : S128x4x1.Idx) (h0 : (i 0).val = n.val) (h1 : (i 1).val = h.val) :
    val_main_v55 (F := Ideal) x1 x8 i = x1 (ix2 n (colI h)) + x8 (ix2 0 h) := by
  have hh := h.isLt
  have h2 : (i 2).val < 1 := (i 2).isLt
  rw [val_main_v55_apply, val_main_v54_apply, val_main_v53_apply, val_main_v52_apply, val_main_v51_apply, val_main_v3_apply, val_main_v0_apply]
  refine congrArg₂ (· + ·) (congrArg x1 (funext fun b => ?_)) (congrArg x8 (funext fun b => ?_))
  · match b with
    | ⟨0, _⟩ => exact Fin.ext (by show (((i 0).val * 1 + (i 2).val) * 12544 + (12288 + (i 1).val)) / 12544 = n.val; omega)
    | ⟨1, _⟩ => exact Fin.ext (by show (((i 0).val * 1 + (i 2).val) * 12544 + (12288 + (i 1).val)) % 12544 = 12288 + h.val; omega)
  · match b with
    | ⟨0, _⟩ => rfl
    | ⟨1, _⟩ => exact Fin.ext (by show (i 1).val % 4 = h.val; omega)

/-- The forget gate's argument in the reference. -/
theorem forget_R (n : Fin 128) (h : Fin 4) (i : S128x1x4.Idx) (h0 : (i 0).val = n.val) (h2 : (i 2).val = h.val) :
    val_main_v59 (F := Ideal) x1 x9 i = x1 (ix2 n (colF h)) + x9 (ix2 0 h) := by
  have hh := h.isLt
  have h1 : (i 1).val < 1 := (i 1).isLt
  rw [val_main_v59_apply, val_main_v58_apply, val_main_v57_apply, val_main_v56_apply, val_main_v4_apply, val_main_v0_apply]
  refine congrArg₂ (· + ·) (congrArg x1 (funext fun b => ?_)) (congrArg x9 (funext fun b => ?_))
  · match b with
    | ⟨0, _⟩ => exact Fin.ext (by show (((i 0).val * 1 + (i 1).val) * 12544 + (12292 + (i 2).val)) / 12544 = n.val; omega)
    | ⟨1, _⟩ => exact Fin.ext (by show (((i 0).val * 1 + (i 1).val) * 12544 + (12292 + (i 2).val)) % 12544 = 12292 + h.val; omega)
  · match b with
    | ⟨0, _⟩ => rfl
    | ⟨1, _⟩ => exact Fin.ext (by show (i 2).val % 4 = h.val; omega)

/-! ## The logarithm of the logistic function -/

/-- The logarithm of the logistic function, as the reference writes it. -/
def softLog (z : EReal) : EReal := -(max (-z) zero + Ideal.log1p (Ideal.exp (-(max (-z - zero) (-(-z - zero))))))

theorem zero_eq : zero = 0 := Ideal.ofBits_zero .f32

theorem forgetLog_R (n : Fin 128) (h : Fin 4) (i : S128x4x1.Idx) (h0 : (i 0).val = n.val) (h1 : (i 1).val = h.val) :
    val_main_v61 (F := Ideal) x1 x9 i = softLog (x1 (ix2 n (colF h)) + x9 (ix2 0 h)) := by
  rw [val_main_v61_apply, val_main_v60_apply, val_main_call1_v1_apply, val_main_call1_call0_v4_apply, val_main_call1_call0_v11_apply,
    val_main_call1_call0_v10_apply, val_main_call1_call0_v9_apply, val_main_call1_call0_v8_apply, val_main_call1_call0_v7_apply,
    val_main_call1_call0_v3_apply, val_main_call1_call0_v2_apply, val_main_call1_call0_v1_apply, val_main_call1_call0_v0_apply,
    val_main_call1_call0_v6_apply, val_main_call1_v0_apply,
    forget_R x1 x9 n h _ h0 h1]
  generalize x1 (ix2 n (colF h)) + x9 (ix2 0 h) = z
  have e : (FloatOps.cmpf (F := Ideal) (φ := .f32) .une (FloatOps.subf (FloatOps.hostNegf z) zero) (FloatOps.subf (FloatOps.hostNegf z) zero) : BitVec 1) = 0#1 := by
    show Ideal.cmp .une _ _ = _
    simp [Ideal.cmp]
  erw [e]
  rfl

/-- A running sum over one token is that token's term. -/
theorem single_R (i : S128x4x1.Idx) : val_main_v67 (F := Ideal) x1 x9 i = val_main_v61 (F := Ideal) x1 x9 i := by
  unfold val_main_v67
  generalize val_main_v61 (F := Ideal) x1 x9 = y
  have hl : List.finRange (Shape.numel ⟨3, ![1, 1, 1]⟩) = [⟨0, by decide⟩] := by decide
  have hz : val_main_call3_call0_v0 (F := Ideal) (Shape.Idx.first h_S_) = (0 : EReal) := by
    rw [val_main_call3_call0_v0_apply]; exact zero_eq
  unfold Host.reduceWindowAdd
  rw [hz]
  show Ideal.hostReduceWindowAdd ![1, 1, 1] ![1, 1, 1] ![0, 0, 0] ![0, 0, 0] reduceWindows_S128x4x1_S128x4x1_w1s1p0_0_w1s1p0_0_w1s1p0_0 y 0 i = y i
  unfold Ideal.hostReduceWindowAdd Host.reduceWindow
  dsimp only
  rw [hl]
  simp only [List.foldl_cons, List.foldl_nil]
  have hs : ∀ a, ((Shape.rowMajor ⟨3, ![1, 1, 1]⟩).symm ⟨0, by decide⟩ a).val = 0 := fun a => by
    have h := ((Shape.rowMajor ⟨3, ![1, 1, 1]⟩).symm ⟨0, by decide⟩ a).isLt
    fin_cases a <;> exact Nat.lt_one_iff.mp h
  have hv : ∀ a : Fin 3, (i a).val * ![1, 1, 1] a + ((Shape.rowMajor ⟨3, ![1, 1, 1]⟩).symm ⟨0, by decide⟩ a).val - ![0, 0, 0] a = (i a).val := fun a => by
    rw [hs a]; fin_cases a <;> simp
  rw [dif_pos, zero_add]
  · exact congrArg y (funext fun a => Fin.ext (hv a))
  · intro a
    refine ⟨by fin_cases a <;> exact Nat.zero_le _, ?_⟩
    refine lt_of_eq_of_lt (hv a) ?_
    have h := (i a).isLt
    fin_cases a <;> exact h

theorem one_eq : one = 1 := by
  simp

/-- The logarithm of one plus the exponential of minus a magnitude is a real number. -/
theorem tail_real (z : EReal) : ∃ r : ℝ, Ideal.log (1 + Ideal.exp (-(max z (-z)))) = (r : EReal) := by
  have key : ∀ w : ℝ, ∃ r : ℝ, Ideal.log (1 + Ideal.exp ((w : ℝ) : EReal)) = (r : EReal) := fun w => by
    refine ⟨Real.log (1 + Real.exp w), ?_⟩
    have hp : ¬ (1 + Real.exp w ≤ 0) := by have := Real.exp_pos w; linarith
    show Ideal.log (((1 : ℝ) : EReal) + ((Real.exp w : ℝ) : EReal)) = _
    rw [← EReal.coe_add]
    show (if 1 + Real.exp w ≤ 0 then (⊥ : EReal) else ((Real.log (1 + Real.exp w) : ℝ) : EReal)) = _
    rw [if_neg hp]
  have inf : ∃ r : ℝ, Ideal.log (1 + Ideal.exp ⊥) = (r : EReal) := by
    refine ⟨0, ?_⟩
    show Ideal.log (((1 : ℝ) : EReal) + 0) = _
    rw [add_zero]
    show (if (1 : ℝ) ≤ 0 then (⊥ : EReal) else ((Real.log 1 : ℝ) : EReal)) = _
    rw [if_neg (by norm_num), Real.log_one]
  induction z using EReal.rec with
  | bot => simpa using inf
  | top => simpa using inf
  | coe r =>
    have e : -(max (r : EReal) (-(r : EReal))) = ((-(max r (-r)) : ℝ) : EReal) := by
      rw [← EReal.coe_neg, ← EReal.coe_strictMono.monotone.map_max, ← EReal.coe_neg]
    rw [e]
    exact key _

/-- The kernel's spelling without its rescaling. -/
theorem logGate_eq (z : EReal) : logGate z = min z 0 - Ideal.log (1 + Ideal.exp (-(max z (-z)))) := by
  unfold logGate
  rw [Cert.Kernel3Ideal.Whole.exp2_eq, one_eq, zero_eq, Cert.Kernel3Ideal.Whole.ln_eq, Cert.Kernel3Ideal.Whole.invLn_eq]
  obtain ⟨r, hr⟩ := tail_real z
  rw [hr, ← EReal.coe_mul, ← EReal.coe_mul]
  congr 2
  have : Real.log 2 ≠ 0 := (Real.log_pos (by norm_num)).ne'
  field_simp

/-- The two spellings of the logarithm of the logistic function agree. -/
theorem softLog_eq (z : EReal) : softLog z = logGate z := by
  rw [logGate_eq]
  unfold softLog Ideal.log1p
  rw [zero_eq, sub_zero, neg_neg, max_comm (-z) z]
  obtain ⟨r, hr⟩ := tail_real z
  rw [hr]
  rw [EReal.neg_add (Or.inr (EReal.coe_ne_top r)) (Or.inr (EReal.coe_ne_bot r))]
  have : -(max (-z) 0) = min z 0 := by
    rcases le_total z 0 with h | h
    · have h' : 0 ≤ -z := by rwa [EReal.le_neg, neg_zero]
      rw [max_eq_left h', min_eq_left h, neg_neg]
    · have h' : -z ≤ 0 := by rwa [EReal.neg_le, neg_zero]
      rw [max_eq_right h', min_eq_right h, neg_zero]
  rw [this]

/-- Above minus infinity that logarithm is a real number. -/
theorem logGate_real (z : EReal) (hz : z ≠ ⊥) : ∃ r : ℝ, logGate z = (r : EReal) := by
  rw [logGate_eq]
  obtain ⟨r, hr⟩ := tail_real z
  rw [hr]
  induction z using EReal.rec with
  | bot => exact absurd rfl hz
  | top => exact ⟨0 - r, by rw [min_eq_right le_top]; rfl⟩
  | coe w => exact ⟨min w 0 - r, by rw [← EReal.coe_zero, ← EReal.coe_strictMono.monotone.map_min, ← EReal.coe_sub]⟩

end Cert.Reference3Ideal.Whole

end
-- ==== Proof.StepEnd.lean ====
module

public import proofs.«01_k».proof.Proof.StepRef

/-! # The reference's new state of a sample

One token makes every running sum, running maximum and masked sum of the reference a single term. Where the forget gate's
argument is above minus infinity the logarithm is a real number, so that the token's distance to itself is zero. -/

@[expose] public section

set_option maxRecDepth 16384

noncomputable section

namespace Cert.Reference3Ideal.Whole

open Idealize.ShloMosaic Idealize.ShloMosaic.TcCoe Idealize.SL.Sem
open Cert.Reference3Ideal Cert.Reference3Ideal.Value Cert.Reference3Ideal.Read Cert.Reference3Ideal.Gen
open Cert.Kernel3Ideal.Whole (conv key logGate top weight decay zero keyScale)

variable (x1 : FVec Ideal S128x12544 .f32) (x2 : FVec Ideal S1x128x3x2048 .f32) (x3 : FVec Ideal S1x128x4x256x256 .f32)
  (x4 : FVec Ideal S1x128x4x256 .f32) (x5 : FVec Ideal S1x128x4 .f32) (x6 : FVec Ideal S1x4x2048 .f32) (x7 : FVec Ideal S1x2048 .f32)
  (x8 x9 : FVec Ideal S1x4 .f32) (n : Fin 128) (h : Fin 4)

/-- The forget gate's and the input gate's arguments. -/
def fg : EReal := x1 (ix2 n (colF h)) + x9 (ix2 0 h)
def ig : EReal := x1 (ix2 n (colI h)) + x8 (ix2 0 h)

theorem self_sub (z : EReal) (hz : z ≠ ⊥) : logGate z - logGate z = 0 := by
  obtain ⟨r, hr⟩ := logGate_real z hz
  rw [hr, ← EReal.coe_sub, sub_self, EReal.coe_zero]

theorem sum_R (i : S128x4x1.Idx) (h0 : (i 0).val = n.val) (h1 : (i 1).val = h.val) :
    val_main_v67 (F := Ideal) x1 x9 i = logGate (fg x1 x9 n h) := by
  rw [single_R, forgetLog_R x1 x9 n h i h0 h1, softLog_eq]
  rfl

theorem mask_R (j : S1x1.Idx) : val_main_v66 (F := Ideal) j = 1#1 := by
  have j0 : (j 0).val = 0 := Nat.lt_one_iff.mp (j 0).isLt
  have j1 : (j 1).val = 0 := Nat.lt_one_iff.mp (j 1).isLt
  rw [val_main_v66_apply, val_main_call2_v4_apply, val_main_call2_v2_apply, val_main_call2_v0_apply, val_main_call2_v1_apply,
    val_main_call2_c_apply, val_main_call2_v3_apply, j0, j1, val_main_v65_apply]
  rfl

theorem entry_R (hz : fg x1 x9 n h ≠ ⊥) (i : S128x4x1x1.Idx) (h0 : (i 0).val = n.val) (h1 : (i 1).val = h.val) :
    val_main_v73 (F := Ideal) x1 x8 x9 i = ig x1 x8 n h := by
  rw [val_main_v73_apply, val_main_call4_v1_apply, mask_R, val_main_v72_apply, val_main_v70_apply, val_main_v68_apply, val_main_v69_apply,
    val_main_v71_apply, sum_R x1 x9 n h (idx_main_v68 i) h0 h1, input_R x1 x8 n h (idx_main_v71 i) h0 h1]
  show logGate (fg x1 x9 n h) - logGate (fg x1 x9 n h) + ig x1 x8 n h = _
  rw [self_sub _ hz, zero_add]

theorem greatest_R (hz : fg x1 x9 n h ≠ ⊥) (i : S128x4x1.Idx) (h0 : (i 0).val = n.val) (h1 : (i 1).val = h.val) :
    val_main_v76 (F := Ideal) x1 x8 x9 i = ig x1 x8 n h := by
  unfold val_main_v76
  have hr : S128x4x1x1.Reduces [3] S128x4x1 := ⟨rfl, by decide, fun j => by fin_cases j <;> rfl⟩
  rw [Host.reduce_eq_fold_single FloatOps.maximumf _ _ reducesTo_S128x4x1x1_S128x4x1_d3 hr h_S_ i]
  have hu : (Finset.univ : Finset (Fin (S128x4x1x1.size 3))) = {⟨0, Nat.one_pos⟩} := by decide
  rw [hu, Finset.fold_singleton]
  have e := entry_R x1 x8 x9 n h hz (hr.lift i ⟨0, Nat.one_pos⟩) h0 h1
  show max (val_main_v73 (F := Ideal) x1 x8 x9 (hr.lift i ⟨0, Nat.one_pos⟩)) (Ideal.ofBits .f32 0xFF800000#32) = _
  rw [e]
  simp [Ideal.ofBits, Ideal.ieee]

theorem old_R (i : S128x4.Idx) (h0 : (i 0).val = n.val) (h1 : (i 1).val = h.val) : val_main_v64 (F := Ideal) x5 i = x5 (ix3 0 n h) := by
  have hh := h.isLt
  have hn := n.isLt
  rw [val_main_v64_apply]
  refine congrArg x5 (funext fun b => ?_)
  match b with
  | ⟨0, _⟩ => rfl
  | ⟨1, _⟩ => exact Fin.ext (by show ((i 0).val * 4 + (i 1).val) / 4 % 128 = n.val; omega)
  | ⟨2, _⟩ => exact Fin.ext (by show ((i 0).val * 4 + (i 1).val) % 4 = h.val; omega)

/-- The stabilising exponent of the reference. -/
theorem top_R (hz : fg x1 x9 n h ≠ ⊥) (i : S128x4.Idx) (h0 : (i 0).val = n.val) (h1 : (i 1).val = h.val) :
    val_main_v78 (F := Ideal) x1 x5 x8 x9 i = top (fg x1 x9 n h) (ig x1 x8 n h) (x5 (ix3 0 n h)) := by
  have hh := h.isLt
  have g0 : (idx_main_v78 i 0).val = n.val := by show ((i 0).val * 4 + (i 1).val) / 4 = n.val; omega
  have g1 : (idx_main_v78 i 1).val = h.val := by show ((i 0).val * 4 + (i 1).val) / 1 % 4 = h.val; omega
  rw [val_main_v78_apply, val_main_v77_apply, val_main_v75_apply, sum_R x1 x9 n h _ g0 g1, val_main_v74_apply,
    old_R x5 n h _ g0 g1, greatest_R x1 x8 x9 n h hz _ g0 g1]
  rfl

/-- The token's weight of the reference. -/
theorem weight_R (hz : fg x1 x9 n h ≠ ⊥) (i : S128x4x1.Idx) (h0 : (i 0).val = n.val) (h1 : (i 1).val = h.val) :
    val_main_v83 (F := Ideal) x1 x5 x8 x9 i = weight (fg x1 x9 n h) (ig x1 x8 n h) (x5 (ix3 0 n h)) := by
  rw [val_main_v83_apply, val_main_v82_apply, val_main_v80_apply, val_main_v79_apply, sum_R x1 x9 n h i h0 h1, input_R x1 x8 n h i h0 h1,
    val_main_v81_apply, top_R x1 x5 x8 x9 n h hz (idx_main_v81 i) h0 h1]
  show Ideal.exp (logGate (fg x1 x9 n h) - logGate (fg x1 x9 n h) + ig x1 x8 n h - _) = _
  rw [self_sub _ hz, zero_add]
  rfl

/-- The old state's weight of the reference. -/
theorem decay_R (hz : fg x1 x9 n h ≠ ⊥) (i : S128x4.Idx) (h0 : (i 0).val = n.val) (h1 : (i 1).val = h.val) :
    val_main_v87 (F := Ideal) x1 x5 x8 x9 i = decay (fg x1 x9 n h) (ig x1 x8 n h) (x5 (ix3 0 n h)) := by
  have hh := h.isLt
  rw [val_main_v87_apply, val_main_v86_apply, val_main_v85_apply, val_main_v84_apply, old_R x5 n h i h0 h1, top_R x1 x5 x8 x9 n h hz i h0 h1,
    sum_R x1 x9 n h (idx_main_v84 i) (by show ((i 0).val * 4 + (i 1).val) / 4 = n.val; omega)
      (by show ((i 0).val * 4 + (i 1).val) / 1 % 4 = h.val; omega)]
  rfl

/-- A key column of the reference, from the arrays. -/
def keyOf (d : Fin 256) : EReal :=
  key (conv (x7 (ix2 0 (chan h d))) (x6 (ix3 0 0 (chan h d))) (x6 (ix3 0 1 (chan h d))) (x6 (ix3 0 2 (chan h d))) (x6 (ix3 0 3 (chan h d)))
    (x2 (ix4 0 n 0 (chan h d))) (x2 (ix4 0 n 1 (chan h d))) (x2 (ix4 0 n 2 (chan h d))) (x1 (ix2 n (colK h d))))

/-- The reference's new exponent of a sample and head. -/
theorem m_R (hz : fg x1 x9 n h ≠ ⊥) : val_main_v103 (F := Ideal) x1 x5 x8 x9 (ix3 0 n h)
    = top (fg x1 x9 n h) (ig x1 x8 n h) (x5 (ix3 0 n h)) := by
  rw [val_main_v103_apply, top_R x1 x5 x8 x9 n h hz _ rfl rfl]

/-- The reference's new normaliser. -/
theorem n_R (hz : fg x1 x9 n h ≠ ⊥) (d : Fin 256) : val_main_v102 (F := Ideal) x1 x2 x4 x5 x6 x7 x8 x9 (ix4 0 n h d)
    = decay (fg x1 x9 n h) (ig x1 x8 n h) (x5 (ix3 0 n h)) * x4 (ix4 0 n h d)
      + weight (fg x1 x9 n h) (ig x1 x8 n h) (x5 (ix3 0 n h)) * keyOf x1 x2 x6 x7 n h d := by
  have hh := h.isLt
  have hn := n.isLt
  have hd := d.isLt
  have el : idx_main_v102 (ix4 0 n h d) = ix3 n h d := by
    funext b
    match b with
    | ⟨0, _⟩ => rfl
    | ⟨1, _⟩ => rfl
    | ⟨2, _⟩ => rfl
  have e4 : val_main_v63 (F := Ideal) x4 (ix3 n h d) = x4 (ix4 0 n h d) := by
    rw [val_main_v63_apply]
    refine congrArg x4 (funext fun b => ?_)
    match b with
    | ⟨0, _⟩ => rfl
    | ⟨1, _⟩ => exact Fin.ext (by show ((n.val * 4 + h.val) * 256 + d.val) / 1024 % 128 = n.val; omega)
    | ⟨2, _⟩ => exact Fin.ext (by show ((n.val * 4 + h.val) * 256 + d.val) / 256 % 4 = h.val; omega)
    | ⟨3, _⟩ => exact Fin.ext (by show ((n.val * 4 + h.val) * 256 + d.val) % 256 = d.val; omega)
  have er : ridx_main_v99 (ix3 n h d) 0 = ix4 n h 0 d := by
    funext b
    match b with
    | ⟨0, _⟩ => rfl
    | ⟨1, _⟩ => rfl
    | ⟨2, _⟩ => rfl
    | ⟨3, _⟩ => rfl
  rw [val_main_v102_apply, el, val_main_v100_apply, val_main_v98_apply, val_main_v97_apply, val_main_v96_apply,
    decay_R x1 x5 x8 x9 n h hz (idx_main_v96 (idx_main_v97 (ix3 n h d))) rfl rfl, e4, val_main_v99_apply, Fin.sum_univ_one, er,
    weight_R x1 x5 x8 x9 n h hz _ rfl rfl, key_R]
  rfl

/-- The reference's new matrix. -/
theorem C_R (hz : fg x1 x9 n h ≠ ⊥) (d e : Fin 256) : val_main_v101 (F := Ideal) x1 x2 x3 x5 x6 x7 x8 x9 (ix5 0 n h d e)
    = decay (fg x1 x9 n h) (ig x1 x8 n h) (x5 (ix3 0 n h)) * x3 (ix5 0 n h d e)
      + weight (fg x1 x9 n h) (ig x1 x8 n h) (x5 (ix3 0 n h)) * keyOf x1 x2 x6 x7 n h d * x1 (ix2 n (colV h e)) := by
  have hh := h.isLt
  have hn := n.isLt
  have hd := d.isLt
  have he := e.isLt
  have el : idx_main_v101 (ix5 0 n h d e) = ix4 n h d e := by
    funext b
    match b with
    | ⟨0, _⟩ => rfl
    | ⟨1, _⟩ => rfl
    | ⟨2, _⟩ => rfl
    | ⟨3, _⟩ => rfl
  have e3 : val_main_v62 (F := Ideal) x3 (ix4 n h d e) = x3 (ix5 0 n h d e) := by
    rw [val_main_v62_apply]
    refine congrArg x3 (funext fun b => ?_)
    match b with
    | ⟨0, _⟩ => rfl
    | ⟨1, _⟩ => exact Fin.ext (by show (((n.val * 4 + h.val) * 256 + d.val) * 256 + e.val) / 262144 % 128 = n.val; omega)
    | ⟨2, _⟩ => exact Fin.ext (by show (((n.val * 4 + h.val) * 256 + d.val) * 256 + e.val) / 65536 % 4 = h.val; omega)
    | ⟨3, _⟩ => exact Fin.ext (by show (((n.val * 4 + h.val) * 256 + d.val) * 256 + e.val) / 256 % 256 = d.val; omega)
    | ⟨4, _⟩ => exact Fin.ext (by show (((n.val * 4 + h.val) * 256 + d.val) * 256 + e.val) % 256 = e.val; omega)
  have ek : lidx_main_v94 (ix4 n h d e) 0 = ix4 n h 0 d := by
    funext b
    match b with
    | ⟨0, _⟩ => rfl
    | ⟨1, _⟩ => rfl
    | ⟨2, _⟩ => rfl
    | ⟨3, _⟩ => rfl
  have er : ridx_main_v94 (ix4 n h d e) 0 = ix4 n h 0 e := by
    funext b
    match b with
    | ⟨0, _⟩ => rfl
    | ⟨1, _⟩ => rfl
    | ⟨2, _⟩ => rfl
    | ⟨3, _⟩ => rfl
  rw [val_main_v101_apply, el, val_main_v95_apply, val_main_v90_apply, val_main_v89_apply, val_main_v88_apply,
    decay_R x1 x5 x8 x9 n h hz (idx_main_v88 (idx_main_v89 (ix4 n h d e))) rfl rfl, e3, val_main_v94_apply, Fin.sum_univ_one, ek, er,
    val_main_v93_apply, val_main_v92_apply, val_main_v91_apply,
    weight_R x1 x5 x8 x9 n h hz (idx_main_v91 (idx_main_v92 (ix4 n h 0 d))) rfl rfl, key_R, val_R]
  rfl

end Cert.Reference3Ideal.Whole

end
-- ==== Proof.StepPoint.lean ====
module

public import proofs.«01_k».proof.Proof.StepTail
public import proofs.«01_k».proof.Proof.StepPieces
public import proofs.«01_k».proof.Proof.StepEnd

/-! # A point's rows are the samples' rows

Of the blocks of point `t`, row `r` is sample `16 (t / 4) + r` and the head is `t % 4`: the key, the gates' arguments and
the old state that the formulas take are those of that sample and head. -/

@[expose] public section

set_option maxRecDepth 16384

noncomputable section

namespace Cert.Kernel3Ideal.Whole

open Idealize.ShloMosaic Idealize.ShloMosaic.TcCoe Idealize.SL.Sem
open Cert.Kernel3Ideal Cert.Kernel3Ideal.Gen
open Cert.Reference3Ideal.Whole (fg ig keyOf colI colF colV colK chan)

variable (m : (ℓ : Loc nD τ sig) → Buf (Elt Ideal) ℓ) (c : Dev nD)

/-- The arguments the new state is made of. -/
abbrev a1 : FVec Ideal S128x12544 .f32 := m ((c : Thread nD τ).loc main_arg1)
abbrev a2 : FVec Ideal S1x128x3x2048 .f32 := m ((c : Thread nD τ).loc main_arg2)
abbrev a3 : FVec Ideal S1x128x4x256x256 .f32 := m ((c : Thread nD τ).loc main_arg3)
abbrev a4 : FVec Ideal S1x128x4x256 .f32 := m ((c : Thread nD τ).loc main_arg4)
abbrev a5 : FVec Ideal S1x128x4 .f32 := m ((c : Thread nD τ).loc main_arg5)
abbrev a6 : FVec Ideal S1x4x2048 .f32 := m ((c : Thread nD τ).loc main_arg6)
abbrev a7 : FVec Ideal S1x2048 .f32 := m ((c : Thread nD τ).loc main_arg7)
abbrev a8 : FVec Ideal S1x4 .f32 := m ((c : Thread nD τ).loc main_arg8)
abbrev a9 : FVec Ideal S1x4 .f32 := m ((c : Thread nD τ).loc main_arg9)

/-- The sample of a point's row. -/
def sampleOf (t : Fin cfg0.N) (r : Fin 16) : Fin 128 :=
  ⟨t.val / 4 * 16 + r.val, by have h : t.val < 32 := t.isLt; omega⟩
/-- The head of a point. -/
def headOf (t : Fin cfg0.N) : Fin 4 := ⟨t.val % 4, by omega⟩

variable (t : Fin cfg0.N) (r : Fin 16)

theorem at_C (d e : Fin 256) : iblk m c 25 t (ix4 r 0 d e : S16x1x256x256.Idx) = a3 m c (ix5 0 (sampleOf t r) (headOf t) d e) := by
  rw [read_25 m c t r d e (sampleOf t r) rfl (headOf t) rfl, at_v11]

theorem at_n (d : Fin 256) : iblk m c 26 t (ix4 r 0 0 d : S16x1x1x256.Idx) = a4 m c (ix4 0 (sampleOf t r) (headOf t) d) := by
  rw [read_26 m c t r d (sampleOf t r) rfl (headOf t) rfl, at_v12]

theorem at_m : iblk m c 27 t (ix2 r (headOf t) : S16x4.Idx) = a5 m c (ix3 0 (sampleOf t r) (headOf t)) := by
  rw [read_27 m c t r (headOf t) (sampleOf t r) rfl, at_v13]

theorem at_value (e : Fin 256) : iblk m c 9 t (ix2 r e : S16x256.Idx) = a1 m c (ix2 (sampleOf t r) (colV (headOf t) e)) := by
  rw [read_9 m c t r e (sampleOf t r) rfl (colV (headOf t) e) (by show 3072 + t.val % 4 * 256 + e.val = _; omega), V_main_arg1]

theorem at_f : gateF (headOf t) (iblk m c 12 t) (iblk m c 23 t) r = fg (a1 m c) (a9 m c) (sampleOf t r) (headOf t) := by
  unfold gateF fg
  rw [read_12 m c t r (laneF (headOf t)) (sampleOf t r) rfl (colF (headOf t)) (by show 12292 + t.val % 4 = 12288 + (4 + t.val % 4); omega),
    read_23, at_v7_f, V_main_arg1]

theorem at_i : gateI (headOf t) (iblk m c 12 t) (iblk m c 23 t) r = ig (a1 m c) (a8 m c) (sampleOf t r) (headOf t) := by
  unfold gateI ig
  rw [read_12 m c t r (laneI (headOf t)) (sampleOf t r) rfl (colI (headOf t)) (by show 12288 + t.val % 4 = 12288 + t.val % 4; omega),
    read_23, at_v7_i, V_main_arg1]

/-- The blocks a key is made of. -/
abbrev b8 : FVec Ideal S16x256 .f32 := iblk m c 8 t
abbrev b16 : FVec Ideal S16x256 .f32 := iblk m c 16 t
abbrev b17 : FVec Ideal S16x256 .f32 := iblk m c 17 t
abbrev b18 : FVec Ideal S16x256 .f32 := iblk m c 18 t
abbrev b20 : FVec Ideal S4x256 .f32 := iblk m c 20 t
abbrev b22 : FVec Ideal S1x256 .f32 := iblk m c 22 t

theorem at_key (d : Fin 256) :
    key (b22 m c t (ix2 0 d) + b16 m c t (ix2 r d) * b20 m c t (ix2 0 d) + b17 m c t (ix2 r d) * b20 m c t (ix2 1 d)
        + b18 m c t (ix2 r d) * b20 m c t (ix2 2 d) + b8 m c t (ix2 r d) * b20 m c t (ix2 3 d))
      = keyOf (a1 m c) (a2 m c) (a6 m c) (a7 m c) (sampleOf t r) (headOf t) d := by
  have hc : (chan (headOf t) d).val = (4 + t.val % 4) * 256 + d.val := by show 1024 + t.val % 4 * 256 + d.val = _; omega
  have hk (s : Fin 3) : s.val * 2048 + (chan (headOf t) d).val < 6144 := by have := (chan (headOf t) d).isLt; omega
  have e22 : b22 m c t (ix2 0 d) = a7 m c (ix2 0 (chan (headOf t) d)) := (read_22 m c t d _ hc).trans (at_v2 m c _)
  have e20 (s : Fin 4) : b20 m c t (ix2 s d) = a6 m c (ix3 0 s (chan (headOf t) d)) := (read_20 m c t s d _ hc).trans (at_v0 m c _ _)
  have e16 : b16 m c t (ix2 r d) = a2 m c (ix4 0 (sampleOf t r) 0 (chan (headOf t) d)) :=
    (read_16 m c t r d (sampleOf t r) rfl ⟨_, hk 0⟩ (by show 0 * 2048 + (chan (headOf t) d).val = _; omega)).trans (at_v10 m c _ 0 _ _ rfl)
  have e17 : b17 m c t (ix2 r d) = a2 m c (ix4 0 (sampleOf t r) 1 (chan (headOf t) d)) :=
    (read_17 m c t r d (sampleOf t r) rfl ⟨_, hk 1⟩ (by show 1 * 2048 + (chan (headOf t) d).val = _; omega)).trans (at_v10 m c _ 1 _ _ rfl)
  have e18 : b18 m c t (ix2 r d) = a2 m c (ix4 0 (sampleOf t r) 2 (chan (headOf t) d)) :=
    (read_18 m c t r d (sampleOf t r) rfl ⟨_, hk 2⟩ (by show 2 * 2048 + (chan (headOf t) d).val = _; omega)).trans (at_v10 m c _ 2 _ _ rfl)
  have e8 : b8 m c t (ix2 r d) = a1 m c (ix2 (sampleOf t r) (colK (headOf t) d)) :=
    (read_8 m c t r d (sampleOf t r) rfl (colK (headOf t) d) (by show 1024 + t.val % 4 * 256 + d.val = _; omega)).trans (congrFun (V_main_arg1 m c) _)
  rw [e22, e16, e17, e18, e8, e20, e20, e20, e20]
  rfl

end Cert.Kernel3Ideal.Whole

end
-- ==== Proof.StepLeft.lean ====
module

public import proofs.«01_k».proof.Proof.StepOutsIdeal
public import proofs.«01_k».proof.Proof.StepPoint
public import Idealize.ShloMosaic.Lib.Pipeline.ValueKit

/-! # What a point of the first branch's call leaves for the samples -/

@[expose] public section

set_option maxRecDepth 16384

noncomputable section

namespace Cert.Kernel3Ideal.Whole

open Idealize.ShloMosaic Idealize.ShloMosaic.TcCoe Idealize.SL.Sem
open Cert.Kernel3Ideal Cert.Kernel3Ideal.Gen
open Cert.Reference3Ideal.Whole (fg ig keyOf colI colF colV colK chan)

variable (m : (ℓ : Loc nD τ sig) → Buf (Elt Ideal) ℓ) (c : Dev nD) (t : Fin cfg0.N)

/-- The head the body computes from the point's coordinates. -/
theorem head_num : ∀ t : Fin cfg0.N,
    Scalar.select
      (Scalar.andi
        (Scalar.xori (Scalar.cmpi CmpIPredicate.slt (Scalar.remsi (Scalar.addi (Scalar.muli (BitVec.ofNat 32 ↑(grid0.coords t 0)) 8#32) (BitVec.ofNat 32 ↑(grid0.coords t 2))) 4#32) 0#32) 0#1)
        (Scalar.cmpi CmpIPredicate.ne (Scalar.remsi (Scalar.addi (Scalar.muli (BitVec.ofNat 32 ↑(grid0.coords t 0)) 8#32) (BitVec.ofNat 32 ↑(grid0.coords t 2))) 4#32) 0#32))
      (Scalar.addi (Scalar.remsi (Scalar.addi (Scalar.muli (BitVec.ofNat 32 ↑(grid0.coords t 0)) 8#32) (BitVec.ofNat 32 ↑(grid0.coords t 2))) 4#32) 4#32) (Scalar.remsi (Scalar.addi (Scalar.muli (BitVec.ofNat 32 ↑(grid0.coords t 0)) 8#32) (BitVec.ofNat 32 ↑(grid0.coords t 2))) 4#32)
    = BitVec.ofNat 32 (headOf t).val :=
  (by decide +kernel : ∀ t : Fin grid0.N,
    Scalar.select
      (Scalar.andi
        (Scalar.xori (Scalar.cmpi CmpIPredicate.slt (Scalar.remsi (Scalar.addi (Scalar.muli (BitVec.ofNat 32 ↑(grid0.coords t 0)) 8#32) (BitVec.ofNat 32 ↑(grid0.coords t 2))) 4#32) 0#32) 0#1)
        (Scalar.cmpi CmpIPredicate.ne (Scalar.remsi (Scalar.addi (Scalar.muli (BitVec.ofNat 32 ↑(grid0.coords t 0)) 8#32) (BitVec.ofNat 32 ↑(grid0.coords t 2))) 4#32) 0#32))
      (Scalar.addi (Scalar.remsi (Scalar.addi (Scalar.muli (BitVec.ofNat 32 ↑(grid0.coords t 0)) 8#32) (BitVec.ofNat 32 ↑(grid0.coords t 2))) 4#32) 4#32) (Scalar.remsi (Scalar.addi (Scalar.muli (BitVec.ofNat 32 ↑(grid0.coords t 0)) 8#32) (BitVec.ofNat 32 ↑(grid0.coords t 2))) 4#32)
    = BitVec.ofNat 32 (t.val % 4))

/-- The exponents. -/
theorem left_m (y : S16x128.Idx) : (outsAt0 m c t.val t.isLt).2.2.2.2.2.2.2.1 y
    = top (fg (a1 m c) (a9 m c) (sampleOf t (y 0)) (headOf t)) (ig (a1 m c) (a8 m c) (sampleOf t (y 0)) (headOf t))
        (a5 m c (ix3 0 (sampleOf t (y 0)) (headOf t))) := by
  rw [← at_f m c t (y 0), ← at_i m c t (y 0), ← at_m m c t (y 0)]
  by_cases h : t.val % 8 = 0
  · rw [outsAt0_A m c t h]
    frame_out
    rw [pay27_apply, head_num]
    exact pay17_apply (headOf t) _ _ _ (y 0)
  · rw [outsAt0_B m c t h]
    frame_out
    rw [pay27_apply, head_num]
    exact pay17_apply (headOf t) _ _ _ (y 0)

/-- The payloads the stored matrices are made of. -/
abbrev headWord : BitVec 32 := BitVec.ofNat 32 (headOf t).val
abbrev keyRows : FVec Ideal S16x256 .f32 :=
  k0_pay12 (k0_pay10 (iblk m c 22 t) (iblk m c 16 t) (View.ld (iblk m c 20 t) (Rect.unit ![0, 0] ![1, 256] inb_S4x256_S1x256_0_0)) (iblk m c 17 t)
      (View.ld (iblk m c 20 t) (Rect.unit ![1, 0] ![1, 256] inb_S4x256_S1x256_1_0)))
    (k0_pay11 (iblk m c 18 t)) (View.ld (iblk m c 20 t) (Rect.unit ![2, 0] ![1, 256] inb_S4x256_S1x256_2_0))
    (iblk m c 8 t) (View.ld (iblk m c 20 t) (Rect.unit ![3, 0] ![1, 256] inb_S4x256_S1x256_3_0))
abbrev weightRows : FVec Ideal S16x1 .f32 :=
  k0_pay18 (headWord t) (k0_pay14 (headWord t) (iblk m c 12 t) (iblk m c 23 t)) (k0_pay15 (headWord t) (iblk m c 12 t) (iblk m c 23 t)) (iblk m c 27 t)
abbrev decayRows : FVec Ideal S16x1 .f32 :=
  k0_pay19 (headWord t) (k0_pay14 (headWord t) (iblk m c 12 t) (iblk m c 23 t)) (k0_pay15 (headWord t) (iblk m c 12 t) (iblk m c 23 t)) (iblk m c 27 t)

/-- A key, its four taps apart. -/
theorem key_rows (b : Vec Ideal S1x256 .f32) (s0 s1 s2 x : Vec Ideal S16x256 .f32) (w0 w1 w2 w3 : Vec Ideal S1x256 .f32) (r : Fin 16) (d : Fin 256) :
    k0_pay12 (F := Ideal) (k0_pay10 b s0 w0 s1 w1) (k0_pay11 s2) w2 x w3 (ix2 r d)
      = key (b (ix2 0 d) + s0 (ix2 r d) * w0 (ix2 0 d) + s1 (ix2 r d) * w1 (ix2 0 d) + s2 (ix2 r d) * w2 (ix2 0 d) + x (ix2 r d) * w3 (ix2 0 d)) := by
  rw [pay12_apply, pay7_apply, pay11_apply]
  rfl

/-- A row of the convolution's weights. -/
theorem tap (s : Fin 4) (j : ℕ) (hj : s.val = j) (inb) (d : Fin 256) :
    View.ld (iblk m c 20 t) (Rect.unit ![j, 0] ![1, 256] inb) (ix2 0 d : S1x256.Idx) = b20 m c t (ix2 s d) :=
  View.ld_unit_apply_of (S := S4x256) (iblk m c 20 t) _ _ _ _ _ fun a => by
    subst hj
    match a with
    | ⟨0, _⟩ => rfl
    | ⟨1, _⟩ => exact (Nat.zero_add _).symm

/-- A row of keys is its sample's key. -/
theorem key_point (r : Fin 16) (d : Fin 256) :
    keyRows m c t (ix2 r d) = keyOf (a1 m c) (a2 m c) (a6 m c) (a7 m c) (sampleOf t r) (headOf t) d := by
  rw [← at_key m c t r d]
  refine (key_rows (b22 m c t) (b16 m c t) (b17 m c t) (b18 m c t) (b8 m c t) _ _ _ _ r d).trans ?_
  rw [tap m c t 0 0 rfl, tap m c t 1 1 rfl, tap m c t 2 2 rfl, tap m c t 3 3 rfl]

/-- A sample's new sum of weighted keys. -/
def newN (n : Fin 128) (h : Fin 4) (d : Fin 256) : EReal :=
  decay (fg (a1 m c) (a9 m c) n h) (ig (a1 m c) (a8 m c) n h) (a5 m c (ix3 0 n h)) * a4 m c (ix4 0 n h d)
    + keyOf (a1 m c) (a2 m c) (a6 m c) (a7 m c) n h d * weight (fg (a1 m c) (a9 m c) n h) (ig (a1 m c) (a8 m c) n h) (a5 m c (ix3 0 n h))

/-- A row of the sums is its sample's new sum. -/
theorem sum_point (r : Fin 16) (d : Fin 256) :
    decayRows m c t (ix2 r 0) * k0_pay20 (iblk m c 26 t) (ix2 r d) + keyRows m c t (ix2 r d) * weightRows m c t (ix2 r 0)
      = newN m c (sampleOf t r) (headOf t) d := by
  have hk := key_point m c t r d
  unfold newN
  rw [hk, ← at_n m c t r d, ← at_f m c t r, ← at_i m c t r, ← at_m m c t r]
  unfold decayRows weightRows
  rw [pay18_apply, pay19_apply, pay20_apply]

/-- The sums of the weighted keys. -/
theorem left_n (y : S16x1x1x256.Idx) : (outsAt0 m c t.val t.isLt).2.2.2.2.2.2.1 y = newN m c (sampleOf t (y 0)) (headOf t) (y 3) := by
  obtain ⟨r, d, rfl⟩ : ∃ r d, y = ix4 r 0 0 d := ⟨y 0, y 3, funext fun b => by
    match b with
    | ⟨0, _⟩ => rfl
    | ⟨1, _⟩ => exact Subsingleton.elim (α := Fin 1) _ _
    | ⟨2, _⟩ => exact Subsingleton.elim (α := Fin 1) _ _
    | ⟨3, _⟩ => rfl⟩
  show _ = newN m c (sampleOf t r) (headOf t) d
  by_cases h : t.val % 8 = 0
  · rw [outsAt0_A m c t h]
    frame_out
    rw [head_num]
    exact (pay26_apply (keyRows m c t) (weightRows m c t) (decayRows m c t) (k0_pay20 (iblk m c 26 t)) r d).trans (sum_point m c t r d)
  · rw [outsAt0_B m c t h]
    frame_out
    rw [head_num]
    exact (pay26_apply (keyRows m c t) (weightRows m c t) (decayRows m c t) (k0_pay20 (iblk m c 26 t)) r d).trans (sum_point m c t r d)

/-- A sample's new matrix. -/
def newC (n : Fin 128) (h : Fin 4) (d e : Fin 256) : EReal :=
  decay (fg (a1 m c) (a9 m c) n h) (ig (a1 m c) (a8 m c) n h) (a5 m c (ix3 0 n h)) * a3 m c (ix5 0 n h d e)
    + keyOf (a1 m c) (a2 m c) (a6 m c) (a7 m c) n h d * weight (fg (a1 m c) (a9 m c) n h) (ig (a1 m c) (a8 m c) n h) (a5 m c (ix3 0 n h))
      * a1 m c (ix2 n (colV h e))

/-- A row of those payloads is its sample's new matrix. -/
theorem grown_point (r : Fin 16) (o : Vec Ideal S1x1x256x256 .f32) (d e : Fin 256)
    (ho : o (ix4 0 0 d e) = iblk m c 25 t (ix4 r 0 d e : S16x1x256x256.Idx)) :
    grown (decayRows m c t) (weightRows m c t) (keyRows m c t) (iblk m c 9 t) o d e r = newC m c (sampleOf t r) (headOf t) d e := by
  have hk := key_point m c t r d
  unfold grown newC
  rw [ho, hk, at_C, at_value, ← at_f m c t r, ← at_i m c t r, ← at_m m c t r]
  unfold decayRows weightRows
  rw [pay18_apply, pay19_apply]

/-- The position of an entry inside one head's block of a row. -/
theorem local_ix (x : S1x1x256x256.Idx) (d e : Fin 256) (h2 : d.val = (x 2 : ℕ)) (h3 : e.val = (x 3 : ℕ)) : x = ix4 0 0 d e :=
  funext fun b => by
    match b with
    | ⟨0, _⟩ => exact Subsingleton.elim (α := Fin 1) _ _
    | ⟨1, _⟩ => exact Subsingleton.elim (α := Fin 1) _ _
    | ⟨2, _⟩ => exact Fin.ext h2.symm
    | ⟨3, _⟩ => exact Fin.ext h3.symm

/-- The matrix the call finds, read at the entry a point's block takes it from. -/
theorem old_C (r : Fin 16) (j : ℕ) (hj : r.val = j) (inb) (d e : Fin 256) :
    View.ld (iblk m c 25 t) (Rect.unit ![j, 0, 0, 0] ![1, 1, 256, 256] inb) (ix4 0 0 d e : S1x1x256x256.Idx) = iblk m c 25 t (ix4 r 0 d e : S16x1x256x256.Idx) :=
  View.ld_unit_apply_of (S := S16x1x256x256) (iblk m c 25 t) _ _ _ _ _ fun a => by
    subst hj
    match a with
    | ⟨0, _⟩ => rfl
    | ⟨1, _⟩ => rfl
    | ⟨2, _⟩ => exact (Nat.zero_add _).symm
    | ⟨3, _⟩ => exact (Nat.zero_add _).symm

/-- The matrices. -/
theorem left_C (y : S16x1x256x256.Idx) : (outsAt0 m c t.val t.isLt).2.2.2.2.2.1 y = newC m c (sampleOf t (y 0)) (headOf t) (y 2) (y 3) := by
  obtain ⟨r, d, e, rfl⟩ : ∃ r d e, y = ix4 r 0 d e := ⟨y 0, y 2, y 3, funext fun b => by
    match b with
    | ⟨0, _⟩ => rfl
    | ⟨1, _⟩ => exact Subsingleton.elim (α := Fin 1) _ _
    | ⟨2, _⟩ => rfl
    | ⟨3, _⟩ => rfl⟩
  show _ = newC m c (sampleOf t r) (headOf t) d e
  by_cases h : t.val % 8 = 0
  · rw [outsAt0_A m c t h]
    frame_out
    rw [head_num]
    canon_tiles x hx
    case piece0 =>
      obtain rfl : r = 15 := Fin.ext (by have e0 : r.val = 15 + (x 0 : ℕ) := hx0; show r.val = 15; omega)
      obtain rfl := local_ix x d e hx2 hx3
      exact (piece_15 (decayRows m c t) (weightRows m c t) (keyRows m c t) (iblk m c 9 t) _ d e).trans (grown_point m c t 15 _ d e (old_C m c t 15 15 rfl _ d e))
    case piece1 =>
      obtain rfl : r = 14 := Fin.ext (by have e0 : r.val = 14 + (x 0 : ℕ) := hx0; show r.val = 14; omega)
      obtain rfl := local_ix x d e hx2 hx3
      exact (piece_14 (decayRows m c t) (weightRows m c t) (keyRows m c t) (iblk m c 9 t) _ d e).trans (grown_point m c t 14 _ d e (old_C m c t 14 14 rfl _ d e))
    case piece2 =>
      obtain rfl : r = 13 := Fin.ext (by have e0 : r.val = 13 + (x 0 : ℕ) := hx0; show r.val = 13; omega)
      obtain rfl := local_ix x d e hx2 hx3
      exact (piece_13 (decayRows m c t) (weightRows m c t) (keyRows m c t) (iblk m c 9 t) _ d e).trans (grown_point m c t 13 _ d e (old_C m c t 13 13 rfl _ d e))
    case piece3 =>
      obtain rfl : r = 12 := Fin.ext (by have e0 : r.val = 12 + (x 0 : ℕ) := hx0; show r.val = 12; omega)
      obtain rfl := local_ix x d e hx2 hx3
      exact (piece_12 (decayRows m c t) (weightRows m c t) (keyRows m c t) (iblk m c 9 t) _ d e).trans (grown_point m c t 12 _ d e (old_C m c t 12 12 rfl _ d e))
    case piece4 =>
      obtain rfl : r = 11 := Fin.ext (by have e0 : r.val = 11 + (x 0 : ℕ) := hx0; show r.val = 11; omega)
      obtain rfl := local_ix x d e hx2 hx3
      exact (piece_11 (decayRows m c t) (weightRows m c t) (keyRows m c t) (iblk m c 9 t) _ d e).trans (grown_point m c t 11 _ d e (old_C m c t 11 11 rfl _ d e))
    case piece5 =>
      obtain rfl : r = 10 := Fin.ext (by have e0 : r.val = 10 + (x 0 : ℕ) := hx0; show r.val = 10; omega)
      obtain rfl := local_ix x d e hx2 hx3
      exact (piece_10 (decayRows m c t) (weightRows m c t) (keyRows m c t) (iblk m c 9 t) _ d e).trans (grown_point m c t 10 _ d e (old_C m c t 10 10 rfl _ d e))
    case piece6 =>
      obtain rfl : r = 9 := Fin.ext (by have e0 : r.val = 9 + (x 0 : ℕ) := hx0; show r.val = 9; omega)
      obtain rfl := local_ix x d e hx2 hx3
      exact (piece_9 (decayRows m c t) (weightRows m c t) (keyRows m c t) (iblk m c 9 t) _ d e).trans (grown_point m c t 9 _ d e (old_C m c t 9 9 rfl _ d e))
    case piece7 =>
      obtain rfl : r = 8 := Fin.ext (by have e0 : r.val = 8 + (x 0 : ℕ) := hx0; show r.val = 8; omega)
      obtain rfl := local_ix x d e hx2 hx3
      exact (piece_8 (decayRows m c t) (weightRows m c t) (keyRows m c t) (iblk m c 9 t) _ d e).trans (grown_point m c t 8 _ d e (old_C m c t 8 8 rfl _ d e))
    case piece8 =>
      obtain rfl : r = 7 := Fin.ext (by have e0 : r.val = 7 + (x 0 : ℕ) := hx0; show r.val = 7; omega)
      obtain rfl := local_ix x d e hx2 hx3
      exact (piece_7 (decayRows m c t) (weightRows m c t) (keyRows m c t) (iblk m c 9 t) _ d e).trans (grown_point m c t 7 _ d e (old_C m c t 7 7 rfl _ d e))
    case piece9 =>
      obtain rfl : r = 6 := Fin.ext (by have e0 : r.val = 6 + (x 0 : ℕ) := hx0; show r.val = 6; omega)
      obtain rfl := local_ix x d e hx2 hx3
      exact (piece_6 (decayRows m c t) (weightRows m c t) (keyRows m c t) (iblk m c 9 t) _ d e).trans (grown_point m c t 6 _ d e (old_C m c t 6 6 rfl _ d e))
    case piece10 =>
      obtain rfl : r = 5 := Fin.ext (by have e0 : r.val = 5 + (x 0 : ℕ) := hx0; show r.val = 5; omega)
      obtain rfl := local_ix x d e hx2 hx3
      exact (piece_5 (decayRows m c t) (weightRows m c t) (keyRows m c t) (iblk m c 9 t) _ d e).trans (grown_point m c t 5 _ d e (old_C m c t 5 5 rfl _ d e))
    case piece11 =>
      obtain rfl : r = 4 := Fin.ext (by have e0 : r.val = 4 + (x 0 : ℕ) := hx0; show r.val = 4; omega)
      obtain rfl := local_ix x d e hx2 hx3
      exact (piece_4 (decayRows m c t) (weightRows m c t) (keyRows m c t) (iblk m c 9 t) _ d e).trans (grown_point m c t 4 _ d e (old_C m c t 4 4 rfl _ d e))
    case piece12 =>
      obtain rfl : r = 3 := Fin.ext (by have e0 : r.val = 3 + (x 0 : ℕ) := hx0; show r.val = 3; omega)
      obtain rfl := local_ix x d e hx2 hx3
      exact (piece_3 (decayRows m c t) (weightRows m c t) (keyRows m c t) (iblk m c 9 t) _ d e).trans (grown_point m c t 3 _ d e (old_C m c t 3 3 rfl _ d e))
    case piece13 =>
      obtain rfl : r = 2 := Fin.ext (by have e0 : r.val = 2 + (x 0 : ℕ) := hx0; show r.val = 2; omega)
      obtain rfl := local_ix x d e hx2 hx3
      exact (piece_2 (decayRows m c t) (weightRows m c t) (keyRows m c t) (iblk m c 9 t) _ d e).trans (grown_point m c t 2 _ d e (old_C m c t 2 2 rfl _ d e))
    case piece14 =>
      obtain rfl : r = 1 := Fin.ext (by have e0 : r.val = 1 + (x 0 : ℕ) := hx0; show r.val = 1; omega)
      obtain rfl := local_ix x d e hx2 hx3
      exact (piece_1 (decayRows m c t) (weightRows m c t) (keyRows m c t) (iblk m c 9 t) _ d e).trans (grown_point m c t 1 _ d e (old_C m c t 1 1 rfl _ d e))
    case piece15 =>
      obtain rfl : r = 0 := Fin.ext (by have e0 : r.val = 0 + (x 0 : ℕ) := (hx0.trans (Nat.zero_add _).symm); show r.val = 0; omega)
      obtain rfl := local_ix x d e hx2 hx3
      exact (piece_0 (decayRows m c t) (weightRows m c t) (keyRows m c t) (iblk m c 9 t) _ d e).trans (grown_point m c t 0 _ d e (old_C m c t 0 0 rfl _ d e))
  · rw [outsAt0_B m c t h]
    frame_out
    rw [head_num]
    canon_tiles x hx
    case piece0 =>
      obtain rfl : r = 15 := Fin.ext (by have e0 : r.val = 15 + (x 0 : ℕ) := hx0; show r.val = 15; omega)
      obtain rfl := local_ix x d e hx2 hx3
      exact (piece_15 (decayRows m c t) (weightRows m c t) (keyRows m c t) (iblk m c 9 t) _ d e).trans (grown_point m c t 15 _ d e (old_C m c t 15 15 rfl _ d e))
    case piece1 =>
      obtain rfl : r = 14 := Fin.ext (by have e0 : r.val = 14 + (x 0 : ℕ) := hx0; show r.val = 14; omega)
      obtain rfl := local_ix x d e hx2 hx3
      exact (piece_14 (decayRows m c t) (weightRows m c t) (keyRows m c t) (iblk m c 9 t) _ d e).trans (grown_point m c t 14 _ d e (old_C m c t 14 14 rfl _ d e))
    case piece2 =>
      obtain rfl : r = 13 := Fin.ext (by have e0 : r.val = 13 + (x 0 : ℕ) := hx0; show r.val = 13; omega)
      obtain rfl := local_ix x d e hx2 hx3
      exact (piece_13 (decayRows m c t) (weightRows m c t) (keyRows m c t) (iblk m c 9 t) _ d e).trans (grown_point m c t 13 _ d e (old_C m c t 13 13 rfl _ d e))
    case piece3 =>
      obtain rfl : r = 12 := Fin.ext (by have e0 : r.val = 12 + (x 0 : ℕ) := hx0; show r.val = 12; omega)
      obtain rfl := local_ix x d e hx2 hx3
      exact (piece_12 (decayRows m c t) (weightRows m c t) (keyRows m c t) (iblk m c 9 t) _ d e).trans (grown_point m c t 12 _ d e (old_C m c t 12 12 rfl _ d e))
    case piece4 =>
      obtain rfl : r = 11 := Fin.ext (by have e0 : r.val = 11 + (x 0 : ℕ) := hx0; show r.val = 11; omega)
      obtain rfl := local_ix x d e hx2 hx3
      exact (piece_11 (decayRows m c t) (weightRows m c t) (keyRows m c t) (iblk m c 9 t) _ d e).trans (grown_point m c t 11 _ d e (old_C m c t 11 11 rfl _ d e))
    case piece5 =>
      obtain rfl : r = 10 := Fin.ext (by have e0 : r.val = 10 + (x 0 : ℕ) := hx0; show r.val = 10; omega)
      obtain rfl := local_ix x d e hx2 hx3
      exact (piece_10 (decayRows m c t) (weightRows m c t) (keyRows m c t) (iblk m c 9 t) _ d e).trans (grown_point m c t 10 _ d e (old_C m c t 10 10 rfl _ d e))
    case piece6 =>
      obtain rfl : r = 9 := Fin.ext (by have e0 : r.val = 9 + (x 0 : ℕ) := hx0; show r.val = 9; omega)
      obtain rfl := local_ix x d e hx2 hx3
      exact (piece_9 (decayRows m c t) (weightRows m c t) (keyRows m c t) (iblk m c 9 t) _ d e).trans (grown_point m c t 9 _ d e (old_C m c t 9 9 rfl _ d e))
    case piece7 =>
      obtain rfl : r = 8 := Fin.ext (by have e0 : r.val = 8 + (x 0 : ℕ) := hx0; show r.val = 8; omega)
      obtain rfl := local_ix x d e hx2 hx3
      exact (piece_8 (decayRows m c t) (weightRows m c t) (keyRows m c t) (iblk m c 9 t) _ d e).trans (grown_point m c t 8 _ d e (old_C m c t 8 8 rfl _ d e))
    case piece8 =>
      obtain rfl : r = 7 := Fin.ext (by have e0 : r.val = 7 + (x 0 : ℕ) := hx0; show r.val = 7; omega)
      obtain rfl := local_ix x d e hx2 hx3
      exact (piece_7 (decayRows m c t) (weightRows m c t) (keyRows m c t) (iblk m c 9 t) _ d e).trans (grown_point m c t 7 _ d e (old_C m c t 7 7 rfl _ d e))
    case piece9 =>
      obtain rfl : r = 6 := Fin.ext (by have e0 : r.val = 6 + (x 0 : ℕ) := hx0; show r.val = 6; omega)
      obtain rfl := local_ix x d e hx2 hx3
      exact (piece_6 (decayRows m c t) (weightRows m c t) (keyRows m c t) (iblk m c 9 t) _ d e).trans (grown_point m c t 6 _ d e (old_C m c t 6 6 rfl _ d e))
    case piece10 =>
      obtain rfl : r = 5 := Fin.ext (by have e0 : r.val = 5 + (x 0 : ℕ) := hx0; show r.val = 5; omega)
      obtain rfl := local_ix x d e hx2 hx3
      exact (piece_5 (decayRows m c t) (weightRows m c t) (keyRows m c t) (iblk m c 9 t) _ d e).trans (grown_point m c t 5 _ d e (old_C m c t 5 5 rfl _ d e))
    case piece11 =>
      obtain rfl : r = 4 := Fin.ext (by have e0 : r.val = 4 + (x 0 : ℕ) := hx0; show r.val = 4; omega)
      obtain rfl := local_ix x d e hx2 hx3
      exact (piece_4 (decayRows m c t) (weightRows m c t) (keyRows m c t) (iblk m c 9 t) _ d e).trans (grown_point m c t 4 _ d e (old_C m c t 4 4 rfl _ d e))
    case piece12 =>
      obtain rfl : r = 3 := Fin.ext (by have e0 : r.val = 3 + (x 0 : ℕ) := hx0; show r.val = 3; omega)
      obtain rfl := local_ix x d e hx2 hx3
      exact (piece_3 (decayRows m c t) (weightRows m c t) (keyRows m c t) (iblk m c 9 t) _ d e).trans (grown_point m c t 3 _ d e (old_C m c t 3 3 rfl _ d e))
    case piece13 =>
      obtain rfl : r = 2 := Fin.ext (by have e0 : r.val = 2 + (x 0 : ℕ) := hx0; show r.val = 2; omega)
      obtain rfl := local_ix x d e hx2 hx3
      exact (piece_2 (decayRows m c t) (weightRows m c t) (keyRows m c t) (iblk m c 9 t) _ d e).trans (grown_point m c t 2 _ d e (old_C m c t 2 2 rfl _ d e))
    case piece14 =>
      obtain rfl : r = 1 := Fin.ext (by have e0 : r.val = 1 + (x 0 : ℕ) := hx0; show r.val = 1; omega)
      obtain rfl := local_ix x d e hx2 hx3
      exact (piece_1 (decayRows m c t) (weightRows m c t) (keyRows m c t) (iblk m c 9 t) _ d e).trans (grown_point m c t 1 _ d e (old_C m c t 1 1 rfl _ d e))
    case piece15 =>
      obtain rfl : r = 0 := Fin.ext (by have e0 : r.val = 0 + (x 0 : ℕ) := (hx0.trans (Nat.zero_add _).symm); show r.val = 0; omega)
      obtain rfl := local_ix x d e hx2 hx3
      exact (piece_0 (decayRows m c t) (weightRows m c t) (keyRows m c t) (iblk m c 9 t) _ d e).trans (grown_point m c t 0 _ d e (old_C m c t 0 0 rfl _ d e))

end Cert.Kernel3Ideal.Whole

end
-- ==== Proof.StepPre.lean ====
module

public import proofs.«01_k».proof.Pre_forget_gate_above_minus_infinity
public import proofs.«01_k».proof.Proof.StepEnd

/-! # What the precondition says

The precondition's entry of a sample and head compares the forget gate's argument with minus infinity. -/

@[expose] public section

set_option maxRecDepth 16384

noncomputable section

namespace Cert.Reference3Ideal.Whole

open Idealize.ShloMosaic Idealize.ShloMosaic.TcCoe
open Cert.Reference3Ideal

instance preFacts : Cert.Pre_forget_gate_above_minus_infinity.Facts where
  slices_S128x12544_S128x4_0_12292 := by decide
  bcast_S1x4_S128x4_0_1 := by decide
  bcast_S_S128x4 := by decide

/-- The precondition, read at the entries the proof uses: no forget gate's pre-activation is minus infinity. -/
theorem fg_ne (x0 : FVec Ideal S8192x12544 .f32) (x1 : FVec Ideal S128x12544 .f32) (x2 : FVec Ideal S1x128x3x2048 .f32) (x3 : FVec Ideal S1x128x4x256x256 .f32)
    (x4 : FVec Ideal S1x128x4x256 .f32) (x5 : FVec Ideal S1x128x4 .f32) (x6 : FVec Ideal S1x4x2048 .f32) (x7 : FVec Ideal S1x2048 .f32)
    (x8 x9 : FVec Ideal S1x4 .f32) (x10 : FVec Ideal S1x1024 .f32)
    (hp : Cert.Pre_forget_gate_above_minus_infinity.fn (F := Ideal) x0 x1 x2 x3 x4 x5 x6 x7 x8 x9 x10 = fun _ => 1#1) (n : Fin 128) (h : Fin 4) :
    fg x1 x9 n h ≠ ⊥ := by
  have e := congrFun hp (ix2 n h)
  intro hb
  unfold fg at hb
  have hc : colF h = ⟨12292 + h.val, by omega⟩ := rfl
  rw [hc] at hb
  revert e
  pointwise [Cert.Pre_forget_gate_above_minus_infinity.fn]
  rw [hb]
  simp

end Cert.Reference3Ideal.Whole

end
-- ==== Proof.StepHost.lean ====
module

public import proofs.«01_k».proof.Proof.StepFrameIdeal
public import proofs.«01_k».proof.Proof.StepLeft
public import proofs.«01_k».proof.Proof.StepPre
public import proofs.«01_k».proof.Proof.Gen.Reference3Ideal.Run

/-! # The samples' new state

The call's three arrays, block by block; the results the host makes of them; and that these are the reference's. -/

@[expose] public section

set_option maxRecDepth 16384

noncomputable section

namespace Cert.Kernel3Ideal.Whole

open Idealize.ShloMosaic Idealize.ShloMosaic.TcCoe Idealize.SL.Sem
open Idealize.ShloMosaic.Pipeline (Dat)
open Cert.Kernel3Ideal Cert.Kernel3Ideal.Gen
open Cert.Reference3Ideal.Whole (fg ig keyOf colI colF colV colK chan fg_ne C_R n_R m_R)
open Cert.Reference3Ideal.Read (val_main_v101 val_main_v102 val_main_v103)

variable (m : (ℓ : Loc nD τ sig) → Buf (Elt Ideal) ℓ) (ρ : Dev nD → PrngReg) (c : Dev nD)

/-- A sample's new exponent. -/
def newM (n : Fin 128) (h : Fin 4) : EReal :=
  top (fg (a1 m c) (a9 m c) n h) (ig (a1 m c) (a8 m c) n h) (a5 m c (ix3 0 n h))

/-- The head of one of the 512 lanes. -/
def laneHead (l : Fin 512) : Fin 4 := ⟨l.val / 128, by omega⟩

/-- The array of matrices after every point: each row's each head's new matrix. -/
theorem matrices : (dats m 0 c).arrAt 33 cfg0.N = fun j : S128x4x256x256.Idx => newC m c (j 0) (j 1) (j 2) (j 3) := by
  refine (dats m 0 c).arrAt_eq_of_covers 33 _ (by decide +kernel) fun t _ y => ?_
  have hi := (idxState t).2.2.2.1
  blk_simp
  rw [after0_33]
  have e0 : ((win0_33.rect t).emb y 0 : ℕ) = t.val / 4 * 16 + (y 0 : ℕ) := by
    refine (win0_33.rect_emb_val t y 0).trans ?_
    show win0_33.index t 0 * 16 + (y 0 : ℕ) = _
    rw [hi]; rfl
  have e1 : ((win0_33.rect t).emb y 1 : ℕ) = t.val % 4 := by
    refine (win0_33.rect_emb_val t y 1).trans ?_
    show win0_33.index t 1 * 1 + (y 1 : ℕ) = _
    have h1 : (y 1 : ℕ) < 1 := (y 1).isLt
    rw [hi]; show t.val % 4 * 1 + (y 1 : ℕ) = _; omega
  have e2 : ((win0_33.rect t).emb y 2 : ℕ) = (y 2 : ℕ) := by
    refine (win0_33.rect_emb_val t y 2).trans ?_
    show win0_33.index t 2 * 256 + (y 2 : ℕ) = _
    rw [hi]; show 0 * 256 + (y 2 : ℕ) = _; omega
  have e3 : ((win0_33.rect t).emb y 3 : ℕ) = (y 3 : ℕ) := by
    refine (win0_33.rect_emb_val t y 3).trans ?_
    show win0_33.index t 3 * 256 + (y 3 : ℕ) = _
    rw [hi]; show 0 * 256 + (y 3 : ℕ) = _; omega
  refine (left_C m c t y).trans ?_
  exact congr (congr (congr (congrArg (newC m c) (Fin.ext e0.symm)) (Fin.ext e1.symm)) (Fin.ext e2.symm)) (Fin.ext e3.symm)

/-- The array of sums after every point. -/
theorem sums : (dats m 0 c).arrAt 34 cfg0.N = fun j : S128x4x1x256.Idx => newN m c (j 0) (j 1) (j 3) := by
  refine (dats m 0 c).arrAt_eq_of_covers 34 _ (by decide +kernel) fun t _ y => ?_
  have hi := (idxState t).2.2.2.2.1
  blk_simp
  rw [after0_34]
  have e0 : ((win0_34.rect t).emb y 0 : ℕ) = t.val / 4 * 16 + (y 0 : ℕ) := by
    refine (win0_34.rect_emb_val t y 0).trans ?_
    show win0_34.index t 0 * 16 + (y 0 : ℕ) = _
    rw [hi]; rfl
  have e1 : ((win0_34.rect t).emb y 1 : ℕ) = t.val % 4 := by
    refine (win0_34.rect_emb_val t y 1).trans ?_
    show win0_34.index t 1 * 1 + (y 1 : ℕ) = _
    have h1 : (y 1 : ℕ) < 1 := (y 1).isLt
    rw [hi]; show t.val % 4 * 1 + (y 1 : ℕ) = _; omega
  have e3 : ((win0_34.rect t).emb y 3 : ℕ) = (y 3 : ℕ) := by
    refine (win0_34.rect_emb_val t y 3).trans ?_
    show win0_34.index t 3 * 256 + (y 3 : ℕ) = _
    rw [hi]; show 0 * 256 + (y 3 : ℕ) = _; omega
  refine (left_n m c t y).trans ?_
  exact congr (congr (congrArg (newN m c) (Fin.ext e0.symm)) (Fin.ext e1.symm)) (Fin.ext e3.symm)

/-- The array of exponents after every point: each head's exponent on all its lanes. -/
theorem exponents : (dats m 0 c).arrAt 35 cfg0.N = fun j : S128x512.Idx => newM m c (j 0) (laneHead (j 1)) := by
  refine (dats m 0 c).arrAt_eq_of_covers 35 _ (by decide +kernel) fun t _ y => ?_
  have hi := (idxState t).2.2.2.2.2
  blk_simp
  rw [after0_35]
  have e0 : ((win0_35.rect t).emb y 0 : ℕ) = t.val / 4 * 16 + (y 0 : ℕ) := by
    refine (win0_35.rect_emb_val t y 0).trans ?_
    show win0_35.index t 0 * 16 + (y 0 : ℕ) = _
    rw [hi]; rfl
  have e1 : ((win0_35.rect t).emb y 1 : ℕ) / 128 = t.val % 4 := by
    have h1 : (y 1 : ℕ) < 128 := (y 1).isLt
    have e : ((win0_35.rect t).emb y 1 : ℕ) = t.val % 4 * 128 + (y 1 : ℕ) := by
      refine (win0_35.rect_emb_val t y 1).trans ?_
      show win0_35.index t 1 * 128 + (y 1 : ℕ) = _
      rw [hi]; rfl
    rw [e]; omega
  refine (left_m m c t y).trans ?_
  show newM m c (sampleOf t (y 0)) (headOf t) = _
  exact congr (congrArg (newM m c) (Fin.ext e0.symm)) (Fin.ext e1.symm)

/-! ## The results -/

/-- The argument arrays that the state does not depend on. -/
abbrev a0 : FVec Ideal S8192x12544 .f32 := m ((c : Thread nD τ).loc main_arg0)
abbrev a10 : FVec Ideal S1x1024 .f32 := m ((c : Thread nD τ).loc main_arg10)

variable (hp : ∀ c : Dev nD, Cert.Pre_forget_gate_above_minus_infinity.fn (F := Ideal) (a0 m c) (a1 m c) (a2 m c) (a3 m c) (a4 m c) (a5 m c) (a6 m c)
  (a7 m c) (a8 m c) (a9 m c) (a10 m c) = fun _ => 1#1)

include hp

/-- The matrices the program returns. -/
theorem final_C : Pipeline.afterTail₀ cfgs (dats m) 0 (V0 m) [hostOps1] c main_v15
    = val_main_v101 (F := Ideal) (a1 m c) (a2 m c) (a3 m c) (a5 m c) (a6 m c) (a7 m c) (a8 m c) (a9 m c) := by
  rw [tail_C m c (dats m) (A_eq m c), matrices]
  funext i
  obtain ⟨n, h, d, e, rfl⟩ : ∃ n h d e, i = ix5 0 n h d e := ⟨i 1, i 2, i 3, i 4, funext fun b => by
    match b with
    | ⟨0, _⟩ => exact Subsingleton.elim (α := Fin 1) _ _
    | ⟨1, _⟩ => rfl
    | ⟨2, _⟩ => rfl
    | ⟨3, _⟩ => rfl
    | ⟨4, _⟩ => rfl⟩
  refine (cast_C _ n h d e).trans ?_
  rw [C_R _ _ _ _ _ _ _ _ n h (fg_ne _ _ _ _ _ _ _ _ _ _ _ (hp c) n h)]
  show newC m c n h d e = _
  unfold newC
  rw [mul_comm (keyOf _ _ _ _ n h d)]

/-- The sums the program returns. -/
theorem final_n : Pipeline.afterTail₀ cfgs (dats m) 0 (V0 m) [hostOps1] c main_v16
    = val_main_v102 (F := Ideal) (a1 m c) (a2 m c) (a4 m c) (a5 m c) (a6 m c) (a7 m c) (a8 m c) (a9 m c) := by
  rw [tail_n m c (dats m) (A_eq m c), sums]
  funext i
  obtain ⟨n, h, d, rfl⟩ : ∃ n h d, i = ix4 0 n h d := ⟨i 1, i 2, i 3, funext fun b => by
    match b with
    | ⟨0, _⟩ => exact Subsingleton.elim (α := Fin 1) _ _
    | ⟨1, _⟩ => rfl
    | ⟨2, _⟩ => rfl
    | ⟨3, _⟩ => rfl⟩
  refine (cast_n _ n h d).trans ?_
  rw [n_R _ _ _ _ _ _ _ _ n h (fg_ne _ _ _ _ _ _ _ _ _ _ _ (hp c) n h)]
  show newN m c n h d = _
  unfold newN
  rw [mul_comm (keyOf _ _ _ _ n h d)]

/-- The exponents the program returns: one lane of each head's. -/
theorem final_m : Pipeline.afterTail₀ cfgs (dats m) 0 (V0 m) [hostOps1] c main_v20
    = val_main_v103 (F := Ideal) (a1 m c) (a5 m c) (a8 m c) (a9 m c) := by
  rw [tail_m m c (dats m) (A_eq m c), exponents]
  funext i
  obtain ⟨n, h, rfl⟩ : ∃ n h, i = ix3 0 n h := ⟨i 1, i 2, funext fun b => by
    match b with
    | ⟨0, _⟩ => exact Subsingleton.elim (α := Fin 1) _ _
    | ⟨1, _⟩ => rfl
    | ⟨2, _⟩ => rfl⟩
  refine (cast_m _ n h).trans ?_
  rw [m_R _ _ _ _ n h (fg_ne _ _ _ _ _ _ _ _ _ _ _ (hp c) n h)]
  show newM m c n (laneHead (firstLane h)) = newM m c n h
  exact congrArg (newM m c n) (Fin.ext (by show h.val * 128 / 128 = h.val; omega))

/-- Every run ends with the three results at the reference's values. -/
theorem run_results : θ_run defs (onTc (τ := τ) (main (F := Ideal))) ⟨m, fun _ => 0, ρ⟩ (fun r => ∀ c : Dev nD,
    r.2.mem ((c.tc : Thread nD τ).loc main_v15)
      = val_main_v101 (F := Ideal) (a1 m c) (a2 m c) (a3 m c) (a5 m c) (a6 m c) (a7 m c) (a8 m c) (a9 m c)
    ∧ r.2.mem ((c.tc : Thread nD τ).loc main_v16)
      = val_main_v102 (F := Ideal) (a1 m c) (a2 m c) (a4 m c) (a5 m c) (a6 m c) (a7 m c) (a8 m c) (a9 m c)
    ∧ r.2.mem ((c.tc : Thread nD τ).loc main_v20)
      = val_main_v103 (F := Ideal) (a1 m c) (a5 m c) (a8 m c) (a9 m c)) :=
  (θ_run _ _ _).mono (fun r h c => ⟨((h c).2 main_v15 (Pipeline.mem_restRefs_of main_v15 (by decide) (by decide))).trans (final_C m c hp), ((h c).2 main_v16 (Pipeline.mem_restRefs_of main_v16 (by decide) (by decide))).trans (final_n m c hp),
    ((h c).2 main_v20 (Pipeline.mem_restRefs_of main_v20 (by decide) (by decide))).trans (final_m m c hp)⟩) (run_main m ρ)

end Cert.Kernel3Ideal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Host
public import proofs.«01_k».proof.Proof.OutRun
public import proofs.«01_k».proof.Proof.OutHost
public import proofs.«01_k».proof.Proof.StepFrame
public import proofs.«01_k».proof.Proof.StepHost
public import Idealize.ShloMosaic.Adequacy
public import Idealize.ShloMosaic.Init

@[expose] public section

noncomputable section

namespace Cert.Proof

open Idealize.ShloMosaic Idealize.SL.Sem Cert.Kernel

/-- The program and its reference leave the same four results, each a formula in the arguments. -/
theorem value : algebraic_KernelIdeal_ReferenceIdeal := fun m ρ m' ρ' _ hag =>
  ⟨fun c : Dev Cert.KernelIdeal.nD => Cert.ReferenceIdeal.Whole.resP (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
   fun c : Dev Cert.KernelIdeal.nD => Cert.ReferenceIdeal.Whole.resS (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
   fun c : Dev Cert.KernelIdeal.nD => Cert.ReferenceIdeal.Whole.resPc (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
   fun c : Dev Cert.KernelIdeal.nD => Cert.ReferenceIdeal.Whole.resSc (m ((c.tc : Thread Cert.KernelIdeal.nD Cert.KernelIdeal.τ).loc Cert.KernelIdeal.main_arg1)) (m ((c.tc : Thread Cert.KernelIdeal.nD Cert.KernelIdeal.τ).loc Cert.KernelIdeal.main_arg2))
     (m ((c.tc : Thread Cert.KernelIdeal.nD Cert.KernelIdeal.τ).loc Cert.KernelIdeal.main_arg3)),
   (θ_run _ _ _).mono (fun r h c => by
     obtain ⟨h, -⟩ := h
     refine ⟨(h c _ (Cert.KernelIdeal.Gen.mem_uc Cert.KernelIdeal.main_v5 (by decide))).trans (Cert.KernelIdeal.Whole.W5_v5 m ρ c),
       (h c _ (Cert.KernelIdeal.Gen.mem_uc Cert.KernelIdeal.main_v3_1 (by decide))).trans (Cert.KernelIdeal.Whole.W5_v3_1 m ρ c),
       (h c _ (Cert.KernelIdeal.Gen.mem_uc Cert.KernelIdeal.main_v13 (by decide))).trans (Cert.KernelIdeal.Whole.W5_v13 m ρ c),
       (h c _ (Cert.KernelIdeal.Gen.mem_uc Cert.KernelIdeal.main_v14 (by decide))).trans (Cert.KernelIdeal.Whole.W5_v14 m ρ c),
       (h c _ (Cert.KernelIdeal.Gen.mem_uc Cert.KernelIdeal.main_arg0 (by decide))).trans (Cert.KernelIdeal.Gen.W5_main_arg0 m ρ c),
       (h c _ (Cert.KernelIdeal.Gen.mem_uc Cert.KernelIdeal.main_arg1 (by decide))).trans (Cert.KernelIdeal.Gen.W5_main_arg1 m ρ c),
       (h c _ (Cert.KernelIdeal.Gen.mem_uc Cert.KernelIdeal.main_arg2 (by decide))).trans (Cert.KernelIdeal.Gen.W5_main_arg2 m ρ c),
       (h c _ (Cert.KernelIdeal.Gen.mem_uc Cert.KernelIdeal.main_arg3 (by decide))).trans (Cert.KernelIdeal.Gen.W5_main_arg3 m ρ c)⟩)
     (Cert.KernelIdeal.Whole.run_all m ρ),
   (θ_run _ _ _).mono (fun r h c => by
     obtain ⟨h0, h1, h2, h3, ha⟩ := h c
     obtain ⟨e0, e1, e2, e3⟩ := hag c
     refine ⟨h0.trans ?_, h1.trans ?_, h2.trans ?_, h3.trans ?_, ha⟩
     · rw [Cert.ReferenceIdeal.Read.val_main_v30_eq, Cert.ReferenceIdeal.Whole.packed_P, e0, e3]
     · rw [Cert.ReferenceIdeal.Read.val_main_v64_eq, Cert.ReferenceIdeal.Whole.packed_S, e1, e3]
     · rw [e0, e3]; exact (Cert.ReferenceIdeal.Read.val_main_v33_eq _ _).trans (Cert.ReferenceIdeal.Whole.conv_P _ _)
     · rw [e1, e2, e3]; exact (Cert.ReferenceIdeal.Read.val_main_v67_eq _ _ _).trans (Cert.ReferenceIdeal.Whole.conv_S _ _ _))
     (Cert.ReferenceIdeal.Value.run m' ρ')⟩

/-- The reference leaves its arguments alone, and it has no counter at all. -/
theorem frame_reference : quiescent_ReferenceIdeal := fun m ρ _ =>
  (θ_run _ _ _).mono (fun r h => ⟨fun c => (h c).2.2.2.2, sem_eq_zero_of_no_sems (by decide) r.2⟩) (Cert.ReferenceIdeal.Value.run m ρ)

/-- The output program and its reference leave the same two results. -/
theorem value2 : algebraic_Kernel2Ideal_Reference2Ideal := fun m ρ m' ρ' _ hag =>
  ⟨fun c : Dev Cert.Kernel2Ideal.nD => Cert.Kernel2Ideal.Whole.finalP (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
     (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
     (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)),
   fun c : Dev Cert.Kernel2Ideal.nD => Cert.Kernel2Ideal.Whole.finalS (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))
     (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))
     (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)),
   (θ_run _ _ _).mono (fun r h c => ⟨(h.1 c).1, (h.1 c).2, h.2.1 c⟩)
     (θ_run_and (Cert.Kernel2Ideal.Whole.run_results m ρ) (Cert.Kernel2Ideal.Whole.frame m ρ)),
   (θ_run _ _ _).mono (fun r h c => by
     obtain ⟨h0, h1, ha⟩ := h c
     obtain ⟨e0, e1, e2, e3, e4, e5, e6, e7, e8, e9, e10, e11, e12⟩ := hag c
     refine ⟨h0.trans ?_, h1.trans ?_, ha⟩
     · rw [Cert.Reference2Ideal.Read.val_main_v106_eq, Cert.Reference2Ideal.Whole.result_P, e0, e1, e2, e3, e8, e9, e10, e11, e12]
     · rw [Cert.Reference2Ideal.Read.val_main_v107_eq, Cert.Reference2Ideal.Whole.result_S, e4, e5, e6, e7, e8, e9, e10, e11, e12])
     (Cert.Reference2Ideal.Value.run m' ρ')⟩

/-- The output program's reference leaves its arguments alone, and it has no counter at all. -/
theorem frame_reference2 : quiescent_Reference2Ideal := fun m ρ _ =>
  (θ_run _ _ _).mono (fun r h => ⟨fun c => (h c).2.2, sem_eq_zero_of_no_sems (by decide) r.2⟩) (Cert.Reference2Ideal.Value.run m ρ)

/-- The samples' state program and its reference leave the same three results, where the forget gate's argument is above
    minus infinity. -/
theorem value3 : algebraic_Kernel3Ideal_Reference3Ideal_pre_forget_gate_above_minus_infinity := fun m ρ m' ρ' hp hag =>
  ⟨fun c : Dev Cert.Kernel3Ideal.nD => Cert.Reference3Ideal.Read.val_main_v101 (F := Ideal) (m ((c.tc : Thread Cert.Kernel3Ideal.nD Cert.Kernel3Ideal.τ).loc Cert.Kernel3Ideal.main_arg1))
     (m ((c.tc : Thread Cert.Kernel3Ideal.nD Cert.Kernel3Ideal.τ).loc Cert.Kernel3Ideal.main_arg2))
     (m ((c.tc : Thread Cert.Kernel3Ideal.nD Cert.Kernel3Ideal.τ).loc Cert.Kernel3Ideal.main_arg3))
     (m ((c.tc : Thread Cert.Kernel3Ideal.nD Cert.Kernel3Ideal.τ).loc Cert.Kernel3Ideal.main_arg5))
     (m ((c.tc : Thread Cert.Kernel3Ideal.nD Cert.Kernel3Ideal.τ).loc Cert.Kernel3Ideal.main_arg6))
     (m ((c.tc : Thread Cert.Kernel3Ideal.nD Cert.Kernel3Ideal.τ).loc Cert.Kernel3Ideal.main_arg7))
     (m ((c.tc : Thread Cert.Kernel3Ideal.nD Cert.Kernel3Ideal.τ).loc Cert.Kernel3Ideal.main_arg8))
     (m ((c.tc : Thread Cert.Kernel3Ideal.nD Cert.Kernel3Ideal.τ).loc Cert.Kernel3Ideal.main_arg9)),
   fun c : Dev Cert.Kernel3Ideal.nD => Cert.Reference3Ideal.Read.val_main_v102 (F := Ideal) (m ((c.tc : Thread Cert.Kernel3Ideal.nD Cert.Kernel3Ideal.τ).loc Cert.Kernel3Ideal.main_arg1))
     (m ((c.tc : Thread Cert.Kernel3Ideal.nD Cert.Kernel3Ideal.τ).loc Cert.Kernel3Ideal.main_arg2))
     (m ((c.tc : Thread Cert.Kernel3Ideal.nD Cert.Kernel3Ideal.τ).loc Cert.Kernel3Ideal.main_arg4))
     (m ((c.tc : Thread Cert.Kernel3Ideal.nD Cert.Kernel3Ideal.τ).loc Cert.Kernel3Ideal.main_arg5))
     (m ((c.tc : Thread Cert.Kernel3Ideal.nD Cert.Kernel3Ideal.τ).loc Cert.Kernel3Ideal.main_arg6))
     (m ((c.tc : Thread Cert.Kernel3Ideal.nD Cert.Kernel3Ideal.τ).loc Cert.Kernel3Ideal.main_arg7))
     (m ((c.tc : Thread Cert.Kernel3Ideal.nD Cert.Kernel3Ideal.τ).loc Cert.Kernel3Ideal.main_arg8))
     (m ((c.tc : Thread Cert.Kernel3Ideal.nD Cert.Kernel3Ideal.τ).loc Cert.Kernel3Ideal.main_arg9)),
   fun c : Dev Cert.Kernel3Ideal.nD => Cert.Reference3Ideal.Read.val_main_v103 (F := Ideal) (m ((c.tc : Thread Cert.Kernel3Ideal.nD Cert.Kernel3Ideal.τ).loc Cert.Kernel3Ideal.main_arg1))
     (m ((c.tc : Thread Cert.Kernel3Ideal.nD Cert.Kernel3Ideal.τ).loc Cert.Kernel3Ideal.main_arg5))
     (m ((c.tc : Thread Cert.Kernel3Ideal.nD Cert.Kernel3Ideal.τ).loc Cert.Kernel3Ideal.main_arg8))
     (m ((c.tc : Thread Cert.Kernel3Ideal.nD Cert.Kernel3Ideal.τ).loc Cert.Kernel3Ideal.main_arg9)),
   (θ_run _ _ _).mono (fun r h c => ⟨(h.1 c).1, (h.1 c).2.1, (h.1 c).2.2, h.2.1 c⟩)
     (θ_run_and (Cert.Kernel3Ideal.Whole.run_results m ρ hp) (Cert.Kernel3Ideal.Gen.frame m ρ)),
   (θ_run _ _ _).mono (fun r h c => by
     obtain ⟨h0, h1, h2, ha⟩ := h c
     obtain ⟨e0, e1, e2, e3, e4, e5, e6, e7, e8, e9, e10⟩ := hag c
     refine ⟨h0.trans ?_, h1.trans ?_, h2.trans ?_, ha⟩
     · rw [Cert.Reference3Ideal.Read.val_main_v101_eq, e1, e2, e3, e5, e6, e7, e8, e9]
     · rw [Cert.Reference3Ideal.Read.val_main_v102_eq, e1, e2, e4, e5, e6, e7, e8, e9]
     · rw [Cert.Reference3Ideal.Read.val_main_v103_eq, e1, e5, e8, e9])
     (Cert.Reference3Ideal.Value.run m' ρ')⟩

/-- That reference leaves its arguments alone, and it has no counter at all. -/
theorem frame_reference3 : quiescent_Reference3Ideal := fun m ρ _ =>
  (θ_run _ _ _).mono (fun r h => ⟨fun c => (h c).2.2.2, sem_eq_zero_of_no_sems (by decide) r.2⟩) (Cert.Reference3Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Reference3Ideal.Whole.preFacts,
  fun m ρ _ => Cert.Kernel.Gen.frame m ρ, fun m ρ _ => Cert.KernelIdeal.Gen.frame m ρ, frame_reference,
  fun m ρ _ => Cert.Kernel2.Whole.frame m ρ, fun m ρ _ => Cert.Kernel2Ideal.Whole.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  trivial, value, IdealRules.named_const.statement _ _ _ _ _ rfl, value2,
  ⟨IdealRules.named_const.statement _ _ _ _ _ rfl, IdealRules.named_const.statement _ _ _ _ _ rfl, IdealRules.named_const.statement _ _ _ _ _ rfl⟩,
  value3⟩

end Cert.Proof

end
